-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2 = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_sb [hPre_finite_sb : Cert.Pre_finite_sb.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).1 = (fun _ => 1#1)
    ∧ (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.1 = (fun _ => 1#1)
    ∧ (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_finite_sb [hSbReferenceIdeal : Cert.SbReferenceIdeal.Facts] [hPre_finite_sb : Cert.Pre_finite_sb.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_sb m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Sb_SbIdeal : Prop :=
  IdealRules.named_const.Statement Cert.SbIdeal.κ "log2e" .f32 0x3FB8AA3B#32 (((Real.log 2)⁻¹ : ℝ) : EReal)
  ∧ IdealRules.named_const.Statement Cert.SbIdeal.κ "zero_mass" .f32 0x43200000#32 ⊤

def algebraic_SbIdeal_SbReferenceIdeal_pre_finite_sb [hSbIdeal : Cert.SbIdeal.Facts] [hSbReferenceIdeal : Cert.SbReferenceIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal_finite_sb m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)
      ∧ m' ((c.tc : Thread Cert.SbReferenceIdeal.nD Cert.SbReferenceIdeal.τ).loc Cert.SbReferenceIdeal.main_arg1) = m ((c.tc : Thread Cert.SbIdeal.nD Cert.SbIdeal.τ).loc Cert.SbIdeal.main_arg1)
      ∧ m' ((c.tc : Thread Cert.SbReferenceIdeal.nD Cert.SbReferenceIdeal.τ).loc Cert.SbReferenceIdeal.main_arg2) = m ((c.tc : Thread Cert.SbIdeal.nD Cert.SbIdeal.τ).loc Cert.SbIdeal.main_arg2)
      ∧ m' ((c.tc : Thread Cert.SbReferenceIdeal.nD Cert.SbReferenceIdeal.τ).loc Cert.SbReferenceIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v19)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v19) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v34) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def Claim : Prop :=
  ∃ (hKernel : Cert.Kernel.Facts) (hKernelIdeal : Cert.KernelIdeal.Facts) (hReferenceIdeal : Cert.ReferenceIdeal.Facts) (hSb : Cert.Sb.Facts) (hSbIdeal : Cert.SbIdeal.Facts) (hSbReferenceIdeal : Cert.SbReferenceIdeal.Facts) (hPre_finite : Cert.Pre_finite.Facts) (hPre_finite_sb : Cert.Pre_finite_sb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbReferenceIdeal (hSbReferenceIdeal := hSbReferenceIdeal)
    ∧ quiescent_SbReferenceIdeal_pre_finite_sb (hSbReferenceIdeal := hSbReferenceIdeal) (hPre_finite_sb := hPre_finite_sb)
    ∧ preserves_Kernel_KernelIdeal
    ∧ algebraic_KernelIdeal_ReferenceIdeal_pre_finite (hKernelIdeal := hKernelIdeal) (hReferenceIdeal := hReferenceIdeal) (hPre_finite := hPre_finite)
    ∧ preserves_Sb_SbIdeal
    ∧ algebraic_SbIdeal_SbReferenceIdeal_pre_finite_sb (hSbIdeal := hSbIdeal) (hSbReferenceIdeal := hSbReferenceIdeal) (hPre_finite_sb := hPre_finite_sb)
-- ==== Pre_finite.lean ====
abbrev S2x16384x1024 : Shape := ⟨3, ![2, 16384, 1024]⟩
abbrev S4x128 : Shape := ⟨2, ![4, 128]⟩
abbrev S256 : Shape := ⟨1, ![256]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S2x16384x1024 .f32) (main_arg1 : FVec F S2x16384x1024 .f32) (main_arg2 : FVec F S2x16384x1024 .f32) (main_arg3 : FVec F S2x16384x1024 .f32) (main_arg4 : FVec F S4x128 .f32) (main_arg5 : FVec F S256 .f32) : IVec S_ 1 × IVec S_ 1 × IVec S_ 1 × IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : FVec F S2x16384x1024 .f32 := Host.absf main_arg2
  let main_cst_2 : FVec F S_ .f32 := constant S_ .f32 0x7F800000#32
  let main_v9 : FVec F S2x16384x1024 .f32 := broadcastInDim S2x16384x1024 ![] bcast_S_S2x16384x1024 main_cst_2
  let main_v10 : IVec S2x16384x1024 1 := cmpf .olt main_v8 main_v9
  let main_c_3 : IVec S_ 1 := constantI S_ 1 1#1
  let main_v11 : IVec S_ 1 := (fun x v => Host.reduce IntOp.andi x v reducesTo_S2x16384x1024_S_d0_1_2 h_S_) main_v10 main_c_3
  let main_v12 : FVec F S4x128 .f32 := Host.absf main_arg4
  let main_cst_4 : FVec F S_ .f32 := constant S_ .f32 0x7F800000#32
  let main_v13 : FVec F S4x128 .f32 := broadcastInDim S4x128 ![] bcast_S_S4x128 main_cst_4
  let main_v14 : IVec S4x128 1 := cmpf .olt main_v12 main_v13
  let main_c_5 : IVec S_ 1 := constantI S_ 1 1#1
  let main_v15 : IVec S_ 1 := (fun x v => Host.reduce IntOp.andi x v reducesTo_S4x128_S_d0_1 h_S_) main_v14 main_c_5
  (main_v3, main_v7, main_v11, main_v15)
-- ==== Pre_finite_sb.lean ====
abbrev S2x16384x1024 : Shape := ⟨3, ![2, 16384, 1024]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel

variable [Facts]

def fn {F : FTy → Type} [FloatOps F] (main_arg0 : FVec F S2x16384x1024 .f32) (main_arg1 : FVec F S2x16384x1024 .f32) (main_arg2 : FVec F S2x16384x1024 .f32) (main_arg3 : FVec F S2x16384x1024 .f32) : IVec S_ 1 × IVec S_ 1 × IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : FVec F S2x16384x1024 .f32 := Host.absf main_arg2
  let main_cst_2 : FVec F S_ .f32 := constant S_ .f32 0x7F800000#32
  let main_v9 : FVec F S2x16384x1024 .f32 := broadcastInDim S2x16384x1024 ![] bcast_S_S2x16384x1024 main_cst_2
  let main_v10 : IVec S2x16384x1024 1 := cmpf .olt main_v8 main_v9
  let main_c_3 : IVec S_ 1 := constantI S_ 1 1#1
  let main_v11 : IVec S_ 1 := (fun x v => Host.reduce IntOp.andi x v reducesTo_S2x16384x1024_S_d0_1_2 h_S_) main_v10 main_c_3
  (main_v3, main_v7, main_v11)
-- ==== Kernel.lean ====
abbrev S2x16384x1024 : Shape := ⟨3, ![2, 16384, 1024]⟩
abbrev S4x128 : Shape := ⟨2, ![4, 128]⟩
abbrev S256 : Shape := ⟨1, ![256]⟩
abbrev S_ : Shape := ⟨0, ![]⟩
abbrev S64x512x1024 : Shape := ⟨3, ![64, 512, 1024]⟩
abbrev S64x1024x512 : Shape := ⟨3, ![64, 1024, 512]⟩
abbrev S1x256 : Shape := ⟨2, ![1, 256]⟩
abbrev S1x512x512 : Shape := ⟨3, ![1, 512, 512]⟩
abbrev S1x16384x512 : Shape := ⟨3, ![1, 16384, 512]⟩
abbrev S32x512x512 : Shape := ⟨3, ![32, 512, 512]⟩
abbrev S4x512x512 : Shape := ⟨3, ![4, 512, 512]⟩
abbrev S4x1x512 : Shape := ⟨3, ![4, 1, 512]⟩
abbrev S4x256x512 : Shape := ⟨3, ![4, 256, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S1x256x512 : Shape := ⟨3, ![1, 256, 512]⟩
abbrev S256x512 : Shape := ⟨2, ![256, 512]⟩
abbrev S1x128 : Shape := ⟨2, ![1, 128]⟩
abbrev S1 : Shape := ⟨1, ![1]⟩
abbrev S1x1 : Shape := ⟨2, ![1, 1]⟩
abbrev S512x256 : Shape := ⟨2, ![512, 256]⟩
abbrev S1x512x256 : Shape := ⟨3, ![1, 512, 256]⟩
abbrev S512x1 : Shape := ⟨2, ![512, 1]⟩

abbrev nBuf : Space → Nat
  | .hbm => 32
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S4x128, .f32⟩
  | .hbm, ⟨5, _⟩ => ⟨S256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16384x1024, .f32⟩
  | .hbm, ⟨14, _⟩ => ⟨S2x16384x1024, .f32⟩
  | .hbm, ⟨15, _⟩ => ⟨S2x16384x1024, .bf16⟩
  | .hbm, ⟨16, _⟩ => ⟨S2x16384x1024, .bf16⟩
  | .hbm, ⟨17, _⟩ => ⟨S64x512x1024, .f32⟩
  | .hbm, ⟨18, _⟩ => ⟨S64x1024x512, .f32⟩
  | .hbm, ⟨19, _⟩ => ⟨S64x1024x512, .bf16⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .bf16⟩
  | .hbm, ⟨30, _⟩ => ⟨S1x256, .f32⟩
  | .hbm, ⟨31, _⟩ => ⟨S2x16384x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x16384x512, .bf16⟩
  | .local _ .vmem, ⟨3, _⟩ => ⟨S32x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S4x128, .f32⟩
  | .local _ .vmem, ⟨7, _⟩ => ⟨S1x256, .f32⟩
  | .local _ .vmem, ⟨8, _⟩ => ⟨S1x512x512, .bf16⟩
  | .local _ .vmem, ⟨9, _⟩ => ⟨S1x512x512, .bf16⟩
  | .local _ .vmem, ⟨10, _⟩ => ⟨S4x512x512, .f32⟩
  | .local _ .vmem, ⟨11, _⟩ => ⟨S4x512x512, .bf16⟩
  | .local _ .vmem, ⟨12, _⟩ => ⟨S4x1x512, .f32⟩
  | .local _ .vmem, ⟨13, _⟩ => ⟨S4x1x512, .f32⟩
  | .local _ .vmem, ⟨14, _⟩ => ⟨S4x1x512, .f32⟩
  | .local _ .vmem, ⟨15, _⟩ => ⟨S4x1x512, .f32⟩
  | .local _ .vmem, ⟨16, _⟩ => ⟨S4x256x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32 : BitVec 32 := 512#32
  let v22 : BitVec 32 := Scalar.muli arg2 c512_i32
  v22
def k0_off1 (i : grid0.Coords) : Fin 3 → Nat :=
  let c0_19 : Index := 0#32
  let arg2 : BitVec 32 := BitVec.ofNat 32 (i 2).val
  let c512_i32 : BitVec 32 := 512#32
  let v22 : BitVec 32 := Scalar.muli arg2 c512_i32
  let v23 : BitVec 32 := v22
  let v24 : Index := Scalar.indexCast v23
  let c0_20 : Index := 0#32
  ![0, v24.toNat, 0]
def k0_off2 (i : grid0.Coords) : Fin 3 → Nat :=
  let c0_29 : Index := 0#32
  let arg2 : BitVec 32 := BitVec.ofNat 32 (i 2).val
  let c512_i32 : BitVec 32 := 512#32
  let v22 : BitVec 32 := Scalar.muli arg2 c512_i32
  let v23 : BitVec 32 := v22
  let v36 : Index := Scalar.indexCast v23
  let c128_30 : Index := 128#32
  ![0, v36.toNat, 128]
def k0_off3 (i : grid0.Coords) : Fin 3 → Nat :=
  let c0_38 : Index := 0#32
  let arg2 : BitVec 32 := BitVec.ofNat 32 (i 2).val
  let c512_i32 : BitVec 32 := 512#32
  let v22 : BitVec 32 := Scalar.muli arg2 c512_i32
  let v23 : BitVec 32 := v22
  let v48 : Index := Scalar.indexCast v23
  let c256_39 : Index := 256#32
  ![0, v48.toNat, 256]
def k0_off4 (i : grid0.Coords) : Fin 3 → Nat :=
  let c0_47 : Index := 0#32
  let arg2 : BitVec 32 := BitVec.ofNat 32 (i 2).val
  let c512_i32 : BitVec 32 := 512#32
  let v22 : BitVec 32 := Scalar.muli arg2 c512_i32
  let v23 : BitVec 32 := v22
  let v60 : Index := Scalar.indexCast v23
  let c384_48 : Index := 384#32
  ![0, v60.toNat, 384]
def k0_mult2 : BitVec 32 :=
  let c0_i32_163 : BitVec 32 := 0#32
  c0_i32_163
@[reducible] def k0_t1_loop (i : grid0.Coords) : Scf.Loop 32 :=
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_208 : BitVec 32 := 1#32
  ⟨c0_i32_206, v307, c1_i32_208⟩
def k0_off5 (i : grid0.Coords) (k0_t1 : Fin (k0_t1_loop i).trips) : Fin 3 → Nat :=
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c0_i32_330 : BitVec 32 := 0#32
  let v477 : BitVec 1 := Scalar.cmpi .eq v476 c0_i32_330
  let arg2 : BitVec 32 := BitVec.ofNat 32 (i 2).val
  let c1_i32_331 : BitVec 32 := 1#32
  let v478 : BitVec 32 := Scalar.subi v476 c1_i32_331
  let v479 : BitVec 32 := Scalar.select v477 arg2 v478
  let v480 : Index := Scalar.indexCast v479
  let c0_332 : Index := 0#32
  let c0_333 : Index := 0#32
  ![v480.toNat, 0, 0]
def k0_off6 (i : grid0.Coords) (k0_t1 : Fin (k0_t1_loop i).trips) : Fin 3 → Nat :=
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c0_i32_330 : BitVec 32 := 0#32
  let v477 : BitVec 1 := Scalar.cmpi .eq v476 c0_i32_330
  let arg2 : BitVec 32 := BitVec.ofNat 32 (i 2).val
  let c1_i32_331 : BitVec 32 := 1#32
  let v478 : BitVec 32 := Scalar.subi v476 c1_i32_331
  let v479 : BitVec 32 := Scalar.select v477 arg2 v478
  let v512 : Index := Scalar.indexCast v479
  let c256_362 : Index := 256#32
  let c0_363 : Index := 0#32
  ![v512.toNat, 256, 0]
def k0_mult3 (i : grid0.Coords) (k0_t1 : Fin (k0_t1_loop i).trips) : BitVec 32 :=
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c1_i32_492 : BitVec 32 := 1#32
  let v668 : BitVec 32 := Scalar.addi v476 c1_i32_492
  let arg2 : BitVec 32 := BitVec.ofNat 32 (i 2).val
  let v669 : BitVec 32 := Scalar.minsi v668 arg2
  let c512_i32_493 : BitVec 32 := 512#32
  let v670 : BitVec 32 := Scalar.muli v669 c512_i32_493
  v670
def k0_off7 (i : grid0.Coords) (k0_t1 : Fin (k0_t1_loop i).trips) : Fin 3 → Nat :=
  let c0_494 : Index := 0#32
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c1_i32_492 : BitVec 32 := 1#32
  let v668 : BitVec 32 := Scalar.addi v476 c1_i32_492
  let arg2 : BitVec 32 := BitVec.ofNat 32 (i 2).val
  let v669 : BitVec 32 := Scalar.minsi v668 arg2
  let c512_i32_493 : BitVec 32 := 512#32
  let v670 : BitVec 32 := Scalar.muli v669 c512_i32_493
  let v671 : BitVec 32 := v670
  let v672 : Index := Scalar.indexCast v671
  let c0_495 : Index := 0#32
  ![0, v672.toNat, 0]
def k0_off8 (i : grid0.Coords) (k0_t1 : Fin (k0_t1_loop i).trips) : Fin 3 → Nat :=
  let c0_504 : Index := 0#32
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c1_i32_492 : BitVec 32 := 1#32
  let v668 : BitVec 32 := Scalar.addi v476 c1_i32_492
  let arg2 : BitVec 32 := BitVec.ofNat 32 (i 2).val
  let v669 : BitVec 32 := Scalar.minsi v668 arg2
  let c512_i32_493 : BitVec 32 := 512#32
  let v670 : BitVec 32 := Scalar.muli v669 c512_i32_493
  let v671 : BitVec 32 := v670
  let v684 : Index := Scalar.indexCast v671
  let c128_505 : Index := 128#32
  ![0, v684.toNat, 128]
def k0_off9 (i : grid0.Coords) (k0_t1 : Fin (k0_t1_loop i).trips) : Fin 3 → Nat :=
  let c0_514 : Index := 0#32
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c1_i32_492 : BitVec 32 := 1#32
  let v668 : BitVec 32 := Scalar.addi v476 c1_i32_492
  let arg2 : BitVec 32 := BitVec.ofNat 32 (i 2).val
  let v669 : BitVec 32 := Scalar.minsi v668 arg2
  let c512_i32_493 : BitVec 32 := 512#32
  let v670 : BitVec 32 := Scalar.muli v669 c512_i32_493
  let v671 : BitVec 32 := v670
  let v696 : Index := Scalar.indexCast v671
  let c256_515 : Index := 256#32
  ![0, v696.toNat, 256]
def k0_off10 (i : grid0.Coords) (k0_t1 : Fin (k0_t1_loop i).trips) : Fin 3 → Nat :=
  let c0_524 : Index := 0#32
  let c2_i32_329 : BitVec 32 := 2#32
  let c0_i32_206 : BitVec 32 := 0#32
  let c1_i32_208 : BitVec 32 := 1#32
  let arg17 : BitVec 32 := Scf.iv c0_i32_206 c1_i32_208 k0_t1
  let v476 : BitVec 32 := Scalar.muli c2_i32_329 arg17
  let c1_i32_492 : BitVec 32 := 1#32
  let v668 : BitVec 32 := Scalar.addi v476 c1_i32_492
  let arg2 : BitVec 32 := BitVec.ofNat 32 (i 2).val
  let v669 : BitVec 32 := Scalar.minsi v668 arg2
  let c512_i32_493 : BitVec 32 := 512#32
  let v670 : BitVec 32 := Scalar.muli v669 c512_i32_493
  let v671 : BitVec 32 := v670
  let v708 : Index := Scalar.indexCast v671
  let c384_525 : Index := 384#32
  ![0, v708.toNat, 384]
def k0_off11 (i : grid0.Coords) (k0_t1 : Fin (k0_t1_loop i).trips) : Fin 3 → Nat :=
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c0_i32_536 : BitVec 32 := 0#32
  let v722 : BitVec 1 := Scalar.cmpi .eq v721 c0_i32_536
  let arg2 : BitVec 32 := BitVec.ofNat 32 (i 2).val
  let c1_i32_537 : BitVec 32 := 1#32
  let v723 : BitVec 32 := Scalar.subi v721 c1_i32_537
  let v724 : BitVec 32 := Scalar.select v722 arg2 v723
  let v725 : Index := Scalar.indexCast v724
  let c0_538 : Index := 0#32
  let c0_539 : Index := 0#32
  ![v725.toNat, 0, 0]
def k0_off12 (i : grid0.Coords) (k0_t1 : Fin (k0_t1_loop i).trips) : Fin 3 → Nat :=
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c0_i32_536 : BitVec 32 := 0#32
  let v722 : BitVec 1 := Scalar.cmpi .eq v721 c0_i32_536
  let arg2 : BitVec 32 := BitVec.ofNat 32 (i 2).val
  let c1_i32_537 : BitVec 32 := 1#32
  let v723 : BitVec 32 := Scalar.subi v721 c1_i32_537
  let v724 : BitVec 32 := Scalar.select v722 arg2 v723
  let v757 : Index := Scalar.indexCast v724
  let c256_568 : Index := 256#32
  let c0_569 : Index := 0#32
  ![v757.toNat, 256, 0]
def k0_mult4 (i : grid0.Coords) (k0_t1 : Fin (k0_t1_loop i).trips) : BitVec 32 :=
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let arg2 : BitVec 32 := BitVec.ofNat 32 (i 2).val
  let v914 : BitVec 32 := Scalar.minsi v913 arg2
  let c512_i32_699 : BitVec 32 := 512#32
  let v915 : BitVec 32 := Scalar.muli v914 c512_i32_699
  v915
def k0_off13 (i : grid0.Coords) (k0_t1 : Fin (k0_t1_loop i).trips) : Fin 3 → Nat :=
  let c0_700 : Index := 0#32
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let arg2 : BitVec 32 := BitVec.ofNat 32 (i 2).val
  let v914 : BitVec 32 := Scalar.minsi v913 arg2
  let c512_i32_699 : BitVec 32 := 512#32
  let v915 : BitVec 32 := Scalar.muli v914 c512_i32_699
  let v916 : BitVec 32 := v915
  let v917 : Index := Scalar.indexCast v916
  let c0_701 : Index := 0#32
  ![0, v917.toNat, 0]
def k0_off14 (i : grid0.Coords) (k0_t1 : Fin (k0_t1_loop i).trips) : Fin 3 → Nat :=
  let c0_710 : Index := 0#32
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let arg2 : BitVec 32 := BitVec.ofNat 32 (i 2).val
  let v914 : BitVec 32 := Scalar.minsi v913 arg2
  let c512_i32_699 : BitVec 32 := 512#32
  let v915 : BitVec 32 := Scalar.muli v914 c512_i32_699
  let v916 : BitVec 32 := v915
  let v929 : Index := Scalar.indexCast v916
  let c128_711 : Index := 128#32
  ![0, v929.toNat, 128]
def k0_off15 (i : grid0.Coords) (k0_t1 : Fin (k0_t1_loop i).trips) : Fin 3 → Nat :=
  let c0_720 : Index := 0#32
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let arg2 : BitVec 32 := BitVec.ofNat 32 (i 2).val
  let v914 : BitVec 32 := Scalar.minsi v913 arg2
  let c512_i32_699 : BitVec 32 := 512#32
  let v915 : BitVec 32 := Scalar.muli v914 c512_i32_699
  let v916 : BitVec 32 := v915
  let v941 : Index := Scalar.indexCast v916
  let c256_721 : Index := 256#32
  ![0, v941.toNat, 256]
def k0_off16 (i : grid0.Coords) (k0_t1 : Fin (k0_t1_loop i).trips) : Fin 3 → Nat :=
  let c0_730 : Index := 0#32
  let c2_i32_534 : BitVec 32 := 2#32
  let c0_i32_206 : BitVec 32 := 0#32
  let c1_i32_208 : BitVec 32 := 1#32
  let arg17 : BitVec 32 := Scf.iv c0_i32_206 c1_i32_208 k0_t1
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let arg2 : BitVec 32 := BitVec.ofNat 32 (i 2).val
  let v914 : BitVec 32 := Scalar.minsi v913 arg2
  let c512_i32_699 : BitVec 32 := 512#32
  let v915 : BitVec 32 := Scalar.muli v914 c512_i32_699
  let v916 : BitVec 32 := v915
  let v953 : Index := Scalar.indexCast v916
  let c384_731 : Index := 384#32
  ![0, v953.toNat, 384]
@[reducible] def k0_t2_loop (i : grid0.Coords) : Scf.Loop 32 :=
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let v304 : BitVec 32 := Scalar.addi c0_i32_206 v303
  let c1_i32_209 : BitVec 32 := 1#32
  ⟨v307, v304, c1_i32_209⟩
def k0_off17 (i : grid0.Coords) (k0_t2 : Fin (k0_t2_loop i).trips) : Fin 3 → Nat :=
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c0_i32_330 : BitVec 32 := 0#32
  let v477 : BitVec 1 := Scalar.cmpi .eq v476 c0_i32_330
  let c1_i32_331 : BitVec 32 := 1#32
  let v478 : BitVec 32 := Scalar.subi v476 c1_i32_331
  let v479 : BitVec 32 := Scalar.select v477 arg2 v478
  let v480 : Index := Scalar.indexCast v479
  let c0_332 : Index := 0#32
  let c0_333 : Index := 0#32
  ![v480.toNat, 0, 0]
def k0_off18 (i : grid0.Coords) (k0_t2 : Fin (k0_t2_loop i).trips) : Fin 3 → Nat :=
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c0_i32_330 : BitVec 32 := 0#32
  let v477 : BitVec 1 := Scalar.cmpi .eq v476 c0_i32_330
  let c1_i32_331 : BitVec 32 := 1#32
  let v478 : BitVec 32 := Scalar.subi v476 c1_i32_331
  let v479 : BitVec 32 := Scalar.select v477 arg2 v478
  let v512 : Index := Scalar.indexCast v479
  let c256_362 : Index := 256#32
  let c0_363 : Index := 0#32
  ![v512.toNat, 256, 0]
def k0_mult5 (i : grid0.Coords) (k0_t2 : Fin (k0_t2_loop i).trips) : BitVec 32 :=
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c1_i32_492 : BitVec 32 := 1#32
  let v668 : BitVec 32 := Scalar.addi v476 c1_i32_492
  let v669 : BitVec 32 := Scalar.minsi v668 arg2
  let c512_i32_493 : BitVec 32 := 512#32
  let v670 : BitVec 32 := Scalar.muli v669 c512_i32_493
  v670
def k0_off19 (i : grid0.Coords) (k0_t2 : Fin (k0_t2_loop i).trips) : Fin 3 → Nat :=
  let c0_494 : Index := 0#32
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c1_i32_492 : BitVec 32 := 1#32
  let v668 : BitVec 32 := Scalar.addi v476 c1_i32_492
  let v669 : BitVec 32 := Scalar.minsi v668 arg2
  let c512_i32_493 : BitVec 32 := 512#32
  let v670 : BitVec 32 := Scalar.muli v669 c512_i32_493
  let v671 : BitVec 32 := v670
  let v672 : Index := Scalar.indexCast v671
  let c0_495 : Index := 0#32
  ![0, v672.toNat, 0]
def k0_off20 (i : grid0.Coords) (k0_t2 : Fin (k0_t2_loop i).trips) : Fin 3 → Nat :=
  let c0_504 : Index := 0#32
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c1_i32_492 : BitVec 32 := 1#32
  let v668 : BitVec 32 := Scalar.addi v476 c1_i32_492
  let v669 : BitVec 32 := Scalar.minsi v668 arg2
  let c512_i32_493 : BitVec 32 := 512#32
  let v670 : BitVec 32 := Scalar.muli v669 c512_i32_493
  let v671 : BitVec 32 := v670
  let v684 : Index := Scalar.indexCast v671
  let c128_505 : Index := 128#32
  ![0, v684.toNat, 128]
def k0_off21 (i : grid0.Coords) (k0_t2 : Fin (k0_t2_loop i).trips) : Fin 3 → Nat :=
  let c0_514 : Index := 0#32
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c1_i32_492 : BitVec 32 := 1#32
  let v668 : BitVec 32 := Scalar.addi v476 c1_i32_492
  let v669 : BitVec 32 := Scalar.minsi v668 arg2
  let c512_i32_493 : BitVec 32 := 512#32
  let v670 : BitVec 32 := Scalar.muli v669 c512_i32_493
  let v671 : BitVec 32 := v670
  let v696 : Index := Scalar.indexCast v671
  let c256_515 : Index := 256#32
  ![0, v696.toNat, 256]
def k0_off22 (i : grid0.Coords) (k0_t2 : Fin (k0_t2_loop i).trips) : Fin 3 → Nat :=
  let c0_524 : Index := 0#32
  let c2_i32_329 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v476 : BitVec 32 := Scalar.muli c2_i32_329 arg17
  let c1_i32_492 : BitVec 32 := 1#32
  let v668 : BitVec 32 := Scalar.addi v476 c1_i32_492
  let v669 : BitVec 32 := Scalar.minsi v668 arg2
  let c512_i32_493 : BitVec 32 := 512#32
  let v670 : BitVec 32 := Scalar.muli v669 c512_i32_493
  let v671 : BitVec 32 := v670
  let v708 : Index := Scalar.indexCast v671
  let c384_525 : Index := 384#32
  ![0, v708.toNat, 384]
def k0_off23 (i : grid0.Coords) (k0_t2 : Fin (k0_t2_loop i).trips) : Fin 3 → Nat :=
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c0_i32_536 : BitVec 32 := 0#32
  let v722 : BitVec 1 := Scalar.cmpi .eq v721 c0_i32_536
  let c1_i32_537 : BitVec 32 := 1#32
  let v723 : BitVec 32 := Scalar.subi v721 c1_i32_537
  let v724 : BitVec 32 := Scalar.select v722 arg2 v723
  let v725 : Index := Scalar.indexCast v724
  let c0_538 : Index := 0#32
  let c0_539 : Index := 0#32
  ![v725.toNat, 0, 0]
def k0_off24 (i : grid0.Coords) (k0_t2 : Fin (k0_t2_loop i).trips) : Fin 3 → Nat :=
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c0_i32_536 : BitVec 32 := 0#32
  let v722 : BitVec 1 := Scalar.cmpi .eq v721 c0_i32_536
  let c1_i32_537 : BitVec 32 := 1#32
  let v723 : BitVec 32 := Scalar.subi v721 c1_i32_537
  let v724 : BitVec 32 := Scalar.select v722 arg2 v723
  let v757 : Index := Scalar.indexCast v724
  let c256_568 : Index := 256#32
  let c0_569 : Index := 0#32
  ![v757.toNat, 256, 0]
def k0_mult6 (i : grid0.Coords) (k0_t2 : Fin (k0_t2_loop i).trips) : BitVec 32 :=
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let v914 : BitVec 32 := Scalar.minsi v913 arg2
  let c512_i32_699 : BitVec 32 := 512#32
  let v915 : BitVec 32 := Scalar.muli v914 c512_i32_699
  v915
def k0_off25 (i : grid0.Coords) (k0_t2 : Fin (k0_t2_loop i).trips) : Fin 3 → Nat :=
  let c0_700 : Index := 0#32
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let v914 : BitVec 32 := Scalar.minsi v913 arg2
  let c512_i32_699 : BitVec 32 := 512#32
  let v915 : BitVec 32 := Scalar.muli v914 c512_i32_699
  let v916 : BitVec 32 := v915
  let v917 : Index := Scalar.indexCast v916
  let c0_701 : Index := 0#32
  ![0, v917.toNat, 0]
def k0_off26 (i : grid0.Coords) (k0_t2 : Fin (k0_t2_loop i).trips) : Fin 3 → Nat :=
  let c0_710 : Index := 0#32
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let v914 : BitVec 32 := Scalar.minsi v913 arg2
  let c512_i32_699 : BitVec 32 := 512#32
  let v915 : BitVec 32 := Scalar.muli v914 c512_i32_699
  let v916 : BitVec 32 := v915
  let v929 : Index := Scalar.indexCast v916
  let c128_711 : Index := 128#32
  ![0, v929.toNat, 128]
def k0_off27 (i : grid0.Coords) (k0_t2 : Fin (k0_t2_loop i).trips) : Fin 3 → Nat :=
  let c0_720 : Index := 0#32
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let v914 : BitVec 32 := Scalar.minsi v913 arg2
  let c512_i32_699 : BitVec 32 := 512#32
  let v915 : BitVec 32 := Scalar.muli v914 c512_i32_699
  let v916 : BitVec 32 := v915
  let v941 : Index := Scalar.indexCast v916
  let c256_721 : Index := 256#32
  ![0, v941.toNat, 256]
def k0_off28 (i : grid0.Coords) (k0_t2 : Fin (k0_t2_loop i).trips) : Fin 3 → Nat :=
  let c0_730 : Index := 0#32
  let c2_i32_534 : BitVec 32 := 2#32
  let c0_i32_206 : BitVec 32 := 0#32
  let arg2 : BitVec 32 := BitVec.ofNat 32 (i 2).val
  let c1_i32_204 : BitVec 32 := 1#32
  let v302 : BitVec 32 := Scalar.shrui arg2 c1_i32_204
  let v303 : BitVec 32 := Scalar.subi v302 c0_i32_206
  let c1_i32_207 : BitVec 32 := 1#32
  let v305 : BitVec 32 := Scalar.divsi v303 c1_i32_207
  let v306 : BitVec 32 := Scalar.muli v305 c1_i32_207
  let v307 : BitVec 32 := Scalar.addi c0_i32_206 v306
  let c1_i32_209 : BitVec 32 := 1#32
  let arg17 : BitVec 32 := Scf.iv v307 c1_i32_209 k0_t2
  let v720 : BitVec 32 := Scalar.muli c2_i32_534 arg17
  let c1_i32_535 : BitVec 32 := 1#32
  let v721 : BitVec 32 := Scalar.addi v720 c1_i32_535
  let c1_i32_698 : BitVec 32 := 1#32
  let v913 : BitVec 32 := Scalar.addi v721 c1_i32_698
  let v914 : BitVec 32 := Scalar.minsi v913 arg2
  let c512_i32_699 : BitVec 32 := 512#32
  let v915 : BitVec 32 := Scalar.muli v914 c512_i32_699
  let v916 : BitVec 32 := v915
  let v953 : Index := Scalar.indexCast v916
  let c384_731 : Index := 384#32
  ![0, v953.toNat, 384]
@[reducible] def k0_t3_loop (i : grid0.Coords) : Scf.Loop 32 :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_212 : BitVec 32 := 1#32
  ⟨v308, v313, c1_i32_212⟩
def k0_off29 (i : grid0.Coords) (k0_t3 : Fin (k0_t3_loop i).trips) : Fin 3 → Nat :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c0_i32_329 : BitVec 32 := 0#32
  let v476 : BitVec 1 := Scalar.cmpi .eq arg17 c0_i32_329
  let c1_i32_330 : BitVec 32 := 1#32
  let v477 : BitVec 32 := Scalar.subi arg17 c1_i32_330
  let v478 : BitVec 32 := Scalar.select v476 arg2 v477
  let v479 : Index := Scalar.indexCast v478
  let c0_331 : Index := 0#32
  let c0_332 : Index := 0#32
  ![v479.toNat, 0, 0]
def k0_off30 (i : grid0.Coords) (k0_t3 : Fin (k0_t3_loop i).trips) : Fin 3 → Nat :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c0_i32_329 : BitVec 32 := 0#32
  let v476 : BitVec 1 := Scalar.cmpi .eq arg17 c0_i32_329
  let c1_i32_330 : BitVec 32 := 1#32
  let v477 : BitVec 32 := Scalar.subi arg17 c1_i32_330
  let v478 : BitVec 32 := Scalar.select v476 arg2 v477
  let v511 : Index := Scalar.indexCast v478
  let c256_361 : Index := 256#32
  let c0_362 : Index := 0#32
  ![v511.toNat, 256, 0]
def k0_mult7 (i : grid0.Coords) (k0_t3 : Fin (k0_t3_loop i).trips) : BitVec 32 :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  v669
def k0_off31 (i : grid0.Coords) (k0_t3 : Fin (k0_t3_loop i).trips) : Fin 3 → Nat :=
  let c0_493 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v671 : Index := Scalar.indexCast v670
  let c0_494 : Index := 0#32
  ![0, v671.toNat, 0]
def k0_off32 (i : grid0.Coords) (k0_t3 : Fin (k0_t3_loop i).trips) : Fin 3 → Nat :=
  let c0_503 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v683 : Index := Scalar.indexCast v670
  let c128_504 : Index := 128#32
  ![0, v683.toNat, 128]
def k0_off33 (i : grid0.Coords) (k0_t3 : Fin (k0_t3_loop i).trips) : Fin 3 → Nat :=
  let c0_513 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v695 : Index := Scalar.indexCast v670
  let c256_514 : Index := 256#32
  ![0, v695.toNat, 256]
def k0_off34 (i : grid0.Coords) (k0_t3 : Fin (k0_t3_loop i).trips) : Fin 3 → Nat :=
  let c0_523 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let c1_i32_212 : BitVec 32 := 1#32
  let arg17 : BitVec 32 := Scf.iv v308 c1_i32_212 k0_t3
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v707 : Index := Scalar.indexCast v670
  let c384_524 : Index := 384#32
  ![0, v707.toNat, 384]
@[reducible] def k0_t4_loop (i : grid0.Coords) : Scf.Loop 32 :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let v310 : BitVec 32 := Scalar.addi v308 v309
  let c1_i32_213 : BitVec 32 := 1#32
  ⟨v313, v310, c1_i32_213⟩
def k0_off35 (i : grid0.Coords) (k0_t4 : Fin (k0_t4_loop i).trips) : Fin 3 → Nat :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c0_i32_329 : BitVec 32 := 0#32
  let v476 : BitVec 1 := Scalar.cmpi .eq arg17 c0_i32_329
  let c1_i32_330 : BitVec 32 := 1#32
  let v477 : BitVec 32 := Scalar.subi arg17 c1_i32_330
  let v478 : BitVec 32 := Scalar.select v476 arg2 v477
  let v479 : Index := Scalar.indexCast v478
  let c0_331 : Index := 0#32
  let c0_332 : Index := 0#32
  ![v479.toNat, 0, 0]
def k0_off36 (i : grid0.Coords) (k0_t4 : Fin (k0_t4_loop i).trips) : Fin 3 → Nat :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c0_i32_329 : BitVec 32 := 0#32
  let v476 : BitVec 1 := Scalar.cmpi .eq arg17 c0_i32_329
  let c1_i32_330 : BitVec 32 := 1#32
  let v477 : BitVec 32 := Scalar.subi arg17 c1_i32_330
  let v478 : BitVec 32 := Scalar.select v476 arg2 v477
  let v511 : Index := Scalar.indexCast v478
  let c256_361 : Index := 256#32
  let c0_362 : Index := 0#32
  ![v511.toNat, 256, 0]
def k0_mult8 (i : grid0.Coords) (k0_t4 : Fin (k0_t4_loop i).trips) : BitVec 32 :=
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  v669
def k0_off37 (i : grid0.Coords) (k0_t4 : Fin (k0_t4_loop i).trips) : Fin 3 → Nat :=
  let c0_493 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v671 : Index := Scalar.indexCast v670
  let c0_494 : Index := 0#32
  ![0, v671.toNat, 0]
def k0_off38 (i : grid0.Coords) (k0_t4 : Fin (k0_t4_loop i).trips) : Fin 3 → Nat :=
  let c0_503 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v683 : Index := Scalar.indexCast v670
  let c128_504 : Index := 128#32
  ![0, v683.toNat, 128]
def k0_off39 (i : grid0.Coords) (k0_t4 : Fin (k0_t4_loop i).trips) : Fin 3 → Nat :=
  let c0_513 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v695 : Index := Scalar.indexCast v670
  let c256_514 : Index := 256#32
  ![0, v695.toNat, 256]
def k0_off40 (i : grid0.Coords) (k0_t4 : Fin (k0_t4_loop i).trips) : Fin 3 → Nat :=
  let c0_523 : Index := 0#32
  let c2_i32 : BitVec 32 := 2#32
  let arg2 : BitVec 32 := BitVec.ofNat 32 (i 2).val
  let c1_i32_204 : BitVec 32 := 1#32
  let v302 : BitVec 32 := Scalar.shrui arg2 c1_i32_204
  let v308 : BitVec 32 := Scalar.muli c2_i32 v302
  let v309 : BitVec 32 := Scalar.subi arg2 v308
  let c1_i32_211 : BitVec 32 := 1#32
  let v311 : BitVec 32 := Scalar.divsi v309 c1_i32_211
  let v312 : BitVec 32 := Scalar.muli v311 c1_i32_211
  let v313 : BitVec 32 := Scalar.addi v308 v312
  let c1_i32_213 : BitVec 32 := 1#32
  let arg17 : BitVec 32 := Scf.iv v313 c1_i32_213 k0_t4
  let c1_i32_491 : BitVec 32 := 1#32
  let v667 : BitVec 32 := Scalar.addi arg17 c1_i32_491
  let v668 : BitVec 32 := Scalar.minsi v667 arg2
  let c512_i32_492 : BitVec 32 := 512#32
  let v669 : BitVec 32 := Scalar.muli v668 c512_i32_492
  let v670 : BitVec 32 := v669
  let v707 : Index := Scalar.indexCast v670
  let c384_524 : Index := 384#32
  ![0, v707.toNat, 384]
def k0_off41 (i : grid0.Coords) : Fin 3 → Nat :=
  let arg2 : BitVec 32 := BitVec.ofNat 32 (i 2).val
  let c1_i32_214 : BitVec 32 := 1#32
  let v314 : BitVec 32 := Scalar.subi arg2 c1_i32_214
  let c0_i32_215 : BitVec 32 := 0#32
  let v315 : BitVec 32 := Scalar.maxsi v314 c0_i32_215
  let v316 : Index := Scalar.indexCast v315
  let c0_216 : Index := 0#32
  let c0_217 : Index := 0#32
  ![v316.toNat, 0, 0]
def k0_off42 (i : grid0.Coords) : Fin 3 → Nat :=
  let arg2 : BitVec 32 := BitVec.ofNat 32 (i 2).val
  let c1_i32_214 : BitVec 32 := 1#32
  let v314 : BitVec 32 := Scalar.subi arg2 c1_i32_214
  let c0_i32_215 : BitVec 32 := 0#32
  let v315 : BitVec 32 := Scalar.maxsi v314 c0_i32_215
  let v348 : Index := Scalar.indexCast v315
  let c256_246 : Index := 256#32
  let c0_247 : Index := 0#32
  ![v348.toNat, 256, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S32x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x1024 : Shape := ⟨3, ![2, 16384, 1024]⟩
abbrev S4x128 : Shape := ⟨2, ![4, 128]⟩
abbrev S256 : Shape := ⟨1, ![256]⟩
abbrev S2x16384x4x2x128 : Shape := ⟨5, ![2, 16384, 4, 2, 128]⟩
abbrev S2x16384x4x256 : Shape := ⟨4, ![2, 16384, 4, 256]⟩
abbrev S16384 : Shape := ⟨1, ![16384]⟩
abbrev S1x128 : Shape := ⟨2, ![1, 128]⟩
abbrev S128 : Shape := ⟨1, ![128]⟩
abbrev S_ : Shape := ⟨0, ![]⟩
abbrev S2x4x2x16384x16384 : Shape := ⟨5, ![2, 4, 2, 16384, 16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x256x16384 : Shape := ⟨4, ![2, 4, 256, 16384]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩

abbrev nBuf : Space → Nat
  | .hbm => 134
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S2x16384x1024, .f32⟩
  | 3 => ⟨S2x16384x1024, .f32⟩
  | 4 => ⟨S4x128, .f32⟩
  | 5 => ⟨S256, .f32⟩
  | 6 => ⟨S2x16384x4x2x128, .f32⟩
  | 7 => ⟨S2x16384x4x2x128, .f32⟩
  | 8 => ⟨S2x16384x4x256, .f32⟩
  | 9 => ⟨S16384, .i32⟩
  | 10 => ⟨S1x128, .f32⟩
  | 11 => ⟨S128, .f32⟩
  | 12 => ⟨S1x128, .f32⟩
  | 13 => ⟨S128, .f32⟩
  | 14 => ⟨S128, .f32⟩
  | 15 => ⟨S_, .f32⟩
  | 16 => ⟨S_, .f32⟩
  | 17 => ⟨S_, .f32⟩
  | 18 => ⟨S1x128, .f32⟩
  | 19 => ⟨S128, .f32⟩
  | 20 => ⟨S1x128, .f32⟩
  | 21 => ⟨S128, .f32⟩
  | 22 => ⟨S128, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S2x4x2x16384x16384, .f32⟩
  | 30 => ⟨S_, .f32⟩
  | 31 => ⟨S_, .f32⟩
  | 32 => ⟨S2x4x2x16384x16384, .f32⟩
  | 33 => ⟨S2x4x2x16384x16384, .f32⟩
  | 34 => ⟨S_, .i32⟩
  | 35 => ⟨S_, .i32⟩
  | 36 => ⟨S16384, .i32⟩
  | 37 => ⟨S16384, .i32⟩
  | 38 => ⟨S16384, .i32⟩
  | 39 => ⟨S_, .i32⟩
  | 40 => ⟨S16384, .i32⟩
  | 41 => ⟨S16384, .i1⟩
  | 42 => ⟨S16384, .i32⟩
  | 43 => ⟨S16384, .i32⟩
  | 44 => ⟨S_, .i32⟩
  | 45 => ⟨S16384, .i32⟩
  | 46 => ⟨S16384, .i1⟩
  | 47 => ⟨S16384, .i1⟩
  | 48 => ⟨S_, .i32⟩
  | 49 => ⟨S16384, .i32⟩
  | 50 => ⟨S16384, .i32⟩
  | 51 => ⟨S16384, .i32⟩
  | 52 => ⟨S1x16384, .i32⟩
  | 53 => ⟨S_, .i32⟩
  | 54 => ⟨S_, .i32⟩
  | 55 => ⟨S16384, .i32⟩
  | 56 => ⟨S16384, .i32⟩
  | 57 => ⟨S16384, .i32⟩
  | 58 => ⟨S_, .i32⟩
  | 59 => ⟨S16384, .i32⟩
  | 60 => ⟨S16384, .i1⟩
  | 61 => ⟨S16384, .i32⟩
  | 62 => ⟨S16384, .i32⟩
  | 63 => ⟨S_, .i32⟩
  | 64 => ⟨S16384, .i32⟩
  | 65 => ⟨S16384, .i1⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S16384x16384, .i32⟩
  | 73 => ⟨S16384x16384, .i32⟩
  | 74 => ⟨S16384x16384, .i1⟩
  | 75 => ⟨S_, .f32⟩
  | 76 => ⟨S_, .f32⟩
  | 77 => ⟨S2x4x2x16384x16384, .i1⟩
  | 78 => ⟨S2x4x2x16384x16384, .f32⟩
  | 79 => ⟨S2x4x2x16384x16384, .f32⟩
  | 80 => ⟨S_, .f32⟩
  | 81 => ⟨S2x4x2x16384, .f32⟩
  | 82 => ⟨S_, .f32⟩
  | 83 => ⟨S2x4x2x16384, .f32⟩
  | 84 => ⟨S2x4x2x16384, .f32⟩
  | 85 => ⟨S2x4x2x16384x1, .f32⟩
  | 86 => ⟨S2x4x2x16384x16384, .f32⟩
  | 87 => ⟨S2x4x2x16384x16384, .f32⟩
  | 88 => ⟨S2x4x2x16384x16384, .f32⟩
  | 89 => ⟨S_, .f32⟩
  | 90 => ⟨S2x4x2x16384, .f32⟩
  | 91 => ⟨S2x4x2x16384x1, .f32⟩
  | 92 => ⟨S2x4x2x16384x16384, .f32⟩
  | 93 => ⟨S2x4x2x16384x16384, .f32⟩
  | 94 => ⟨S2x4x1x16384x16384, .f32⟩
  | 95 => ⟨S2x4x16384x16384, .f32⟩
  | 96 => ⟨S2x4x1x16384x16384, .f32⟩
  | 97 => ⟨S2x4x16384x16384, .f32⟩
  | 98 => ⟨S2x4x16384x16384, .f32⟩
  | 99 => ⟨S2x4x16384x16384, .f32⟩
  | 100 => ⟨S2x4x16384x16384, .f32⟩
  | 101 => ⟨S2x4x256x16384, .f32⟩
  | 102 => ⟨S2x16384x4x256, .f32⟩
  | 103 => ⟨S2x16384x4x256, .f32⟩
  | 104 => ⟨S_, .f32⟩
  | 105 => ⟨S2x16384x4, .f32⟩
  | 106 => ⟨S2x16384x4x1, .f32⟩
  | 107 => ⟨S_, .f32⟩
  | 108 => ⟨S2x16384x4x1, .f32⟩
  | 109 => ⟨S2x16384x4x1, .f32⟩
  | 110 => ⟨S_, .f32⟩
  | 111 => ⟨S2x16384x4x1, .f32⟩
  | 112 => ⟨S2x16384x4x1, .f32⟩
  | 113 => ⟨S2x16384x4x1, .f32⟩
  | 114 => ⟨S2x16384x4x256, .f32⟩
  | 115 => ⟨S2x16384x4x256, .f32⟩
  | 116 => ⟨S1x1x1x256, .f32⟩
  | 117 => ⟨S2x16384x4x256, .f32⟩
  | 118 => ⟨S2x16384x4x256, .f32⟩
  | 119 => ⟨S_, .f32⟩
  | 120 => ⟨S2x16384x4x256, .f32⟩
  | 121 => ⟨S2x16384x4x256, .f32⟩
  | 122 => ⟨S2x16384x1024, .f32⟩
  | 123 => ⟨S2x16384x1024, .f32⟩
  | 124 => ⟨S2x16384x1024, .f32⟩
  | 125 => ⟨S_, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S_, .f32⟩
  | 1 => ⟨S2x16384x1024, .f32⟩
  | 2 => ⟨S2x16384x1024, .f32⟩
  | 3 => ⟨S2x16384x1024, .f32⟩
  | 4 => ⟨S2x16384x1024, .f32⟩
  | 5 => ⟨S2x16384x1024, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v24 : Ref sig .tc := ⟨.hbm, 51, rfl⟩
abbrev main_v25 : Ref sig .tc := ⟨.hbm, 52, rfl⟩
abbrev main_c_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_7 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_8 : Ref sig .tc := ⟨.hbm, 104, rfl⟩
abbrev main_v53 : Ref sig .tc := ⟨.hbm, 105, rfl⟩
abbrev main_v54 : Ref sig .tc := ⟨.hbm, 106, rfl⟩
abbrev main_cst_9 : Ref sig .tc := ⟨.hbm, 107, rfl⟩
abbrev main_v55 : Ref sig .tc := ⟨.hbm, 108, rfl⟩
abbrev main_v56 : Ref sig .tc := ⟨.hbm, 109, rfl⟩
abbrev main_cst_10 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_11 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩

abbrev nD : Nat := 1
abbrev τ : Topo := Topo.v7x

variable {F : FTy → Type} [FloatOps F]
-- ==== Sb.lean ====
abbrev S2x16384x1024 : Shape := ⟨3, ![2, 16384, 1024]⟩
abbrev S_ : Shape := ⟨0, ![]⟩
abbrev S64x512x1024 : Shape := ⟨3, ![64, 512, 1024]⟩
abbrev S64x1024x512 : Shape := ⟨3, ![64, 1024, 512]⟩
abbrev S1x512x512 : Shape := ⟨3, ![1, 512, 512]⟩
abbrev S1x16384x512 : Shape := ⟨3, ![1, 16384, 512]⟩
abbrev S32x512x512 : Shape := ⟨3, ![32, 512, 512]⟩
abbrev S2x512x512 : Shape := ⟨3, ![2, 512, 512]⟩
abbrev S2x1x512 : Shape := ⟨3, ![2, 1, 512]⟩
abbrev S2x256x512 : Shape := ⟨3, ![2, 256, 512]⟩
abbrev S1x512x256 : Shape := ⟨3, ![1, 512, 256]⟩
abbrev S512x256 : Shape := ⟨2, ![512, 256]⟩
abbrev S256x256 : Shape := ⟨2, ![256, 256]⟩
abbrev S512x512 : Shape := ⟨2, ![512, 512]⟩
abbrev S1x1x512 : Shape := ⟨3, ![1, 1, 512]⟩
abbrev S1x512 : Shape := ⟨2, ![1, 512]⟩
abbrev S1x256x512 : Shape := ⟨3, ![1, 256, 512]⟩
abbrev S256x512 : Shape := ⟨2, ![256, 512]⟩
abbrev S1x2x1x512 : Shape := ⟨4, ![1, 2, 1, 512]⟩
abbrev S1 : Shape := ⟨1, ![1]⟩
abbrev S1x1x1x1 : Shape := ⟨4, ![1, 1, 1, 1]⟩

abbrev nBuf : Space → Nat
  | .hbm => 29
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16384x1024, .f32⟩
  | .hbm, ⟨12, _⟩ => ⟨S2x16384x1024, .f32⟩
  | .hbm, ⟨13, _⟩ => ⟨S2x16384x1024, .bf16⟩
  | .hbm, ⟨14, _⟩ => ⟨S2x16384x1024, .bf16⟩
  | .hbm, ⟨15, _⟩ => ⟨S64x512x1024, .f32⟩
  | .hbm, ⟨16, _⟩ => ⟨S64x1024x512, .f32⟩
  | .hbm, ⟨17, _⟩ => ⟨S64x1024x512, .bf16⟩
  | .hbm, ⟨18, _⟩ => ⟨S2x16384x1024, .f32⟩
  | .hbm, ⟨19, _⟩ => ⟨S2x16384x1024, .f32⟩
  | .hbm, ⟨20, _⟩ => ⟨S_, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .bf16⟩
  | .hbm, ⟨28, _⟩ => ⟨S2x16384x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x16384x512, .bf16⟩
  | .local _ .vmem, ⟨3, _⟩ => ⟨S32x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S2x512x512, .f32⟩
  | .local _ .vmem, ⟨9, _⟩ => ⟨S2x512x512, .bf16⟩
  | .local _ .vmem, ⟨10, _⟩ => ⟨S2x1x512, .f32⟩
  | .local _ .vmem, ⟨11, _⟩ => ⟨S2x256x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32 : BitVec 32 := 512#32
  let v18 : BitVec 32 := Scalar.muli arg2 c512_i32
  v18
def k0_off1 (i : grid0.Coords) : Fin 3 → Nat :=
  let c0_11 : Index := 0#32
  let arg2 : BitVec 32 := BitVec.ofNat 32 (i 2).val
  let c512_i32 : BitVec 32 := 512#32
  let v18 : BitVec 32 := Scalar.muli arg2 c512_i32
  let v19 : BitVec 32 := v18
  let v20 : Index := Scalar.indexCast v19
  let c0_12 : Index := 0#32
  ![0, v20.toNat, 0]
def k0_off2 (i : grid0.Coords) : Fin 3 → Nat :=
  let c0_17 : Index := 0#32
  let arg2 : BitVec 32 := BitVec.ofNat 32 (i 2).val
  let c512_i32 : BitVec 32 := 512#32
  let v18 : BitVec 32 := Scalar.muli arg2 c512_i32
  let v19 : BitVec 32 := v18
  let v27 : Index := Scalar.indexCast v19
  let c256_18 : Index := 256#32
  ![0, v27.toNat, 256]
def k0_mult2 (i : grid0.Coords) : BitVec 32 :=
  let arg2 : BitVec 32 := BitVec.ofNat 32 (i 2).val
  let c1_i32 : BitVec 32 := 1#32
  let v200 : BitVec 32 := Scalar.subi arg2 c1_i32
  let c0_i32_88 : BitVec 32 := 0#32
  let v201 : BitVec 32 := Scalar.maxsi v200 c0_i32_88
  let c512_i32_89 : BitVec 32 := 512#32
  let v202 : BitVec 32 := Scalar.muli v201 c512_i32_89
  v202
def k0_off3 (i : grid0.Coords) : Fin 3 → Nat :=
  let c0_90 : Index := 0#32
  let arg2 : BitVec 32 := BitVec.ofNat 32 (i 2).val
  let c1_i32 : BitVec 32 := 1#32
  let v200 : BitVec 32 := Scalar.subi arg2 c1_i32
  let c0_i32_88 : BitVec 32 := 0#32
  let v201 : BitVec 32 := Scalar.maxsi v200 c0_i32_88
  let c512_i32_89 : BitVec 32 := 512#32
  let v202 : BitVec 32 := Scalar.muli v201 c512_i32_89
  let v203 : BitVec 32 := v202
  let v204 : Index := Scalar.indexCast v203
  let c0_91 : Index := 0#32
  ![0, v204.toNat, 0]
def k0_off4 (i : grid0.Coords) : Fin 3 → Nat :=
  let c0_96 : Index := 0#32
  let arg2 : BitVec 32 := BitVec.ofNat 32 (i 2).val
  let c1_i32 : BitVec 32 := 1#32
  let v200 : BitVec 32 := Scalar.subi arg2 c1_i32
  let c0_i32_88 : BitVec 32 := 0#32
  let v201 : BitVec 32 := Scalar.maxsi v200 c0_i32_88
  let c512_i32_89 : BitVec 32 := 512#32
  let v202 : BitVec 32 := Scalar.muli v201 c512_i32_89
  let v203 : BitVec 32 := v202
  let v211 : Index := Scalar.indexCast v203
  let c256_97 : Index := 256#32
  ![0, v211.toNat, 256]
def k0_off5 (i : grid0.Coords) (arg12 : BitVec 32) : Fin 3 → Nat :=
  let arg2 : BitVec 32 := BitVec.ofNat 32 (i 2).val
  let c1_i32_146 : BitVec 32 := 1#32
  let v266 : BitVec 32 := Scalar.subi arg2 c1_i32_146
  let v267 : BitVec 32 := Scalar.subi v266 arg12
  let c1_i32_147 : BitVec 32 := 1#32
  let v268 : BitVec 32 := Scalar.addi v267 c1_i32_147
  let v271 : Index := Scalar.indexCast v268
  let c0_151 : Index := 0#32
  let c0_152 : Index := 0#32
  ![v271.toNat, 0, 0]

def k0_off6 (i : grid0.Coords) (arg12 : BitVec 32) : Fin 3 → Nat :=
  let arg2 : BitVec 32 := BitVec.ofNat 32 (i 2).val
  let c1_i32_146 : BitVec 32 := 1#32
  let v266 : BitVec 32 := Scalar.subi arg2 c1_i32_146
  let v267 : BitVec 32 := Scalar.subi v266 arg12
  let c1_i32_147 : BitVec 32 := 1#32
  let v268 : BitVec 32 := Scalar.addi v267 c1_i32_147
  let v283 : Index := Scalar.indexCast v268
  let c256_163 : Index := 256#32
  let c0_164 : Index := 0#32
  ![v283.toNat, 256, 0]
def k0_mult3 (i : grid0.Coords) (arg12 : BitVec 32) : BitVec 32 :=
  let arg2 : BitVec 32 := BitVec.ofNat 32 (i 2).val
  let c1_i32_146 : BitVec 32 := 1#32
  let v266 : BitVec 32 := Scalar.subi arg2 c1_i32_146
  let v267 : BitVec 32 := Scalar.subi v266 arg12
  let c1_i32_228 : BitVec 32 := 1#32
  let v423 : BitVec 32 := Scalar.subi v267 c1_i32_228
  let c0_i32_229 : BitVec 32 := 0#32
  let v424 : BitVec 32 := Scalar.maxsi v423 c0_i32_229
  let c512_i32_230 : BitVec 32 := 512#32
  let v425 : BitVec 32 := Scalar.muli v424 c512_i32_230
  v425
def k0_off7 (i : grid0.Coords) (arg12 : BitVec 32) : Fin 3 → Nat :=
  let c0_231 : Index := 0#32
  let arg2 : BitVec 32 := BitVec.ofNat 32 (i 2).val
  let c1_i32_146 : BitVec 32 := 1#32
  let v266 : BitVec 32 := Scalar.subi arg2 c1_i32_146
  let v267 : BitVec 32 := Scalar.subi v266 arg12
  let c1_i32_228 : BitVec 32 := 1#32
  let v423 : BitVec 32 := Scalar.subi v267 c1_i32_228
  let c0_i32_229 : BitVec 32 := 0#32
  let v424 : BitVec 32 := Scalar.maxsi v423 c0_i32_229
  let c512_i32_230 : BitVec 32 := 512#32
  let v425 : BitVec 32 := Scalar.muli v424 c512_i32_230
  let v426 : BitVec 32 := v425
  let v427 : Index := Scalar.indexCast v426
  let c0_232 : Index := 0#32
  ![0, v427.toNat, 0]
def k0_off8 (i : grid0.Coords) (arg12 : BitVec 32) : Fin 3 → Nat :=
  let c0_237 : Index := 0#32
  let arg2 : BitVec 32 := BitVec.ofNat 32 (i 2).val
  let c1_i32_146 : BitVec 32 := 1#32
  let v266 : BitVec 32 := Scalar.subi arg2 c1_i32_146
  let v267 : BitVec 32 := Scalar.subi v266 arg12
  let c1_i32_228 : BitVec 32 := 1#32
  let v423 : BitVec 32 := Scalar.subi v267 c1_i32_228
  let c0_i32_229 : BitVec 32 := 0#32
  let v424 : BitVec 32 := Scalar.maxsi v423 c0_i32_229
  let c512_i32_230 : BitVec 32 := 512#32
  let v425 : BitVec 32 := Scalar.muli v424 c512_i32_230
  let v426 : BitVec 32 := v425
  let v434 : Index := Scalar.indexCast v426
  let c256_238 : Index := 256#32
  ![0, v434.toNat, 256]

def k0_chk1 (i : grid0.Coords) (arg12 : BitVec 32) : Prop :=
  (∀ a, (k0_off5 i arg12) a + S1x256x512.size a ≤ S32x512x512.size a) ∧
  (∀ a, (k0_off6 i arg12) a + S1x256x512.size a ≤ S32x512x512.size a) ∧
  (512 ∣ (k0_mult3 i arg12).toNat) ∧
  (∀ a, (k0_off7 i arg12) a + S1x512x256.size a ≤ S1x16384x512.size a) ∧
  (∀ a, (k0_off8 i arg12) a + S1x512x256.size a ≤ S1x16384x512.size a)
theorem k0_off5_inb : ∀ (i : grid0.Coords) (arg12 : BitVec 32) (k0_hw1 : k0_chk1 i arg12), ∀ a, (k0_off5 i arg12) a + S1x256x512.size a ≤ S32x512x512.size a := fun i arg12 k0_hw1 => k0_hw1.1
theorem k0_off6_inb : ∀ (i : grid0.Coords) (arg12 : BitVec 32) (k0_hw1 : k0_chk1 i arg12), ∀ a, (k0_off6 i arg12) a + S1x256x512.size a ≤ S32x512x512.size a := fun i arg12 k0_hw1 => k0_hw1.2.1
theorem k0_mult3_dvd : ∀ (i : grid0.Coords) (arg12 : BitVec 32) (k0_hw1 : k0_chk1 i arg12), 512 ∣ (k0_mult3 i arg12).toNat := fun i arg12 k0_hw1 => k0_hw1.2.2.1
theorem k0_off7_inb : ∀ (i : grid0.Coords) (arg12 : BitVec 32) (k0_hw1 : k0_chk1 i arg12), ∀ a, (k0_off7 i arg12) a + S1x512x256.size a ≤ S1x16384x512.size a := fun i arg12 k0_hw1 => k0_hw1.2.2.2.1
theorem k0_off8_inb : ∀ (i : grid0.Coords) (arg12 : BitVec 32) (k0_hw1 : k0_chk1 i arg12), ∀ a, (k0_off8 i arg12) a + S1x512x256.size a ≤ S1x16384x512.size a := fun i arg12 k0_hw1 => k0_hw1.2.2.2.2

def k0_off9 (i : grid0.Coords) (v218_0 : BitVec 32) : Fin 3 → Nat :=
  let arg2 : BitVec 32 := BitVec.ofNat 32 (i 2).val
  let v219 : BitVec 32 := Scalar.subi arg2 v218_0
  let v222 : Index := Scalar.indexCast v219
  let c0_107 : Index := 0#32
  let c0_108 : Index := 0#32
  ![v222.toNat, 0, 0]

def k0_off10 (i : grid0.Coords) (v218_0 : BitVec 32) : Fin 3 → Nat :=
  let arg2 : BitVec 32 := BitVec.ofNat 32 (i 2).val
  let v219 : BitVec 32 := Scalar.subi arg2 v218_0
  let v234 : Index := Scalar.indexCast v219
  let c256_119 : Index := 256#32
  let c0_120 : Index := 0#32
  ![v234.toNat, 256, 0]

def k0_chk2 (i : grid0.Coords) (v218_0 : BitVec 32) : Prop :=
  (∀ a, (k0_off9 i v218_0) a + S1x256x512.size a ≤ S32x512x512.size a) ∧
  (∀ a, (k0_off10 i v218_0) a + S1x256x512.size a ≤ S32x512x512.size a)
theorem k0_off9_inb : ∀ (i : grid0.Coords) (v218_0 : BitVec 32) (k0_hw2 : k0_chk2 i v218_0), ∀ a, (k0_off9 i v218_0) a + S1x256x512.size a ≤ S32x512x512.size a := fun i v218_0 k0_hw2 => k0_hw2.1
theorem k0_off10_inb : ∀ (i : grid0.Coords) (v218_0 : BitVec 32) (k0_hw2 : k0_chk2 i v218_0), ∀ a, (k0_off10 i v218_0) a + S1x256x512.size a ≤ S32x512x512.size a := fun i v218_0 k0_hw2 => k0_hw2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S32x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbIdeal.lean ====
variable {F : FTy → Type} [FloatOps F] [Named F]
def κ : String → Option EReal := fun
  | "log2e" => some (((Real.log 2)⁻¹ : ℝ) : EReal)
  | "zero_mass" => some ⊤
  | _ => none
-- ==== SbReferenceIdeal.lean ====
abbrev S2x16384x1024 : Shape := ⟨3, ![2, 16384, 1024]⟩
abbrev S2x16384x4x256 : Shape := ⟨4, ![2, 16384, 4, 256]⟩
abbrev S16384 : Shape := ⟨1, ![16384]⟩
abbrev S2x4x16384x16384 : Shape := ⟨4, ![2, 4, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x256x16384 : Shape := ⟨4, ![2, 4, 256, 16384]⟩

abbrev nBuf : Space → Nat
  | .hbm => 57
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S2x16384x4x256, .f32⟩
  | .hbm, ⟨5, _⟩ => ⟨S2x16384x4x256, .f32⟩
  | .hbm, ⟨6, _⟩ => ⟨S2x16384x4x256, .f32⟩
  | .hbm, ⟨7, _⟩ => ⟨S16384, .i32⟩
  | .hbm, ⟨8, _⟩ => ⟨S2x4x16384x16384, .f32⟩
  | .hbm, ⟨9, _⟩ => ⟨S_, .f32⟩
  | .hbm, ⟨10, _⟩ => ⟨S_, .f32⟩
  | .hbm, ⟨11, _⟩ => ⟨S2x4x16384x16384, .f32⟩
  | .hbm, ⟨12, _⟩ => ⟨S2x4x16384x16384, .f32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S2x4x16384x16384, .f32⟩
  | .hbm, ⟨19, _⟩ => ⟨S_, .f32⟩
  | .hbm, ⟨20, _⟩ => ⟨S2x4x16384x16384, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S_, .f32⟩
  | .hbm, ⟨26, _⟩ => ⟨S2x4x16384x16384, .i1⟩
  | .hbm, ⟨27, _⟩ => ⟨S2x4x16384x16384, .f32⟩
  | .hbm, ⟨28, _⟩ => ⟨S2x4x16384x16384, .f32⟩
  | .hbm, ⟨29, _⟩ => ⟨S16384x1, .i32⟩
  | .hbm, ⟨30, _⟩ => ⟨S1x16384, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S16384x16384, .f32⟩
  | .hbm, ⟨35, _⟩ => ⟨S2x4x16384x16384, .f32⟩
  | .hbm, ⟨36, _⟩ => ⟨S2x4x16384x16384, .f32⟩
  | .hbm, ⟨37, _⟩ => ⟨S2x4x16384x16384, .f32⟩
  | .hbm, ⟨38, _⟩ => ⟨S_, .f32⟩
  | .hbm, ⟨39, _⟩ => ⟨S_, .f32⟩
  | .hbm, ⟨40, _⟩ => ⟨S2x4x16384x16384, .i1⟩
  | .hbm, ⟨41, _⟩ => ⟨S2x4x16384x16384, .f32⟩
  | .hbm, ⟨42, _⟩ => ⟨S2x4x16384x16384, .f32⟩
  | .hbm, ⟨43, _⟩ => ⟨S2x4x256x16384, .f32⟩
  | .hbm, ⟨44, _⟩ => ⟨S2x16384x4x256, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S_, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Spec.lean ====
/- What one grid point of the differential attention kernel computes, as plain functions of vectors: the seven
   scratch vectors of one attention map, the three stages of a step, the recursion over the key blocks, and the block
   the point writes. -/
module

public import proofs.«01_k».proof.Proof.Gen.KernelIdeal.Skeleton

@[expose] public section

noncomputable section

namespace Cert.KernelIdeal.Spec

open Cert.KernelIdeal Cert.KernelIdeal.Gen
open Idealize.ShloMosaic Idealize.ShloMosaic.TcCoe

variable {F : FTy → Type} [FloatOps F] [Named F]

/-- The scratch vectors of one attention map: the scores of a key block, the unnormalised weights, the scores' column
    maxima, the rescaling factor, the running maximum, the running sum, and the unnormalised output. -/
structure Map (F : FTy → Type) where
  s : FVec F S1x512x512 .f32
  p : FVec F S1x512x512 .bf16
  mx : FVec F S1x1x512 .f32
  al : FVec F S1x1x512 .f32
  m : FVec F S1x1x512 .f32
  l : FVec F S1x1x512 .f32
  acc : FVec F S1x256x512 .f32

/-- A step's first stage: the output is rescaled and the pending weights' values are added. -/
def Map.values (vt : Vec F S1x256x512 .bf16) (x : Map F) : Map F :=
  { x with acc := k0_pay216 vt x.al x.acc x.p }

/-- A step's second stage: the weights of the pending scores under the new running maximum. -/
def Map.soft (x : Map F) : Map F :=
  { x with
    l := k0_pay229 x.s x.mx x.m x.l
    p := k0_pay230 x.s x.mx x.m
    al := k0_pay231 (k0_pay228 x.mx x.m)
    m := k0_pay232 (k0_pay226 x.mx x.m) }

/-- A step's third stage: the scores of a key block. -/
def Map.scores (q : FVec F S512x128 .bf16) (k : Vec F S1x512x128 .bf16) (x : Map F) : Map F :=
  { x with s := k0_pay258 q k, mx := k0_pay259 q k }

/-- One step of the loop over the key blocks. -/
def Map.step (q : FVec F S512x128 .bf16) (vt : Vec F S1x256x512 .bf16) (k : Vec F S1x512x128 .bf16) (x : Map F) : Map F :=
  ((x.values vt).soft).scores q k

/-- Which keys of the diagonal block a query sees: those of its own chunk and of the chunks before it. -/
def diagMask : IVec S512x512 1 :=
  k0_pay348 (iota .tc S512x512 32 [1] iota_S512x512_d1_w32) (k0_pay345 (iota .tc S512x512 32 [0] iota_S512x512_d0_w32))
    (k0_pay346 (iota .tc S512x512 32 [0] iota_S512x512_d0_w32)) k0_pay347

/-- The second stage on the diagonal block, under the chunk mask. -/
def Map.softDiag (x : Map F) : Map F :=
  { x with
    l := k0_pay363 (k0_pay361 diagMask x.s x.m) (k0_pay362 diagMask x.s x.m) x.l
    p := k0_pay364 (k0_pay361 diagMask x.s x.m)
    al := k0_pay365 (k0_pay362 diagMask x.s x.m)
    m := k0_pay366 (k0_pay360 diagMask x.s x.m) }

/-- The scratch of one map when a point starts: the running maximum at the mask's value, the sums at zero. The vectors
    a point writes before it reads them are given the same values. -/
def Map.init : Map F where
  s := fun _ => Scalar.ofBits .f32 0x00000000#32
  p := fun _ => Scalar.ofBits .bf16 0x0000#16
  mx := fun _ => Scalar.ofBits .f32 0x00000000#32
  al := fun _ => Scalar.ofBits .f32 0x00000000#32
  m := fun _ => Named.named κ "mask" 0xF149F2CA#32
  l := fun _ => Scalar.ofBits .f32 0x00000000#32
  acc := fun _ => Scalar.ofBits .f32 0x00000000#32

/-- The scratch of one map before the loop: the diagonal block weighted, the first block scored. -/
def Map.start (q : FVec F S512x128 .bf16) (kd k0 : Vec F S1x512x128 .bf16) : Map F :=
  (((Map.init.scores q kd).softDiag).scores q k0)

/-- The scratch of one map before step `i` of query block `qi`: the step takes the values of the block weighted before
    it (the diagonal one first) and scores the next block. -/
def Map.at (qi : ℕ) (q : FVec F S512x128 .bf16) (kb : ℕ → Vec F S1x512x128 .bf16) (vb : ℕ → Vec F S1x256x512 .bf16) : ℕ → Map F
  | 0 => Map.start q (kb qi) (kb 0)
  | i + 1 => (Map.at qi q kb vb i).step q (vb (if i = 0 then qi else i - 1)) (kb (min (i + 1) qi))

/-- The scratch of one map when its output is read: after `qi` steps, the last block's values added. -/
def Map.last (qi : ℕ) (q : FVec F S512x128 .bf16) (kb : ℕ → Vec F S1x512x128 .bf16) (vb : ℕ → Vec F S1x256x512 .bf16) : Map F :=
  (Map.at qi q kb vb qi).values (vb (qi - 1))

/-- A head's output columns from its two maps: the difference of the two normalised outputs, normalised and gated. -/
def finish (lam : Vec F S4x128 .f32) (sw : Vec F S1x256 .f32) (gate : Vec F S1x512x256 .bf16) (x y : Map F) : FVec F S1x512x256 .bf16 :=
  k0_pay1 (k0_pay420 (k0_pay413 lam (k0_pay411 lam) (k0_pay412 lam)) x.acc x.l y.acc y.l) (k0_pay421 sw) (k0_pay422 gate)
    (k0_pay423 (k0_pay413 lam (k0_pay411 lam) (k0_pay412 lam)) x.acc x.l y.acc y.l)

/-- Four slabs stacked along the first axis. -/
def stk {α : Type} {A B : ℕ} (x : Fin 4 → (⟨3, ![1, A, B]⟩ : Shape).Idx → α) : (⟨3, ![4, A, B]⟩ : Shape).Idx → α :=
  fun y => x (y 0) (fun | 0 => (0 : Fin 1) | 1 => y 1 | 2 => y 2)

/-- The keys of block `kb` in the lanes of map `n`. -/
def keys (K : Vec F S1x16384x512 .bf16) (n : Fin 4) (kb : ℕ) : Vec F S1x512x128 .bf16 :=
  fun y => K (fun
    | 0 => (0 : Fin 1)
    | 1 => (⟨(512 * kb + (y 1).val) % 16384, Nat.mod_lt _ (by decide)⟩ : Fin 16384)
    | 2 => (⟨(128 * n.val + (y 2).val) % 512, Nat.mod_lt _ (by decide)⟩ : Fin 512))

/-- The transposed values of block `kb` for the head of map `n`. -/
def vals (V : Vec F S32x512x512 .bf16) (n : Fin 4) (kb : ℕ) : Vec F S1x256x512 .bf16 :=
  fun y => V (fun
    | 0 => (⟨kb % 32, Nat.mod_lt _ (by decide)⟩ : Fin 32)
    | 1 => (⟨(256 * (n.val / 2) + (y 1).val) % 512, Nat.mod_lt _ (by decide)⟩ : Fin 512)
    | 2 => y 2)

/-- The queries of map `n`. -/
def qmap (Q : Vec F S1x512x512 .bf16) (n : Fin 4) : FVec F S512x128 .bf16 :=
  k0_pay324 (fun y : S1x512x128.Idx => Q (fun
    | 0 => (0 : Fin 1)
    | 1 => y 1
    | 2 => (⟨(128 * n.val + (y 2).val) % 512, Nat.mod_lt _ (by decide)⟩ : Fin 512)))

/-- The gate's columns of head `h`. -/
def gcols (G : Vec F S1x512x512 .bf16) (h : Fin 2) : Vec F S1x512x256 .bf16 :=
  fun y => G (fun
    | 0 => (0 : Fin 1)
    | 1 => y 1
    | 2 => (⟨(256 * h.val + (y 2).val) % 512, Nat.mod_lt _ (by decide)⟩ : Fin 512))

/-- The four maps' scratch before step `i` of query block `qi`. -/
def mapsAt (qi : ℕ) (Q : Vec F S1x512x512 .bf16) (K : Vec F S1x16384x512 .bf16) (V : Vec F S32x512x512 .bf16) (i : ℕ) (n : Fin 4) : Map F :=
  Map.at qi (qmap Q n) (keys K n) (vals V n) i

/-- The four maps' scratch when the outputs are read. -/
def mapsLast (qi : ℕ) (Q : Vec F S1x512x512 .bf16) (K : Vec F S1x16384x512 .bf16) (V : Vec F S32x512x512 .bf16) (n : Fin 4) : Map F :=
  Map.last qi (qmap Q n) (keys K n) (vals V n)

/-- The block a grid point of query block `qi` writes, from its blocks of the operands. -/
def outBlk (qi : ℕ) (Q : Vec F S1x512x512 .bf16) (K : Vec F S1x16384x512 .bf16) (V : Vec F S32x512x512 .bf16)
    (G : Vec F S1x512x512 .bf16) (lam : Vec F S4x128 .f32) (sw : Vec F S1x256 .f32) : Vec F S1x512x512 .bf16 :=
  fun y =>
    if (y 2).val < 256 then
      finish lam sw (gcols G 0) (mapsLast qi Q K V 0) (mapsLast qi Q K V 1)
        (fun | 0 => (0 : Fin 1) | 1 => y 1 | 2 => (⟨(y 2).val % 256, Nat.mod_lt _ (by decide)⟩ : Fin 256))
    else
      finish lam sw (gcols G 1) (mapsLast qi Q K V 2) (mapsLast qi Q K V 3)
        (fun | 0 => (0 : Fin 1) | 1 => y 1 | 2 => (⟨(y 2).val % 256, Nat.mod_lt _ (by decide)⟩ : Fin 256))

end Cert.KernelIdeal.Spec

end
-- ==== Proof.Slab.lean ====
/- Buffers of four slabs, held at the stack of the slabs' values: what a load of a slab reads and what a store to a slab
   leaves. -/
module

public import proofs.«01_k».proof.Proof.Spec
public import Idealize.ShloMosaic.Lib.Tactic
public import Idealize.ShloMosaic.Lib.Pipeline.Kit
public import Idealize.ShloMosaic.Lib.VecWindow

@[expose] public section

noncomputable section

namespace Cert.KernelIdeal.Spec

open Cert.KernelIdeal Cert.KernelIdeal.Gen
open Idealize.ShloMosaic Idealize.ShloMosaic.TcCoe

section

variable {sig : RefSig} {κ : Kind} {sp : Space} {e : EltTy} {Val : EltTy → Type} [∀ e, Nonempty (Val e)] {A B : ℕ}

/-- A slab of a stack. -/
theorem window_stk {α : Type} (x : Fin 4 → (⟨3, ![1, A, B]⟩ : Shape).Idx → α) (n : Fin 4)
    (inb : ∀ a, (![n.val, 0, 0] : Fin 3 → ℕ) a + (⟨3, ![1, A, B]⟩ : Shape).size a ≤ (⟨3, ![4, A, B]⟩ : Shape).size a) :
    VecWindow.window (s := ⟨3, ![4, A, B]⟩) (stk x) ![n.val, 0, 0] (⟨3, ![1, A, B]⟩ : Shape).size inb = x n := by
  funext y
  have h0 : (y 0).val = 0 := Nat.lt_one_iff.mp (y 0).isLt
  show x _ _ = x n y
  congr 1
  · congr 1
    apply Fin.ext
    show n.val + 1 * (y 0).val = n.val
    omega
  · funext a
    apply Fin.ext
    match a with
    | 0 => show 0 = (y 0).val; omega
    | 1 => show 0 + 1 * (y 1).val = (y 1).val; omega
    | 2 => show 0 + 1 * (y 2).val = (y 2).val; omega

/-- A load of slab `n` of a buffer held at a stack. -/
theorem readAt_stk (v : View sig κ sp ⟨3, ![4, A, B]⟩ e) (x : Fin 4 → (⟨3, ![1, A, B]⟩ : Shape).Idx → Val e) (n : Fin 4) (off : Fin 3 → ℕ)
    (h : off = ![n.val, 0, 0]) (inb : ∀ a, off a + (⟨3, ![1, A, B]⟩ : Shape).size a ≤ (⟨3, ![4, A, B]⟩ : Shape).size a) :
    v.readAt Val (Rect.unit (s := ⟨3, ![4, A, B]⟩) off (⟨3, ![1, A, B]⟩ : Shape).size inb).toLoadRect (v.rep (stk x)) = x n := by
  subst h
  rw [View.readAt_rep_unit v (stk x) inb rfl inb, window_stk]

/-- A store to slab `n` over contents that read a stack leaves the stack with that slab replaced. -/
theorem read_writes_stk (v : View sig κ sp ⟨3, ![4, A, B]⟩ e) (f : v.ty.Contents Val) (x : Fin 4 → (⟨3, ![1, A, B]⟩ : Shape).Idx → Val e)
    (n : Fin 4) (off : Fin 3 → ℕ) (h : off = ![n.val, 0, 0])
    (inb : ∀ a, off a + (⟨3, ![1, A, B]⟩ : Shape).size a ≤ (⟨3, ![4, A, B]⟩ : Shape).size a)
    (w : (⟨3, ![1, A, B]⟩ : Shape).Idx → Val e) (L : List (View.Piece Val ⟨3, ![4, A, B]⟩ e)) (hL : v.read Val (v.writes Val f L) = stk x) :
    v.read Val (v.writes Val f (⟨Rect.unit (s := ⟨3, ![4, A, B]⟩) off (⟨3, ![1, A, B]⟩ : Shape).size inb, w⟩ :: L))
      = stk (fun k => if k = n then w else x k) := by
  subst h
  rw [View.read_writes_cons_put v f inb w L rfl, hL]
  funext y
  unfold VecWindow.put
  have hb := inb
  by_cases hn : y 0 = n
  · have hm : ∀ a : Fin 3, (![n.val, 0, 0] : Fin 3 → ℕ) a ≤ (y a).val ∧ (y a).val < (![n.val, 0, 0] : Fin 3 → ℕ) a + (⟨3, ![1, A, B]⟩ : Shape).size a := fun a => by
      match a with
      | 0 => exact ⟨by show n.val ≤ (y 0).val; rw [hn], by show (y 0).val < n.val + 1; rw [hn]; omega⟩
      | 1 => exact ⟨Nat.zero_le _, by show (y 1).val < 0 + A; have := (y 1).isLt; rw [Nat.zero_add]; exact this⟩
      | 2 => exact ⟨Nat.zero_le _, by show (y 2).val < 0 + B; have := (y 2).isLt; rw [Nat.zero_add]; exact this⟩
    rw [dif_pos hm]
    refine Eq.trans ?_ (congrFun (show (fun k : Fin 4 => if k = n then w else x k) (y 0) = w from if_pos hn) _).symm
    congr 1
    funext a
    apply Fin.ext
    match a with
    | 0 => show (y 0).val - n.val = 0; rw [hn]; omega
    | 1 => show (y 1).val - 0 = (y 1).val; omega
    | 2 => show (y 2).val - 0 = (y 2).val; omega
  · have hm : ¬ ∀ a : Fin 3, (![n.val, 0, 0] : Fin 3 → ℕ) a ≤ (y a).val ∧ (y a).val < (![n.val, 0, 0] : Fin 3 → ℕ) a + (⟨3, ![1, A, B]⟩ : Shape).size a := fun hall => by
      have := hall 0
      have h1 : n.val ≤ (y 0).val := this.1
      have h2 : (y 0).val < n.val + 1 := this.2
      exact hn (Fin.ext (by omega))
    rw [dif_neg hm]
    exact (congrFun (show (fun k : Fin 4 => if k = n then w else x k) (y 0) = x (y 0) from if_neg hn) _).symm

/-- No store yet: the representative reads its values. -/
theorem read_writes_nil_rep {s : Shape} (v : View sig κ sp s e) (X : s.Idx → Val e) : v.read Val (v.writes Val (v.rep X) []) = X := by
  rw [View.writes_nil, View.read_rep]

end

section

variable {F : FTy → Type} [FloatOps F] [Named F]
variable {κ : Kind} {sp : Space}

/-- Four square slabs stacked. -/
abbrev stkS {e : EltTy} (x : Fin 4 → Vec F S1x512x512 e) : Vec F S4x512x512 e := stk (A := 512) (B := 512) x

/-- Four rows stacked. -/
abbrev stkR {e : EltTy} (x : Fin 4 → Vec F S1x1x512 e) : Vec F S4x1x512 e := stk (A := 1) (B := 512) x

/-- Four half slabs stacked. -/
abbrev stkH {e : EltTy} (x : Fin 4 → Vec F S1x256x512 e) : Vec F S4x256x512 e := stk (A := 256) (B := 512) x

/-- A load of slab `n` of a buffer held at a stack. -/
theorem readAt_stkS {e : EltTy} (v : View sig κ sp S4x512x512 e) (x : Fin 4 → Vec F S1x512x512 e) (n : Fin 4) (off : Fin 3 → ℕ)
    (h : off = ![n.val, 0, 0]) (inb : ∀ a, off a + S1x512x512.size a ≤ S4x512x512.size a) :
    v.readAt (Elt F) (Rect.unit (s := S4x512x512) off S1x512x512.size inb).toLoadRect (v.rep (stkS x)) = x n :=
  readAt_stk (Val := Elt F) (A := 512) (B := 512) v x n off h inb

/-- A store to slab `n` over contents that read a stack leaves the stack with that slab replaced. -/
theorem read_writes_stkS {e : EltTy} (v : View sig κ sp S4x512x512 e) (f : v.ty.Contents (Elt F)) (x : Fin 4 → Vec F S1x512x512 e) (n : Fin 4) (off : Fin 3 → ℕ)
    (h : off = ![n.val, 0, 0]) (inb : ∀ a, off a + S1x512x512.size a ≤ S4x512x512.size a) (w : Vec F S1x512x512 e)
    (L : List (View.Piece (Elt F) S4x512x512 e)) (hL : v.read (Elt F) (v.writes (Elt F) f L) = stkS x) :
    v.read (Elt F) (v.writes (Elt F) f (⟨Rect.unit (s := S4x512x512) off S1x512x512.size inb, w⟩ :: L)) = stkS (fun k => if k = n then w else x k) :=
  read_writes_stk (Val := Elt F) (A := 512) (B := 512) v f x n off h inb w L hL

/-- A load of slab `n` of a buffer held at a stack. -/
theorem readAt_stkR {e : EltTy} (v : View sig κ sp S4x1x512 e) (x : Fin 4 → Vec F S1x1x512 e) (n : Fin 4) (off : Fin 3 → ℕ)
    (h : off = ![n.val, 0, 0]) (inb : ∀ a, off a + S1x1x512.size a ≤ S4x1x512.size a) :
    v.readAt (Elt F) (Rect.unit (s := S4x1x512) off S1x1x512.size inb).toLoadRect (v.rep (stkR x)) = x n :=
  readAt_stk (Val := Elt F) (A := 1) (B := 512) v x n off h inb

/-- A store to slab `n` over contents that read a stack leaves the stack with that slab replaced. -/
theorem read_writes_stkR {e : EltTy} (v : View sig κ sp S4x1x512 e) (f : v.ty.Contents (Elt F)) (x : Fin 4 → Vec F S1x1x512 e) (n : Fin 4) (off : Fin 3 → ℕ)
    (h : off = ![n.val, 0, 0]) (inb : ∀ a, off a + S1x1x512.size a ≤ S4x1x512.size a) (w : Vec F S1x1x512 e)
    (L : List (View.Piece (Elt F) S4x1x512 e)) (hL : v.read (Elt F) (v.writes (Elt F) f L) = stkR x) :
    v.read (Elt F) (v.writes (Elt F) f (⟨Rect.unit (s := S4x1x512) off S1x1x512.size inb, w⟩ :: L)) = stkR (fun k => if k = n then w else x k) :=
  read_writes_stk (Val := Elt F) (A := 1) (B := 512) v f x n off h inb w L hL

/-- A load of slab `n` of a buffer held at a stack. -/
theorem readAt_stkH {e : EltTy} (v : View sig κ sp S4x256x512 e) (x : Fin 4 → Vec F S1x256x512 e) (n : Fin 4) (off : Fin 3 → ℕ)
    (h : off = ![n.val, 0, 0]) (inb : ∀ a, off a + S1x256x512.size a ≤ S4x256x512.size a) :
    v.readAt (Elt F) (Rect.unit (s := S4x256x512) off S1x256x512.size inb).toLoadRect (v.rep (stkH x)) = x n :=
  readAt_stk (Val := Elt F) (A := 256) (B := 512) v x n off h inb

/-- A store to slab `n` over contents that read a stack leaves the stack with that slab replaced. -/
theorem read_writes_stkH {e : EltTy} (v : View sig κ sp S4x256x512 e) (f : v.ty.Contents (Elt F)) (x : Fin 4 → Vec F S1x256x512 e) (n : Fin 4) (off : Fin 3 → ℕ)
    (h : off = ![n.val, 0, 0]) (inb : ∀ a, off a + S1x256x512.size a ≤ S4x256x512.size a) (w : Vec F S1x256x512 e)
    (L : List (View.Piece (Elt F) S4x256x512 e)) (hL : v.read (Elt F) (v.writes (Elt F) f L) = stkH x) :
    v.read (Elt F) (v.writes (Elt F) f (⟨Rect.unit (s := S4x256x512) off S1x256x512.size inb, w⟩ :: L)) = stkH (fun k => if k = n then w else x k) :=
  read_writes_stk (Val := Elt F) (A := 256) (B := 512) v f x n off h inb w L hL

/-- A load of the keys of block `kb` in the lanes of map `n`. -/
theorem readAt_keys (v : View sig κ sp S1x16384x512 .bf16) (K : Vec F S1x16384x512 .bf16) (n : Fin 4) (kb : ℕ) (hk : kb < 32) (off : Fin 3 → ℕ)
    (h : off = ![0, 512 * kb, 128 * n.val]) (inb : ∀ a, off a + S1x512x128.size a ≤ S1x16384x512.size a) :
    v.readAt (Elt F) (Rect.unit (s := S1x16384x512) off S1x512x128.size inb).toLoadRect (v.rep K) = keys K n kb := by
  subst h
  rw [View.readAt_rep_unit v K inb rfl inb]
  funext y
  have h1 : (y 1).val < 512 := (y 1).isLt
  have h2 : (y 2).val < 128 := (y 2).isLt
  refine congrArg K (funext fun a => Fin.ext ?_)
  match a with
  | 0 => show 0 + 1 * (y 0).val = 0; have : (y 0).val < 1 := (y 0).isLt; omega
  | 1 => show 512 * kb + 1 * (y 1).val = (512 * kb + (y 1).val) % 16384; omega
  | 2 => show 128 * n.val + 1 * (y 2).val = (128 * n.val + (y 2).val) % 512; omega

/-- A load of the transposed values of block `kb` for the head of map `n`. -/
theorem readAt_vals (v : View sig κ sp S32x512x512 .bf16) (V : Vec F S32x512x512 .bf16) (n : Fin 4) (kb : ℕ) (hk : kb < 32) (off : Fin 3 → ℕ)
    (h : off = ![kb, 256 * (n.val / 2), 0]) (inb : ∀ a, off a + S1x256x512.size a ≤ S32x512x512.size a) :
    v.readAt (Elt F) (Rect.unit (s := S32x512x512) off S1x256x512.size inb).toLoadRect (v.rep V) = vals V n kb := by
  subst h
  rw [View.readAt_rep_unit v V inb rfl inb]
  funext y
  have h1 : (y 1).val < 256 := (y 1).isLt
  refine congrArg V (funext fun a => Fin.ext ?_)
  match a with
  | 0 => show kb + 1 * (y 0).val = kb % 32; have : (y 0).val < 1 := (y 0).isLt; omega
  | 1 => show 256 * (n.val / 2) + 1 * (y 1).val = (256 * (n.val / 2) + (y 1).val) % 512; omega
  | 2 => show 0 + 1 * (y 2).val = (y 2).val; omega

end

end Cert.KernelIdeal.Spec

end
-- ==== Proof.Scr.lean ====
/- The scratch buffers of a grid point held at the four maps' vectors. -/
module

public import proofs.«01_k».proof.Proof.Slab

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer held whole at the values `X`. -/
abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- The seven scratch buffers at the vectors of the four maps `σ`. -/
abbrev scr (c : Dev nD) (arg10 : Memref sig .tc .vmem S4x512x512 .f32) (arg11 : Memref sig .tc .vmem S4x512x512 .bf16) (arg12 : Memref sig .tc .vmem S4x1x512 .f32) (arg13 : Memref sig .tc .vmem S4x1x512 .f32) (arg14 : Memref sig .tc .vmem S4x1x512 .f32) (arg15 : Memref sig .tc .vmem S4x1x512 .f32) (arg16 : Memref sig .tc .vmem S4x256x512 .f32) (σ : Fin 4 → Map F) : sProp 𝕄 :=
  iprop(pt c arg10 (stkS fun n => (σ n).s) ∗ pt c arg11 (stkS fun n => (σ n).p) ∗ pt c arg12 (stkR fun n => (σ n).mx) ∗ pt c arg13 (stkR fun n => (σ n).al)
    ∗ pt c arg14 (stkR fun n => (σ n).m) ∗ pt c arg15 (stkR fun n => (σ n).l) ∗ pt c arg16 (stkH fun n => (σ n).acc))

/-- A buffer whose four slabs were stored last, held at their stack. -/
theorem pt_stkS (c : Dev nD) {sp : Space} {e : EltTy} (M : Memref sig .tc sp S4x512x512 e) (f : M.view.ty.Contents (Elt F)) (y : Fin 4 → Vec F S1x512x512 e)
    (i0 i1 i2 i3) (w0 w1 w2 w3 : Vec F S1x512x512 e) (L : List (View.Piece (Elt F) S4x512x512 e)) (h0 : w0 = y 0) (h1 : w1 = y 1) (h2 : w2 = y 2) (h3 : w3 = y 3) :
    (M.view.loc (c : Thread nD τ) ↦[M.view.set]{fullShare} M.view.writes (Elt F) f (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L) : sProp 𝕄)
      ⊢ pt c M (stkS y) := by
  refine pointsTo_rep_of_read (c : Thread nD τ) M _ fullShare _ ?_
  have hx : M.view.read (Elt F) (M.view.writes (Elt F) f L)
      = stkS (fun n z => M.view.read (Elt F) (M.view.writes (Elt F) f L) (fun | 0 => n | 1 => z 1 | 2 => z 2)) := by
    funext z
    refine congrArg _ (funext fun a => ?_)
    match a with
    | 0 => rfl
    | 1 => rfl
    | 2 => rfl
  have e := read_writes_stkS M.view f _ 3 ![3, 0, 0] rfl i3 w3 _ (read_writes_stkS M.view f _ 2 ![2, 0, 0] rfl i2 w2 _
    (read_writes_stkS M.view f _ 1 ![1, 0, 0] rfl i1 w1 _ (read_writes_stkS M.view f _ 0 ![0, 0, 0] rfl i0 w0 L hx)))
  refine e.trans (congrArg stkS (funext fun n => ?_))
  match n with
  | 0 => exact h0
  | 1 => exact h1
  | 2 => exact h2
  | 3 => exact h3

/-- A buffer whose four slabs were stored last, held at their stack. -/
theorem pt_stkR (c : Dev nD) {sp : Space} {e : EltTy} (M : Memref sig .tc sp S4x1x512 e) (f : M.view.ty.Contents (Elt F)) (y : Fin 4 → Vec F S1x1x512 e)
    (i0 i1 i2 i3) (w0 w1 w2 w3 : Vec F S1x1x512 e) (L : List (View.Piece (Elt F) S4x1x512 e)) (h0 : w0 = y 0) (h1 : w1 = y 1) (h2 : w2 = y 2) (h3 : w3 = y 3) :
    (M.view.loc (c : Thread nD τ) ↦[M.view.set]{fullShare} M.view.writes (Elt F) f (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L) : sProp 𝕄)
      ⊢ pt c M (stkR y) := by
  refine pointsTo_rep_of_read (c : Thread nD τ) M _ fullShare _ ?_
  have hx : M.view.read (Elt F) (M.view.writes (Elt F) f L)
      = stkR (fun n z => M.view.read (Elt F) (M.view.writes (Elt F) f L) (fun | 0 => n | 1 => z 1 | 2 => z 2)) := by
    funext z
    refine congrArg _ (funext fun a => ?_)
    match a with
    | 0 => rfl
    | 1 => rfl
    | 2 => rfl
  have e := read_writes_stkR M.view f _ 3 ![3, 0, 0] rfl i3 w3 _ (read_writes_stkR M.view f _ 2 ![2, 0, 0] rfl i2 w2 _
    (read_writes_stkR M.view f _ 1 ![1, 0, 0] rfl i1 w1 _ (read_writes_stkR M.view f _ 0 ![0, 0, 0] rfl i0 w0 L hx)))
  refine e.trans (congrArg stkR (funext fun n => ?_))
  match n with
  | 0 => exact h0
  | 1 => exact h1
  | 2 => exact h2
  | 3 => exact h3

/-- A buffer whose four slabs were stored last, held at their stack. -/
theorem pt_stkH (c : Dev nD) {sp : Space} {e : EltTy} (M : Memref sig .tc sp S4x256x512 e) (f : M.view.ty.Contents (Elt F)) (y : Fin 4 → Vec F S1x256x512 e)
    (i0 i1 i2 i3) (w0 w1 w2 w3 : Vec F S1x256x512 e) (L : List (View.Piece (Elt F) S4x256x512 e)) (h0 : w0 = y 0) (h1 : w1 = y 1) (h2 : w2 = y 2) (h3 : w3 = y 3) :
    (M.view.loc (c : Thread nD τ) ↦[M.view.set]{fullShare} M.view.writes (Elt F) f (⟨Rect.unit (s := S4x256x512) ![3, 0, 0] S1x256x512.size i3, w3⟩ :: ⟨Rect.unit (s := S4x256x512) ![2, 0, 0] S1x256x512.size i2, w2⟩ :: ⟨Rect.unit (s := S4x256x512) ![1, 0, 0] S1x256x512.size i1, w1⟩ :: ⟨Rect.unit (s := S4x256x512) ![0, 0, 0] S1x256x512.size i0, w0⟩ :: L) : sProp 𝕄)
      ⊢ pt c M (stkH y) := by
  refine pointsTo_rep_of_read (c : Thread nD τ) M _ fullShare _ ?_
  have hx : M.view.read (Elt F) (M.view.writes (Elt F) f L)
      = stkH (fun n z => M.view.read (Elt F) (M.view.writes (Elt F) f L) (fun | 0 => n | 1 => z 1 | 2 => z 2)) := by
    funext z
    refine congrArg _ (funext fun a => ?_)
    match a with
    | 0 => rfl
    | 1 => rfl
    | 2 => rfl
  have e := read_writes_stkH M.view f _ 3 ![3, 0, 0] rfl i3 w3 _ (read_writes_stkH M.view f _ 2 ![2, 0, 0] rfl i2 w2 _
    (read_writes_stkH M.view f _ 1 ![1, 0, 0] rfl i1 w1 _ (read_writes_stkH M.view f _ 0 ![0, 0, 0] rfl i0 w0 L hx)))
  refine e.trans (congrArg stkH (funext fun n => ?_))
  match n with
  | 0 => exact h0
  | 1 => exact h1
  | 2 => exact h2
  | 3 => exact h3

end Cert.KernelIdeal.Spec

end
-- ==== Proof.Ends.lean ====
/- The first reads, the whole stores and the output stores of a grid point. -/
module

public import proofs.«01_k».proof.Proof.Scr

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query lanes of map `n`. -/
def qwin (Q : Vec F S1x512x512 .bf16) (n : Fin 4) : Vec F S1x512x128 .bf16 :=
  fun y : S1x512x128.Idx => Q (fun
    | 0 => (0 : Fin 1)
    | 1 => y 1
    | 2 => (⟨(128 * n.val + (y 2).val) % 512, Nat.mod_lt _ (by decide)⟩ : Fin 512))

/-- A load of a map's query lanes. -/
theorem readAt_qwin {κ : Kind} {sp : Space} (v : View sig κ sp S1x512x512 .bf16) (Q : Vec F S1x512x512 .bf16) (n : Fin 4) (off : Fin 3 → ℕ)
    (h : off = ![0, 0, 128 * n.val]) (inb : ∀ a, off a + S1x512x128.size a ≤ S1x512x512.size a) :
    v.readAt (Elt F) (Rect.unit (s := S1x512x512) off S1x512x128.size inb).toLoadRect (v.rep Q) = qwin Q n := by
  subst h
  rw [View.readAt_rep_unit v Q inb rfl inb]
  funext y
  show Q _ = Q _
  congr 1
  have h0 : (y 0).val = 0 := Nat.lt_one_iff.mp (y 0).isLt
  have h2 : (y 2).val < 128 := (y 2).isLt
  have hn := n.isLt
  funext a
  apply Fin.ext
  match a with
  | 0 => show 0 + 1 * (y 0).val = 0; omega
  | 1 => show 0 + 1 * (y 1).val = (y 1).val; omega
  | 2 => show 128 * n.val + 1 * (y 2).val = (128 * n.val + (y 2).val) % 512; omega

/-- A load of a head's gate columns. -/
theorem readAt_gcols {κ : Kind} {sp : Space} (v : View sig κ sp S1x512x512 .bf16) (G : Vec F S1x512x512 .bf16) (h : Fin 2) (off : Fin 3 → ℕ)
    (ho : off = ![0, 0, 256 * h.val]) (inb : ∀ a, off a + S1x512x256.size a ≤ S1x512x512.size a) :
    v.readAt (Elt F) (Rect.unit (s := S1x512x512) off S1x512x256.size inb).toLoadRect (v.rep G) = gcols G h := by
  subst ho
  rw [View.readAt_rep_unit v G inb rfl inb]
  funext y
  show G _ = G _
  congr 1
  have h0 : (y 0).val = 0 := Nat.lt_one_iff.mp (y 0).isLt
  have h2 : (y 2).val < 256 := (y 2).isLt
  have hn := h.isLt
  funext a
  apply Fin.ext
  match a with
  | 0 => show 0 + 1 * (y 0).val = 0; omega
  | 1 => show 0 + 1 * (y 1).val = (y 1).val; omega
  | 2 => show 256 * h.val + 1 * (y 2).val = (256 * h.val + (y 2).val) % 512; omega

/-- A buffer stored whole. -/
theorem pt_full (c : Dev nD) {sp : Space} {s : Shape} {e : EltTy} (M : Memref sig .tc sp s e) (f : M.view.ty.Contents (Elt F)) (y : Vec F s e)
    (off : Fin s.rank → ℕ) (inb : ∀ a, off a + s.size a ≤ s.size a) (w : Vec F s e) (L : List (View.Piece (Elt F) s e)) (h : w = y) :
    (M.view.loc (c : Thread nD τ) ↦[M.view.set]{fullShare} M.view.writes (Elt F) f (⟨Rect.unit (s := s) off s.size inb, w⟩ :: L) : sProp 𝕄)
      ⊢ pt c M y :=
  pointsTo_rep_of_read (c : Thread nD τ) M _ fullShare _ ((View.read_writes_full M.view f inb w L).trans h)

/-- Two halves of the output block side by side. -/
def halves {e : EltTy} (a b : Vec F S1x512x256 e) : Vec F S1x512x512 e :=
  fun y =>
    if (y 2).val < 256 then a (fun | 0 => (0 : Fin 1) | 1 => y 1 | 2 => (⟨(y 2).val % 256, Nat.mod_lt _ (by decide)⟩ : Fin 256))
    else b (fun | 0 => (0 : Fin 1) | 1 => y 1 | 2 => (⟨(y 2).val % 256, Nat.mod_lt _ (by decide)⟩ : Fin 256))

/-- A block whose two halves were stored, held at both. -/
theorem pt_halves (c : Dev nD) {sp : Space} {e : EltTy} (M : Memref sig .tc sp S1x512x512 e) (f : M.view.ty.Contents (Elt F)) (a b : Vec F S1x512x256 e)
    (i0 i1) (w0 w1 : Vec F S1x512x256 e) (h0 : w0 = a) (h1 : w1 = b) :
    (M.view.loc (c : Thread nD τ) ↦[M.view.set]{fullShare} M.view.writes (Elt F) f [⟨Rect.unit (s := S1x512x512) ![0, 0, 256] S1x512x256.size i1, w1⟩, ⟨Rect.unit (s := S1x512x512) ![0, 0, 0] S1x512x256.size i0, w0⟩] : sProp 𝕄)
      ⊢ pt c M (halves a b) := by
  subst h0 h1
  refine pointsTo_rep_of_read (c : Thread nD τ) M _ fullShare _ ?_
  rw [View.read_writes_cons_put M.view f i1 w1 _ rfl, View.read_writes_cons_put M.view f i0 w0 _ rfl]
  funext y
  have hy0 : (y 0).val = 0 := Nat.lt_one_iff.mp (y 0).isLt
  have hy1 : (y 1).val < 512 := (y 1).isLt
  have hy2 : (y 2).val < 512 := (y 2).isLt
  unfold halves
  by_cases hc : (y 2).val < 256
  · rw [if_pos hc]
    unfold VecWindow.put
    rw [dif_neg (fun hall => by
      have h2 : 256 ≤ (y 2).val := (hall 2).1
      omega)]
    have hm : ∀ a : Fin 3, (![0, 0, 0] : Fin 3 → ℕ) a ≤ (y a).val ∧ (y a).val < (![0, 0, 0] : Fin 3 → ℕ) a + S1x512x256.size a := fun a => by
      match a with
      | 0 => exact ⟨Nat.zero_le _, by show (y 0).val < 0 + 1; omega⟩
      | 1 => exact ⟨Nat.zero_le _, by show (y 1).val < 0 + 512; omega⟩
      | 2 => exact ⟨Nat.zero_le _, by show (y 2).val < 0 + 256; omega⟩
    rw [dif_pos hm]
    congr 1
    funext a
    apply Fin.ext
    match a with
    | 0 => show (y 0).val - 0 = 0; omega
    | 1 => show (y 1).val - 0 = (y 1).val; omega
    | 2 => show (y 2).val - 0 = (y 2).val % 256; omega
  · rw [if_neg hc]
    unfold VecWindow.put
    have hm : ∀ a : Fin 3, (![0, 0, 256] : Fin 3 → ℕ) a ≤ (y a).val ∧ (y a).val < (![0, 0, 256] : Fin 3 → ℕ) a + S1x512x256.size a := fun a => by
      match a with
      | 0 => exact ⟨Nat.zero_le _, by show (y 0).val < 0 + 1; omega⟩
      | 1 => exact ⟨Nat.zero_le _, by show (y 1).val < 0 + 512; omega⟩
      | 2 => exact ⟨by show 256 ≤ (y 2).val; omega, by show (y 2).val < 256 + 256; omega⟩
    rw [dif_pos hm]
    congr 1
    funext a
    apply Fin.ext
    match a with
    | 0 => show (y 0).val - 0 = 0; omega
    | 1 => show (y 1).val - 0 = (y 1).val; omega
    | 2 => show (y 2).val - 256 = (y 2).val % 256; omega

/-- The block a point writes is its two heads side by side. -/
theorem outBlk_halves (qi : ℕ) (Q : Vec F S1x512x512 .bf16) (K : Vec F S1x16384x512 .bf16) (V : Vec F S32x512x512 .bf16)
    (G : Vec F S1x512x512 .bf16) (lam : Vec F S4x128 .f32) (sw : Vec F S1x256 .f32) :
    outBlk qi Q K V G lam sw = halves (finish lam sw (gcols G 0) (mapsLast qi Q K V 0) (mapsLast qi Q K V 1))
      (finish lam sw (gcols G 1) (mapsLast qi Q K V 2) (mapsLast qi Q K V 3)) := rfl

/-- The column maxima of the scores are the same computation for every map. -/
theorem mxA_0 (q : FVec F S512x128 .bf16) (k : Vec F S1x512x128 .bf16) : k0_pay334 q (k0_pay331 k) = k0_pay259 q k := by
  delta k0_pay334 k0_pay332 k0_pay331 k0_pay259 k0_pay257; rfl

/-- The column maxima of the scores are the same computation for every map. -/
theorem mxA_1 (q : FVec F S512x128 .bf16) (k : Vec F S1x512x128 .bf16) : k0_pay337 q k = k0_pay259 q k := by
  delta k0_pay337 k0_pay335 k0_pay259 k0_pay257; rfl

/-- The column maxima of the scores are the same computation for every map. -/
theorem mxA_2 (q : FVec F S512x128 .bf16) (k : Vec F S1x512x128 .bf16) : k0_pay341 (k0_pay340 q k) = k0_pay259 q k := by
  delta k0_pay341 k0_pay340 k0_pay338 k0_pay259 k0_pay257; rfl

/-- The column maxima of the scores are the same computation for every map. -/
theorem mxA_3 (q : FVec F S512x128 .bf16) (k : Vec F S1x512x128 .bf16) : k0_pay344 q k = k0_pay259 q k := by
  delta k0_pay344 k0_pay342 k0_pay259 k0_pay257; rfl

/-- The column maxima of the scores are the same computation for every map. -/
theorem mxB_0 (q : FVec F S512x128 .bf16) (k : Vec F S1x512x128 .bf16) : k0_pay388 (k0_pay387 q k) = k0_pay259 q k := by
  delta k0_pay388 k0_pay387 k0_pay385 k0_pay259 k0_pay257; rfl

/-- The column maxima of the scores are the same computation for every map. -/
theorem mxB_1 (q : FVec F S512x128 .bf16) (k : Vec F S1x512x128 .bf16) : k0_pay391 q k = k0_pay259 q k := by
  delta k0_pay391 k0_pay389 k0_pay259 k0_pay257; rfl

/-- The column maxima of the scores are the same computation for every map. -/
theorem mxB_2 (q : FVec F S512x128 .bf16) (k : Vec F S1x512x128 .bf16) : k0_pay394 q k = k0_pay259 q k := by
  delta k0_pay394 k0_pay392 k0_pay259 k0_pay257; rfl

/-- The column maxima of the scores are the same computation for every map. -/
theorem mxB_3 (q : FVec F S512x128 .bf16) (k : Vec F S1x512x128 .bf16) : k0_pay397 (k0_pay395 q k) = k0_pay259 q k := by
  delta k0_pay397 k0_pay395 k0_pay259 k0_pay257; rfl

end Cert.KernelIdeal.Spec

end
-- ==== Proof.Closed.lean ====
/- The loops' trip counts and the windows' offsets in closed form, of the query block's number and the trip. -/
module

public import proofs.«01_k».proof.Proof.Gen.KernelIdeal.Skeleton

@[expose] public section

set_option maxRecDepth 16384

noncomputable section

namespace Cert.KernelIdeal.Spec

open Cert.KernelIdeal Cert.KernelIdeal.Gen
open Idealize.ShloMosaic Idealize.ShloMosaic.TcCoe

/-- The first key row step `b` scores, as the kernel computes it. -/
def kword (b q : BitVec 32) : ℕ := (Scalar.indexCast (Scalar.muli (Scalar.minsi (Scalar.addi b 1#32) q) 512#32) : Index).toNat

/-- The block whose values step `b` adds, as the kernel computes it. -/
def vword (b q : BitVec 32) : ℕ := (Scalar.indexCast (Scalar.select (Scalar.cmpi .eq b 0#32) q (Scalar.subi b 1#32)) : Index).toNat

/-- The step a trip of the single-step loop takes, as the kernel computes it. -/
def step3 (q : BitVec 32) (t : ℕ) : BitVec 32 := Scf.iv (Scalar.muli 2#32 (Scalar.shrui q 1#32)) 1#32 t

/-- The first step a trip of the paired loop takes, as the kernel computes it. -/
def step1 (t : ℕ) : BitVec 32 := Scalar.muli 2#32 (Scf.iv 0#32 1#32 t)

/-- The block whose values are added before the outputs are read, as the kernel computes it. -/
def lastword (q : BitVec 32) : ℕ := (Scalar.indexCast (Scalar.maxsi (Scalar.subi q 1#32) 0#32) : Index).toNat

/-- The first key row of the diagonal block, as the kernel computes it. -/
def diagword (q : BitVec 32) : ℕ := (Scalar.indexCast (Scalar.muli q 512#32) : Index).toNat

/-- The words above in closed form. -/
theorem kword3_eq : ∀ (q : Fin 32) (t : Fin 2), kword (step3 (BitVec.ofNat 32 q.val) t.val) (BitVec.ofNat 32 q.val) = 512 * min (2 * (q.val / 2) + t.val + 1) q.val := by decide +kernel
/-- The words above in closed form. -/
theorem kword1_eq : ∀ (q : Fin 32) (t : Fin 16), kword (step1 t.val) (BitVec.ofNat 32 q.val) = 512 * min (2 * t.val + 1) q.val := by decide +kernel
/-- The words above in closed form. -/
theorem kword2_eq : ∀ (q : Fin 32) (t : Fin 16), kword (Scalar.addi (step1 t.val) 1#32) (BitVec.ofNat 32 q.val) = 512 * min (2 * t.val + 1 + 1) q.val := by decide +kernel
/-- The words above in closed form. -/
theorem vword3_eq : ∀ (q : Fin 32) (t : Fin 2), vword (step3 (BitVec.ofNat 32 q.val) t.val) (BitVec.ofNat 32 q.val) = if 2 * (q.val / 2) + t.val = 0 then q.val else 2 * (q.val / 2) + t.val - 1 := by decide +kernel
/-- The words above in closed form. -/
theorem vword1_eq : ∀ (q : Fin 32) (t : Fin 16), vword (step1 t.val) (BitVec.ofNat 32 q.val) = if 2 * t.val = 0 then q.val else 2 * t.val - 1 := by decide +kernel
/-- The words above in closed form. -/
theorem vword2_eq : ∀ (q : Fin 32) (t : Fin 16), vword (Scalar.addi (step1 t.val) 1#32) (BitVec.ofNat 32 q.val) = if 2 * t.val + 1 = 0 then q.val else 2 * t.val + 1 - 1 := by decide +kernel
/-- The words above in closed form. -/
theorem lastword_eq : ∀ (q : Fin 32), lastword (BitVec.ofNat 32 q.val) = q.val - 1 := by decide +kernel
/-- The words above in closed form. -/
theorem diagword_eq : ∀ (q : Fin 32), diagword (BitVec.ofNat 32 q.val) = 512 * q.val := by decide +kernel

/-- The trip count of loop 1 of a query block. -/
theorem trips1_word : ∀ q : Fin 32, (⟨0#32, Scalar.addi 0#32 (Scalar.muli (Scalar.divsi (Scalar.subi (Scalar.shrui (BitVec.ofNat 32 q.val) 1#32) 0#32) 1#32) 1#32), 1#32⟩ : Scf.Loop 32).trips = q.val / 2 := by decide +kernel

/-- The trip count of loop 1. -/
theorem trips1 (i : grid0.Coords) : (k0_t1_loop i).trips = (i 2).val / 2 := trips1_word (i 2)

/-- The trip count of loop 2 of a query block. -/
theorem trips2_word : ∀ q : Fin 32, (⟨Scalar.addi 0#32 (Scalar.muli (Scalar.divsi (Scalar.subi (Scalar.shrui (BitVec.ofNat 32 q.val) 1#32) 0#32) 1#32) 1#32), Scalar.addi 0#32 (Scalar.subi (Scalar.shrui (BitVec.ofNat 32 q.val) 1#32) 0#32), 1#32⟩ : Scf.Loop 32).trips = 0 := by decide +kernel

/-- The trip count of loop 2. -/
theorem trips2 (i : grid0.Coords) : (k0_t2_loop i).trips = 0 := trips2_word (i 2)

/-- The trip count of loop 3 of a query block. -/
theorem trips3_word : ∀ q : Fin 32, (⟨Scalar.muli 2#32 (Scalar.shrui (BitVec.ofNat 32 q.val) 1#32), Scalar.addi (Scalar.muli 2#32 (Scalar.shrui (BitVec.ofNat 32 q.val) 1#32)) (Scalar.muli (Scalar.divsi (Scalar.subi (BitVec.ofNat 32 q.val) (Scalar.muli 2#32 (Scalar.shrui (BitVec.ofNat 32 q.val) 1#32))) 1#32) 1#32), 1#32⟩ : Scf.Loop 32).trips = q.val % 2 := by decide +kernel

/-- The trip count of loop 3. -/
theorem trips3 (i : grid0.Coords) : (k0_t3_loop i).trips = (i 2).val % 2 := trips3_word (i 2)

/-- The trip count of loop 4 of a query block. -/
theorem trips4_word : ∀ q : Fin 32, (⟨Scalar.addi (Scalar.muli 2#32 (Scalar.shrui (BitVec.ofNat 32 q.val) 1#32)) (Scalar.muli (Scalar.divsi (Scalar.subi (BitVec.ofNat 32 q.val) (Scalar.muli 2#32 (Scalar.shrui (BitVec.ofNat 32 q.val) 1#32))) 1#32) 1#32), Scalar.addi (Scalar.muli 2#32 (Scalar.shrui (BitVec.ofNat 32 q.val) 1#32)) (Scalar.subi (BitVec.ofNat 32 q.val) (Scalar.muli 2#32 (Scalar.shrui (BitVec.ofNat 32 q.val) 1#32))), 1#32⟩ : Scf.Loop 32).trips = 0 := by decide +kernel

/-- The trip count of loop 4. -/
theorem trips4 (i : grid0.Coords) : (k0_t4_loop i).trips = 0 := trips4_word (i 2)

/-- A trip of the single-step loop is the first. -/
theorem lt3 (i : grid0.Coords) (t : Fin (k0_t3_loop i).trips) : t.val < 2 := by
  have h := t.isLt
  have e := trips3 i
  omega

/-- A trip of the paired loop is one of the first sixteen. -/
theorem lt1 (i : grid0.Coords) (t : Fin (k0_t1_loop i).trips) : t.val < 16 := by
  have h := t.isLt
  have e := trips1 i
  have : (i 2).val < 32 := (i 2).isLt
  omega

/-- The window's offsets in closed form. -/
theorem off_d0 (i : grid0.Coords) : k0_off1 i = ![0, 512 * (i 2).val, 0] :=
  congrArg (fun x : ℕ => (![0, x, 0] : Fin 3 → ℕ)) (diagword_eq (i 2))
/-- The window's offsets in closed form. -/
theorem off_k3_0 (i : grid0.Coords) (t : Fin (k0_t3_loop i).trips) : k0_off31 i t = ![0, 512 * min (2 * ((i 2).val / 2) + t.val + 1) (i 2).val, 0] :=
  congrArg (fun x : ℕ => (![0, x, 0] : Fin 3 → ℕ)) (kword3_eq (i 2) ⟨t.val, lt3 i t⟩)
/-- The window's offsets in closed form. -/
theorem off_k1_0 (i : grid0.Coords) (t : Fin (k0_t1_loop i).trips) : k0_off7 i t = ![0, 512 * min (2 * t.val + 1) (i 2).val, 0] :=
  congrArg (fun x : ℕ => (![0, x, 0] : Fin 3 → ℕ)) (kword1_eq (i 2) ⟨t.val, lt1 i t⟩)
/-- The window's offsets in closed form. -/
theorem off_k2_0 (i : grid0.Coords) (t : Fin (k0_t1_loop i).trips) : k0_off13 i t = ![0, 512 * min (2 * t.val + 1 + 1) (i 2).val, 0] :=
  congrArg (fun x : ℕ => (![0, x, 0] : Fin 3 → ℕ)) (kword2_eq (i 2) ⟨t.val, lt1 i t⟩)
/-- The window's offsets in closed form. -/
theorem off_d1 (i : grid0.Coords) : k0_off2 i = ![0, 512 * (i 2).val, 128] :=
  congrArg (fun x : ℕ => (![0, x, 128] : Fin 3 → ℕ)) (diagword_eq (i 2))
/-- The window's offsets in closed form. -/
theorem off_k3_1 (i : grid0.Coords) (t : Fin (k0_t3_loop i).trips) : k0_off32 i t = ![0, 512 * min (2 * ((i 2).val / 2) + t.val + 1) (i 2).val, 128] :=
  congrArg (fun x : ℕ => (![0, x, 128] : Fin 3 → ℕ)) (kword3_eq (i 2) ⟨t.val, lt3 i t⟩)
/-- The window's offsets in closed form. -/
theorem off_k1_1 (i : grid0.Coords) (t : Fin (k0_t1_loop i).trips) : k0_off8 i t = ![0, 512 * min (2 * t.val + 1) (i 2).val, 128] :=
  congrArg (fun x : ℕ => (![0, x, 128] : Fin 3 → ℕ)) (kword1_eq (i 2) ⟨t.val, lt1 i t⟩)
/-- The window's offsets in closed form. -/
theorem off_k2_1 (i : grid0.Coords) (t : Fin (k0_t1_loop i).trips) : k0_off14 i t = ![0, 512 * min (2 * t.val + 1 + 1) (i 2).val, 128] :=
  congrArg (fun x : ℕ => (![0, x, 128] : Fin 3 → ℕ)) (kword2_eq (i 2) ⟨t.val, lt1 i t⟩)
/-- The window's offsets in closed form. -/
theorem off_d2 (i : grid0.Coords) : k0_off3 i = ![0, 512 * (i 2).val, 256] :=
  congrArg (fun x : ℕ => (![0, x, 256] : Fin 3 → ℕ)) (diagword_eq (i 2))
/-- The window's offsets in closed form. -/
theorem off_k3_2 (i : grid0.Coords) (t : Fin (k0_t3_loop i).trips) : k0_off33 i t = ![0, 512 * min (2 * ((i 2).val / 2) + t.val + 1) (i 2).val, 256] :=
  congrArg (fun x : ℕ => (![0, x, 256] : Fin 3 → ℕ)) (kword3_eq (i 2) ⟨t.val, lt3 i t⟩)
/-- The window's offsets in closed form. -/
theorem off_k1_2 (i : grid0.Coords) (t : Fin (k0_t1_loop i).trips) : k0_off9 i t = ![0, 512 * min (2 * t.val + 1) (i 2).val, 256] :=
  congrArg (fun x : ℕ => (![0, x, 256] : Fin 3 → ℕ)) (kword1_eq (i 2) ⟨t.val, lt1 i t⟩)
/-- The window's offsets in closed form. -/
theorem off_k2_2 (i : grid0.Coords) (t : Fin (k0_t1_loop i).trips) : k0_off15 i t = ![0, 512 * min (2 * t.val + 1 + 1) (i 2).val, 256] :=
  congrArg (fun x : ℕ => (![0, x, 256] : Fin 3 → ℕ)) (kword2_eq (i 2) ⟨t.val, lt1 i t⟩)
/-- The window's offsets in closed form. -/
theorem off_d3 (i : grid0.Coords) : k0_off4 i = ![0, 512 * (i 2).val, 384] :=
  congrArg (fun x : ℕ => (![0, x, 384] : Fin 3 → ℕ)) (diagword_eq (i 2))
/-- The window's offsets in closed form. -/
theorem off_k3_3 (i : grid0.Coords) (t : Fin (k0_t3_loop i).trips) : k0_off34 i t = ![0, 512 * min (2 * ((i 2).val / 2) + t.val + 1) (i 2).val, 384] :=
  congrArg (fun x : ℕ => (![0, x, 384] : Fin 3 → ℕ)) (kword3_eq (i 2) ⟨t.val, lt3 i t⟩)
/-- The window's offsets in closed form. -/
theorem off_k1_3 (i : grid0.Coords) (t : Fin (k0_t1_loop i).trips) : k0_off10 i t = ![0, 512 * min (2 * t.val + 1) (i 2).val, 384] :=
  congrArg (fun x : ℕ => (![0, x, 384] : Fin 3 → ℕ)) (kword1_eq (i 2) ⟨t.val, lt1 i t⟩)
/-- The window's offsets in closed form. -/
theorem off_k2_3 (i : grid0.Coords) (t : Fin (k0_t1_loop i).trips) : k0_off16 i t = ![0, 512 * min (2 * t.val + 1 + 1) (i 2).val, 384] :=
  congrArg (fun x : ℕ => (![0, x, 384] : Fin 3 → ℕ)) (kword2_eq (i 2) ⟨t.val, lt1 i t⟩)
/-- The window's offsets in closed form. -/
theorem off_v3_0 (i : grid0.Coords) (t : Fin (k0_t3_loop i).trips) : k0_off29 i t = ![if 2 * ((i 2).val / 2) + t.val = 0 then (i 2).val else 2 * ((i 2).val / 2) + t.val - 1, 0, 0] :=
  congrArg (fun x : ℕ => (![x, 0, 0] : Fin 3 → ℕ)) (vword3_eq (i 2) ⟨t.val, lt3 i t⟩)
/-- The window's offsets in closed form. -/
theorem off_v1_0 (i : grid0.Coords) (t : Fin (k0_t1_loop i).trips) : k0_off5 i t = ![if 2 * t.val = 0 then (i 2).val else 2 * t.val - 1, 0, 0] :=
  congrArg (fun x : ℕ => (![x, 0, 0] : Fin 3 → ℕ)) (vword1_eq (i 2) ⟨t.val, lt1 i t⟩)
/-- The window's offsets in closed form. -/
theorem off_v2_0 (i : grid0.Coords) (t : Fin (k0_t1_loop i).trips) : k0_off11 i t = ![if 2 * t.val + 1 = 0 then (i 2).val else 2 * t.val + 1 - 1, 0, 0] :=
  congrArg (fun x : ℕ => (![x, 0, 0] : Fin 3 → ℕ)) (vword2_eq (i 2) ⟨t.val, lt1 i t⟩)
/-- The window's offsets in closed form. -/
theorem off_l0 (i : grid0.Coords) : k0_off41 i = ![(i 2).val - 1, 0, 0] :=
  congrArg (fun x : ℕ => (![x, 0, 0] : Fin 3 → ℕ)) (lastword_eq (i 2))
/-- The window's offsets in closed form. -/
theorem off_v3_1 (i : grid0.Coords) (t : Fin (k0_t3_loop i).trips) : k0_off30 i t = ![if 2 * ((i 2).val / 2) + t.val = 0 then (i 2).val else 2 * ((i 2).val / 2) + t.val - 1, 256, 0] :=
  congrArg (fun x : ℕ => (![x, 256, 0] : Fin 3 → ℕ)) (vword3_eq (i 2) ⟨t.val, lt3 i t⟩)
/-- The window's offsets in closed form. -/
theorem off_v1_1 (i : grid0.Coords) (t : Fin (k0_t1_loop i).trips) : k0_off6 i t = ![if 2 * t.val = 0 then (i 2).val else 2 * t.val - 1, 256, 0] :=
  congrArg (fun x : ℕ => (![x, 256, 0] : Fin 3 → ℕ)) (vword1_eq (i 2) ⟨t.val, lt1 i t⟩)
/-- The window's offsets in closed form. -/
theorem off_v2_1 (i : grid0.Coords) (t : Fin (k0_t1_loop i).trips) : k0_off12 i t = ![if 2 * t.val + 1 = 0 then (i 2).val else 2 * t.val + 1 - 1, 256, 0] :=
  congrArg (fun x : ℕ => (![x, 256, 0] : Fin 3 → ℕ)) (vword2_eq (i 2) ⟨t.val, lt1 i t⟩)
/-- The window's offsets in closed form. -/
theorem off_l1 (i : grid0.Coords) : k0_off42 i = ![(i 2).val - 1, 256, 0] :=
  congrArg (fun x : ℕ => (![x, 256, 0] : Fin 3 → ℕ)) (lastword_eq (i 2))

end Cert.KernelIdeal.Spec

end
-- ==== Proof.Trip1.lean ====
/- One trip of the paired loop over the key blocks. -/
module

public import proofs.«01_k».proof.Proof.Scr

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The column maxima of the scores are the same computation for every map. -/
theorem mx1_0 (q : FVec F S512x128 .bf16) (k : Vec F S1x512x128 .bf16) : k0_pay49 q k = k0_pay259 q k := by
  delta k0_pay49 k0_pay47 k0_pay259 k0_pay257; rfl

/-- The column maxima of the scores are the same computation for every map. -/
theorem mx1_1 (q : FVec F S512x128 .bf16) (k : Vec F S1x512x128 .bf16) : k0_pay52 (k0_pay50 q k) = k0_pay259 q k := by
  delta k0_pay52 k0_pay50 k0_pay259 k0_pay257; rfl

/-- The column maxima of the scores are the same computation for every map. -/
theorem mx1_2 (q : FVec F S512x128 .bf16) (k : Vec F S1x512x128 .bf16) : k0_pay55 q k = k0_pay259 q k := by
  delta k0_pay55 k0_pay53 k0_pay259 k0_pay257; rfl

/-- The column maxima of the scores are the same computation for every map. -/
theorem mx1_3 (q : FVec F S512x128 .bf16) (k : Vec F S1x512x128 .bf16) : k0_pay58 q k = k0_pay259 q k := by
  delta k0_pay58 k0_pay56 k0_pay259 k0_pay257; rfl

/-- The column maxima of the scores are the same computation for every map. -/
theorem mx2_0 (q : FVec F S512x128 .bf16) (k : Vec F S1x512x128 .bf16) : k0_pay101 q k = k0_pay259 q k := by
  delta k0_pay101 k0_pay99 k0_pay259 k0_pay257; rfl

/-- The column maxima of the scores are the same computation for every map. -/
theorem mx2_1 (q : FVec F S512x128 .bf16) (k : Vec F S1x512x128 .bf16) : k0_pay104 (k0_pay102 q k) = k0_pay259 q k := by
  delta k0_pay104 k0_pay102 k0_pay259 k0_pay257; rfl

/-- The column maxima of the scores are the same computation for every map. -/
theorem mx2_2 (q : FVec F S512x128 .bf16) (k : Vec F S1x512x128 .bf16) : k0_pay107 q k = k0_pay259 q k := by
  delta k0_pay107 k0_pay105 k0_pay259 k0_pay257; rfl

/-- The column maxima of the scores are the same computation for every map. -/
theorem mx2_3 (q : FVec F S512x128 .bf16) (k : Vec F S1x512x128 .bf16) : k0_pay399 (k0_pay108 q k) = k0_pay259 q k := by
  delta k0_pay399 k0_pay108 k0_pay259 k0_pay257; rfl

/-- One trip of the paired loop takes the scratch of the four maps two steps on. -/
theorem trip1 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole) (arg2 : BitVec 32) (v1 v3 v5 v7 : FVec F S512x128 .bf16) (v293 : FVec F S512x512 .f32)
    (K : Vec F S1x16384x512 .bf16) (V : Vec F S32x512x512 .bf16) (σ : Fin 4 → Map F) (t : Fin (k0_t1_loop i).trips) (kb vb kb' vb' : ℕ) (hk : kb < 32) (hv : vb < 32) (hk' : kb' < 32) (hv' : vb' < 32)
    (hk0 : k0_off7 i t = ![0, 512 * kb, 0]) (hk1 : k0_off8 i t = ![0, 512 * kb, 128]) (hk2 : k0_off9 i t = ![0, 512 * kb, 256]) (hk3 : k0_off10 i t = ![0, 512 * kb, 384])
    (hv0 : k0_off5 i t = ![vb, 0, 0]) (hv1 : k0_off6 i t = ![vb, 256, 0])
    (hk0' : k0_off13 i t = ![0, 512 * kb', 0]) (hk1' : k0_off14 i t = ![0, 512 * kb', 128]) (hk2' : k0_off15 i t = ![0, 512 * kb', 256]) (hk3' : k0_off16 i t = ![0, 512 * kb', 384])
    (hv0' : k0_off11 i t = ![vb', 0, 0]) (hv1' : k0_off12 i t = ![vb', 256, 0])
    (σ1 : Fin 4 → Map F) (hσ1 : ∀ n, σ1 n = (σ n).step (match n with | 0 => v1 | 1 => v3 | 2 => v5 | 3 => v7) (vals V n vb) (keys K n kb)) (Q : Unit → sProp 𝕄) :
    iprop(pt c arg4 K ∗ pt c arg5 V ∗ scr c arg10 arg11 arg12 arg13 arg14 arg15 arg16 σ
      ∗ (iprop(pt c arg4 K ∗ pt c arg5 V ∗ scr c arg10 arg11 arg12 arg13 arg14 arg15 arg16 (fun n => (σ1 n).step (match n with | 0 => v1 | 1 => v3 | 2 => v5 | 3 => v7) (vals V n vb') (keys K n kb'))) -∗ Q ()))
    ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 t ()) Q := by
  unfold k0_t1_body
  have r10_0 : ∀ inb, arg10.view.readAt (Elt F) (Rect.unit (s := S4x512x512) ![0, 0, 0] S1x512x512.size inb).toLoadRect (arg10.view.rep (stkS fun n => (σ n).s)) = (σ 0).s :=
    fun inb => readAt_stkS arg10.view (fun n => (σ n).s) 0 _ rfl inb
  have r10_1 : ∀ inb, arg10.view.readAt (Elt F) (Rect.unit (s := S4x512x512) ![1, 0, 0] S1x512x512.size inb).toLoadRect (arg10.view.rep (stkS fun n => (σ n).s)) = (σ 1).s :=
    fun inb => readAt_stkS arg10.view (fun n => (σ n).s) 1 _ rfl inb
  have r10_2 : ∀ inb, arg10.view.readAt (Elt F) (Rect.unit (s := S4x512x512) ![2, 0, 0] S1x512x512.size inb).toLoadRect (arg10.view.rep (stkS fun n => (σ n).s)) = (σ 2).s :=
    fun inb => readAt_stkS arg10.view (fun n => (σ n).s) 2 _ rfl inb
  have r10_3 : ∀ inb, arg10.view.readAt (Elt F) (Rect.unit (s := S4x512x512) ![3, 0, 0] S1x512x512.size inb).toLoadRect (arg10.view.rep (stkS fun n => (σ n).s)) = (σ 3).s :=
    fun inb => readAt_stkS arg10.view (fun n => (σ n).s) 3 _ rfl inb
  have r11_0 : ∀ inb, arg11.view.readAt (Elt F) (Rect.unit (s := S4x512x512) ![0, 0, 0] S1x512x512.size inb).toLoadRect (arg11.view.rep (stkS fun n => (σ n).p)) = (σ 0).p :=
    fun inb => readAt_stkS arg11.view (fun n => (σ n).p) 0 _ rfl inb
  have r11_1 : ∀ inb, arg11.view.readAt (Elt F) (Rect.unit (s := S4x512x512) ![1, 0, 0] S1x512x512.size inb).toLoadRect (arg11.view.rep (stkS fun n => (σ n).p)) = (σ 1).p :=
    fun inb => readAt_stkS arg11.view (fun n => (σ n).p) 1 _ rfl inb
  have r11_2 : ∀ inb, arg11.view.readAt (Elt F) (Rect.unit (s := S4x512x512) ![2, 0, 0] S1x512x512.size inb).toLoadRect (arg11.view.rep (stkS fun n => (σ n).p)) = (σ 2).p :=
    fun inb => readAt_stkS arg11.view (fun n => (σ n).p) 2 _ rfl inb
  have r11_3 : ∀ inb, arg11.view.readAt (Elt F) (Rect.unit (s := S4x512x512) ![3, 0, 0] S1x512x512.size inb).toLoadRect (arg11.view.rep (stkS fun n => (σ n).p)) = (σ 3).p :=
    fun inb => readAt_stkS arg11.view (fun n => (σ n).p) 3 _ rfl inb
  have r12_0 : ∀ inb, arg12.view.readAt (Elt F) (Rect.unit (s := S4x1x512) ![0, 0, 0] S1x1x512.size inb).toLoadRect (arg12.view.rep (stkR fun n => (σ n).mx)) = (σ 0).mx :=
    fun inb => readAt_stkR arg12.view (fun n => (σ n).mx) 0 _ rfl inb
  have r12_1 : ∀ inb, arg12.view.readAt (Elt F) (Rect.unit (s := S4x1x512) ![1, 0, 0] S1x1x512.size inb).toLoadRect (arg12.view.rep (stkR fun n => (σ n).mx)) = (σ 1).mx :=
    fun inb => readAt_stkR arg12.view (fun n => (σ n).mx) 1 _ rfl inb
  have r12_2 : ∀ inb, arg12.view.readAt (Elt F) (Rect.unit (s := S4x1x512) ![2, 0, 0] S1x1x512.size inb).toLoadRect (arg12.view.rep (stkR fun n => (σ n).mx)) = (σ 2).mx :=
    fun inb => readAt_stkR arg12.view (fun n => (σ n).mx) 2 _ rfl inb
  have r12_3 : ∀ inb, arg12.view.readAt (Elt F) (Rect.unit (s := S4x1x512) ![3, 0, 0] S1x1x512.size inb).toLoadRect (arg12.view.rep (stkR fun n => (σ n).mx)) = (σ 3).mx :=
    fun inb => readAt_stkR arg12.view (fun n => (σ n).mx) 3 _ rfl inb
  have r13_0 : ∀ inb, arg13.view.readAt (Elt F) (Rect.unit (s := S4x1x512) ![0, 0, 0] S1x1x512.size inb).toLoadRect (arg13.view.rep (stkR fun n => (σ n).al)) = (σ 0).al :=
    fun inb => readAt_stkR arg13.view (fun n => (σ n).al) 0 _ rfl inb
  have r13_1 : ∀ inb, arg13.view.readAt (Elt F) (Rect.unit (s := S4x1x512) ![1, 0, 0] S1x1x512.size inb).toLoadRect (arg13.view.rep (stkR fun n => (σ n).al)) = (σ 1).al :=
    fun inb => readAt_stkR arg13.view (fun n => (σ n).al) 1 _ rfl inb
  have r13_2 : ∀ inb, arg13.view.readAt (Elt F) (Rect.unit (s := S4x1x512) ![2, 0, 0] S1x1x512.size inb).toLoadRect (arg13.view.rep (stkR fun n => (σ n).al)) = (σ 2).al :=
    fun inb => readAt_stkR arg13.view (fun n => (σ n).al) 2 _ rfl inb
  have r13_3 : ∀ inb, arg13.view.readAt (Elt F) (Rect.unit (s := S4x1x512) ![3, 0, 0] S1x1x512.size inb).toLoadRect (arg13.view.rep (stkR fun n => (σ n).al)) = (σ 3).al :=
    fun inb => readAt_stkR arg13.view (fun n => (σ n).al) 3 _ rfl inb
  have r14_0 : ∀ inb, arg14.view.readAt (Elt F) (Rect.unit (s := S4x1x512) ![0, 0, 0] S1x1x512.size inb).toLoadRect (arg14.view.rep (stkR fun n => (σ n).m)) = (σ 0).m :=
    fun inb => readAt_stkR arg14.view (fun n => (σ n).m) 0 _ rfl inb
  have r14_1 : ∀ inb, arg14.view.readAt (Elt F) (Rect.unit (s := S4x1x512) ![1, 0, 0] S1x1x512.size inb).toLoadRect (arg14.view.rep (stkR fun n => (σ n).m)) = (σ 1).m :=
    fun inb => readAt_stkR arg14.view (fun n => (σ n).m) 1 _ rfl inb
  have r14_2 : ∀ inb, arg14.view.readAt (Elt F) (Rect.unit (s := S4x1x512) ![2, 0, 0] S1x1x512.size inb).toLoadRect (arg14.view.rep (stkR fun n => (σ n).m)) = (σ 2).m :=
    fun inb => readAt_stkR arg14.view (fun n => (σ n).m) 2 _ rfl inb
  have r14_3 : ∀ inb, arg14.view.readAt (Elt F) (Rect.unit (s := S4x1x512) ![3, 0, 0] S1x1x512.size inb).toLoadRect (arg14.view.rep (stkR fun n => (σ n).m)) = (σ 3).m :=
    fun inb => readAt_stkR arg14.view (fun n => (σ n).m) 3 _ rfl inb
  have r15_0 : ∀ inb, arg15.view.readAt (Elt F) (Rect.unit (s := S4x1x512) ![0, 0, 0] S1x1x512.size inb).toLoadRect (arg15.view.rep (stkR fun n => (σ n).l)) = (σ 0).l :=
    fun inb => readAt_stkR arg15.view (fun n => (σ n).l) 0 _ rfl inb
  have r15_1 : ∀ inb, arg15.view.readAt (Elt F) (Rect.unit (s := S4x1x512) ![1, 0, 0] S1x1x512.size inb).toLoadRect (arg15.view.rep (stkR fun n => (σ n).l)) = (σ 1).l :=
    fun inb => readAt_stkR arg15.view (fun n => (σ n).l) 1 _ rfl inb
  have r15_2 : ∀ inb, arg15.view.readAt (Elt F) (Rect.unit (s := S4x1x512) ![2, 0, 0] S1x1x512.size inb).toLoadRect (arg15.view.rep (stkR fun n => (σ n).l)) = (σ 2).l :=
    fun inb => readAt_stkR arg15.view (fun n => (σ n).l) 2 _ rfl inb
  have r15_3 : ∀ inb, arg15.view.readAt (Elt F) (Rect.unit (s := S4x1x512) ![3, 0, 0] S1x1x512.size inb).toLoadRect (arg15.view.rep (stkR fun n => (σ n).l)) = (σ 3).l :=
    fun inb => readAt_stkR arg15.view (fun n => (σ n).l) 3 _ rfl inb
  have r16_0 : ∀ inb, arg16.view.readAt (Elt F) (Rect.unit (s := S4x256x512) ![0, 0, 0] S1x256x512.size inb).toLoadRect (arg16.view.rep (stkH fun n => (σ n).acc)) = (σ 0).acc :=
    fun inb => readAt_stkH arg16.view (fun n => (σ n).acc) 0 _ rfl inb
  have r16_1 : ∀ inb, arg16.view.readAt (Elt F) (Rect.unit (s := S4x256x512) ![1, 0, 0] S1x256x512.size inb).toLoadRect (arg16.view.rep (stkH fun n => (σ n).acc)) = (σ 1).acc :=
    fun inb => readAt_stkH arg16.view (fun n => (σ n).acc) 1 _ rfl inb
  have r16_2 : ∀ inb, arg16.view.readAt (Elt F) (Rect.unit (s := S4x256x512) ![2, 0, 0] S1x256x512.size inb).toLoadRect (arg16.view.rep (stkH fun n => (σ n).acc)) = (σ 2).acc :=
    fun inb => readAt_stkH arg16.view (fun n => (σ n).acc) 2 _ rfl inb
  have r16_3 : ∀ inb, arg16.view.readAt (Elt F) (Rect.unit (s := S4x256x512) ![3, 0, 0] S1x256x512.size inb).toLoadRect (arg16.view.rep (stkH fun n => (σ n).acc)) = (σ 3).acc :=
    fun inb => readAt_stkH arg16.view (fun n => (σ n).acc) 3 _ rfl inb
  have rk0 : ∀ inb, arg4.view.readAt (Elt F) (Rect.unit (s := S1x16384x512) (k0_off7 i t) S1x512x128.size inb).toLoadRect (arg4.view.rep K) = keys K 0 kb :=
    fun inb => readAt_keys arg4.view K 0 kb hk _ hk0 inb
  have rk1 : ∀ inb, arg4.view.readAt (Elt F) (Rect.unit (s := S1x16384x512) (k0_off8 i t) S1x512x128.size inb).toLoadRect (arg4.view.rep K) = keys K 1 kb :=
    fun inb => readAt_keys arg4.view K 1 kb hk _ hk1 inb
  have rk2 : ∀ inb, arg4.view.readAt (Elt F) (Rect.unit (s := S1x16384x512) (k0_off9 i t) S1x512x128.size inb).toLoadRect (arg4.view.rep K) = keys K 2 kb :=
    fun inb => readAt_keys arg4.view K 2 kb hk _ hk2 inb
  have rk3 : ∀ inb, arg4.view.readAt (Elt F) (Rect.unit (s := S1x16384x512) (k0_off10 i t) S1x512x128.size inb).toLoadRect (arg4.view.rep K) = keys K 3 kb :=
    fun inb => readAt_keys arg4.view K 3 kb hk _ hk3 inb
  have rv0 : ∀ inb, arg5.view.readAt (Elt F) (Rect.unit (s := S32x512x512) (k0_off5 i t) S1x256x512.size inb).toLoadRect (arg5.view.rep V) = vals V 0 vb :=
    fun inb => readAt_vals arg5.view V 0 vb hv _ hv0 inb
  have rv1 : ∀ inb, arg5.view.readAt (Elt F) (Rect.unit (s := S32x512x512) (k0_off6 i t) S1x256x512.size inb).toLoadRect (arg5.view.rep V) = vals V 2 vb :=
    fun inb => readAt_vals arg5.view V 2 vb hv _ hv1 inb
  have rk0' : ∀ inb, arg4.view.readAt (Elt F) (Rect.unit (s := S1x16384x512) (k0_off13 i t) S1x512x128.size inb).toLoadRect (arg4.view.rep K) = keys K 0 kb' :=
    fun inb => readAt_keys arg4.view K 0 kb' hk' _ hk0' inb
  have rk1' : ∀ inb, arg4.view.readAt (Elt F) (Rect.unit (s := S1x16384x512) (k0_off14 i t) S1x512x128.size inb).toLoadRect (arg4.view.rep K) = keys K 1 kb' :=
    fun inb => readAt_keys arg4.view K 1 kb' hk' _ hk1' inb
  have rk2' : ∀ inb, arg4.view.readAt (Elt F) (Rect.unit (s := S1x16384x512) (k0_off15 i t) S1x512x128.size inb).toLoadRect (arg4.view.rep K) = keys K 2 kb' :=
    fun inb => readAt_keys arg4.view K 2 kb' hk' _ hk2' inb
  have rk3' : ∀ inb, arg4.view.readAt (Elt F) (Rect.unit (s := S1x16384x512) (k0_off16 i t) S1x512x128.size inb).toLoadRect (arg4.view.rep K) = keys K 3 kb' :=
    fun inb => readAt_keys arg4.view K 3 kb' hk' _ hk3' inb
  have rv0' : ∀ inb, arg5.view.readAt (Elt F) (Rect.unit (s := S32x512x512) (k0_off11 i t) S1x256x512.size inb).toLoadRect (arg5.view.rep V) = vals V 0 vb' :=
    fun inb => readAt_vals arg5.view V 0 vb' hv' _ hv0' inb
  have rv1' : ∀ inb, arg5.view.readAt (Elt F) (Rect.unit (s := S32x512x512) (k0_off12 i t) S1x256x512.size inb).toLoadRect (arg5.view.rep V) = vals V 2 vb' :=
    fun inb => readAt_vals arg5.view V 2 vb' hv' _ hv1' inb
  iintro ⟨H4, H5, ⟨H10, H11, H12, H13, H14, H15, H16⟩, Hk⟩
  set_option sl_exec.stopBefore "k0_part9" in sl_exec
  ihave H10 := (pt_stkS c arg10 _ (fun n => (σ1 n).s) _ _ _ _ _ _ _ _ _ ?_ ?_ ?_ ?_) $$ H10
  · rw [hσ1]; rfl
  · rw [hσ1]; rfl
  · rw [hσ1]; rfl
  · rw [hσ1]; rfl
  ihave H11 := (pt_stkS c arg11 _ (fun n => (σ1 n).p) _ _ _ _ _ _ _ _ _ ?_ ?_ ?_ ?_) $$ H11
  · rw [hσ1]; rfl
  · rw [hσ1]; rfl
  · rw [hσ1]; rfl
  · rw [hσ1]; rfl
  ihave H12 := (pt_stkR c arg12 _ (fun n => (σ1 n).mx) _ _ _ _ _ _ _ _ _ ?_ ?_ ?_ ?_) $$ H12
  · rw [hσ1]; dsimp only [Map.step, Map.scores]; exact mx1_0 _ _
  · rw [hσ1]; dsimp only [Map.step, Map.scores]; exact mx1_1 _ _
  · rw [hσ1]; dsimp only [Map.step, Map.scores]; exact mx1_2 _ _
  · rw [hσ1]; dsimp only [Map.step, Map.scores]; exact mx1_3 _ _
  ihave H13 := (pt_stkR c arg13 _ (fun n => (σ1 n).al) _ _ _ _ _ _ _ _ _ ?_ ?_ ?_ ?_) $$ H13
  · rw [hσ1]; rfl
  · rw [hσ1]; rfl
  · rw [hσ1]; rfl
  · rw [hσ1]; rfl
  ihave H14 := (pt_stkR c arg14 _ (fun n => (σ1 n).m) _ _ _ _ _ _ _ _ _ ?_ ?_ ?_ ?_) $$ H14
  · rw [hσ1]; rfl
  · rw [hσ1]; rfl
  · rw [hσ1]; rfl
  · rw [hσ1]; rfl
  ihave H15 := (pt_stkR c arg15 _ (fun n => (σ1 n).l) _ _ _ _ _ _ _ _ _ ?_ ?_ ?_ ?_) $$ H15
  · rw [hσ1]; rfl
  · rw [hσ1]; rfl
  · rw [hσ1]; rfl
  · rw [hσ1]; rfl
  ihave H16 := (pt_stkH c arg16 _ (fun n => (σ1 n).acc) _ _ _ _ _ _ _ _ _ ?_ ?_ ?_ ?_) $$ H16
  · rw [hσ1]; rfl
  · rw [hσ1]; rfl
  · rw [hσ1]; rfl
  · rw [hσ1]; rfl
  clear r10_0 r10_1 r10_2 r10_3 r11_0 r11_1 r11_2 r11_3 r12_0 r12_1 r12_2 r12_3 r13_0 r13_1 r13_2 r13_3 r14_0 r14_1 r14_2 r14_3 r15_0 r15_1 r15_2 r15_3 r16_0 r16_1 r16_2 r16_3
  have r10_0 : ∀ inb, arg10.view.readAt (Elt F) (Rect.unit (s := S4x512x512) ![0, 0, 0] S1x512x512.size inb).toLoadRect (arg10.view.rep (stkS fun n => (σ1 n).s)) = (σ1 0).s :=
    fun inb => readAt_stkS arg10.view (fun n => (σ1 n).s) 0 _ rfl inb
  have r10_1 : ∀ inb, arg10.view.readAt (Elt F) (Rect.unit (s := S4x512x512) ![1, 0, 0] S1x512x512.size inb).toLoadRect (arg10.view.rep (stkS fun n => (σ1 n).s)) = (σ1 1).s :=
    fun inb => readAt_stkS arg10.view (fun n => (σ1 n).s) 1 _ rfl inb
  have r10_2 : ∀ inb, arg10.view.readAt (Elt F) (Rect.unit (s := S4x512x512) ![2, 0, 0] S1x512x512.size inb).toLoadRect (arg10.view.rep (stkS fun n => (σ1 n).s)) = (σ1 2).s :=
    fun inb => readAt_stkS arg10.view (fun n => (σ1 n).s) 2 _ rfl inb
  have r10_3 : ∀ inb, arg10.view.readAt (Elt F) (Rect.unit (s := S4x512x512) ![3, 0, 0] S1x512x512.size inb).toLoadRect (arg10.view.rep (stkS fun n => (σ1 n).s)) = (σ1 3).s :=
    fun inb => readAt_stkS arg10.view (fun n => (σ1 n).s) 3 _ rfl inb
  have r11_0 : ∀ inb, arg11.view.readAt (Elt F) (Rect.unit (s := S4x512x512) ![0, 0, 0] S1x512x512.size inb).toLoadRect (arg11.view.rep (stkS fun n => (σ1 n).p)) = (σ1 0).p :=
    fun inb => readAt_stkS arg11.view (fun n => (σ1 n).p) 0 _ rfl inb
  have r11_1 : ∀ inb, arg11.view.readAt (Elt F) (Rect.unit (s := S4x512x512) ![1, 0, 0] S1x512x512.size inb).toLoadRect (arg11.view.rep (stkS fun n => (σ1 n).p)) = (σ1 1).p :=
    fun inb => readAt_stkS arg11.view (fun n => (σ1 n).p) 1 _ rfl inb
  have r11_2 : ∀ inb, arg11.view.readAt (Elt F) (Rect.unit (s := S4x512x512) ![2, 0, 0] S1x512x512.size inb).toLoadRect (arg11.view.rep (stkS fun n => (σ1 n).p)) = (σ1 2).p :=
    fun inb => readAt_stkS arg11.view (fun n => (σ1 n).p) 2 _ rfl inb
  have r11_3 : ∀ inb, arg11.view.readAt (Elt F) (Rect.unit (s := S4x512x512) ![3, 0, 0] S1x512x512.size inb).toLoadRect (arg11.view.rep (stkS fun n => (σ1 n).p)) = (σ1 3).p :=
    fun inb => readAt_stkS arg11.view (fun n => (σ1 n).p) 3 _ rfl inb
  have r12_0 : ∀ inb, arg12.view.readAt (Elt F) (Rect.unit (s := S4x1x512) ![0, 0, 0] S1x1x512.size inb).toLoadRect (arg12.view.rep (stkR fun n => (σ1 n).mx)) = (σ1 0).mx :=
    fun inb => readAt_stkR arg12.view (fun n => (σ1 n).mx) 0 _ rfl inb
  have r12_1 : ∀ inb, arg12.view.readAt (Elt F) (Rect.unit (s := S4x1x512) ![1, 0, 0] S1x1x512.size inb).toLoadRect (arg12.view.rep (stkR fun n => (σ1 n).mx)) = (σ1 1).mx :=
    fun inb => readAt_stkR arg12.view (fun n => (σ1 n).mx) 1 _ rfl inb
  have r12_2 : ∀ inb, arg12.view.readAt (Elt F) (Rect.unit (s := S4x1x512) ![2, 0, 0] S1x1x512.size inb).toLoadRect (arg12.view.rep (stkR fun n => (σ1 n).mx)) = (σ1 2).mx :=
    fun inb => readAt_stkR arg12.view (fun n => (σ1 n).mx) 2 _ rfl inb
  have r12_3 : ∀ inb, arg12.view.readAt (Elt F) (Rect.unit (s := S4x1x512) ![3, 0, 0] S1x1x512.size inb).toLoadRect (arg12.view.rep (stkR fun n => (σ1 n).mx)) = (σ1 3).mx :=
    fun inb => readAt_stkR arg12.view (fun n => (σ1 n).mx) 3 _ rfl inb
  have r13_0 : ∀ inb, arg13.view.readAt (Elt F) (Rect.unit (s := S4x1x512) ![0, 0, 0] S1x1x512.size inb).toLoadRect (arg13.view.rep (stkR fun n => (σ1 n).al)) = (σ1 0).al :=
    fun inb => readAt_stkR arg13.view (fun n => (σ1 n).al) 0 _ rfl inb
  have r13_1 : ∀ inb, arg13.view.readAt (Elt F) (Rect.unit (s := S4x1x512) ![1, 0, 0] S1x1x512.size inb).toLoadRect (arg13.view.rep (stkR fun n => (σ1 n).al)) = (σ1 1).al :=
    fun inb => readAt_stkR arg13.view (fun n => (σ1 n).al) 1 _ rfl inb
  have r13_2 : ∀ inb, arg13.view.readAt (Elt F) (Rect.unit (s := S4x1x512) ![2, 0, 0] S1x1x512.size inb).toLoadRect (arg13.view.rep (stkR fun n => (σ1 n).al)) = (σ1 2).al :=
    fun inb => readAt_stkR arg13.view (fun n => (σ1 n).al) 2 _ rfl inb
  have r13_3 : ∀ inb, arg13.view.readAt (Elt F) (Rect.unit (s := S4x1x512) ![3, 0, 0] S1x1x512.size inb).toLoadRect (arg13.view.rep (stkR fun n => (σ1 n).al)) = (σ1 3).al :=
    fun inb => readAt_stkR arg13.view (fun n => (σ1 n).al) 3 _ rfl inb
  have r14_0 : ∀ inb, arg14.view.readAt (Elt F) (Rect.unit (s := S4x1x512) ![0, 0, 0] S1x1x512.size inb).toLoadRect (arg14.view.rep (stkR fun n => (σ1 n).m)) = (σ1 0).m :=
    fun inb => readAt_stkR arg14.view (fun n => (σ1 n).m) 0 _ rfl inb
  have r14_1 : ∀ inb, arg14.view.readAt (Elt F) (Rect.unit (s := S4x1x512) ![1, 0, 0] S1x1x512.size inb).toLoadRect (arg14.view.rep (stkR fun n => (σ1 n).m)) = (σ1 1).m :=
    fun inb => readAt_stkR arg14.view (fun n => (σ1 n).m) 1 _ rfl inb
  have r14_2 : ∀ inb, arg14.view.readAt (Elt F) (Rect.unit (s := S4x1x512) ![2, 0, 0] S1x1x512.size inb).toLoadRect (arg14.view.rep (stkR fun n => (σ1 n).m)) = (σ1 2).m :=
    fun inb => readAt_stkR arg14.view (fun n => (σ1 n).m) 2 _ rfl inb
  have r14_3 : ∀ inb, arg14.view.readAt (Elt F) (Rect.unit (s := S4x1x512) ![3, 0, 0] S1x1x512.size inb).toLoadRect (arg14.view.rep (stkR fun n => (σ1 n).m)) = (σ1 3).m :=
    fun inb => readAt_stkR arg14.view (fun n => (σ1 n).m) 3 _ rfl inb
  have r15_0 : ∀ inb, arg15.view.readAt (Elt F) (Rect.unit (s := S4x1x512) ![0, 0, 0] S1x1x512.size inb).toLoadRect (arg15.view.rep (stkR fun n => (σ1 n).l)) = (σ1 0).l :=
    fun inb => readAt_stkR arg15.view (fun n => (σ1 n).l) 0 _ rfl inb
  have r15_1 : ∀ inb, arg15.view.readAt (Elt F) (Rect.unit (s := S4x1x512) ![1, 0, 0] S1x1x512.size inb).toLoadRect (arg15.view.rep (stkR fun n => (σ1 n).l)) = (σ1 1).l :=
    fun inb => readAt_stkR arg15.view (fun n => (σ1 n).l) 1 _ rfl inb
  have r15_2 : ∀ inb, arg15.view.readAt (Elt F) (Rect.unit (s := S4x1x512) ![2, 0, 0] S1x1x512.size inb).toLoadRect (arg15.view.rep (stkR fun n => (σ1 n).l)) = (σ1 2).l :=
    fun inb => readAt_stkR arg15.view (fun n => (σ1 n).l) 2 _ rfl inb
  have r15_3 : ∀ inb, arg15.view.readAt (Elt F) (Rect.unit (s := S4x1x512) ![3, 0, 0] S1x1x512.size inb).toLoadRect (arg15.view.rep (stkR fun n => (σ1 n).l)) = (σ1 3).l :=
    fun inb => readAt_stkR arg15.view (fun n => (σ1 n).l) 3 _ rfl inb
  have r16_0 : ∀ inb, arg16.view.readAt (Elt F) (Rect.unit (s := S4x256x512) ![0, 0, 0] S1x256x512.size inb).toLoadRect (arg16.view.rep (stkH fun n => (σ1 n).acc)) = (σ1 0).acc :=
    fun inb => readAt_stkH arg16.view (fun n => (σ1 n).acc) 0 _ rfl inb
  have r16_1 : ∀ inb, arg16.view.readAt (Elt F) (Rect.unit (s := S4x256x512) ![1, 0, 0] S1x256x512.size inb).toLoadRect (arg16.view.rep (stkH fun n => (σ1 n).acc)) = (σ1 1).acc :=
    fun inb => readAt_stkH arg16.view (fun n => (σ1 n).acc) 1 _ rfl inb
  have r16_2 : ∀ inb, arg16.view.readAt (Elt F) (Rect.unit (s := S4x256x512) ![2, 0, 0] S1x256x512.size inb).toLoadRect (arg16.view.rep (stkH fun n => (σ1 n).acc)) = (σ1 2).acc :=
    fun inb => readAt_stkH arg16.view (fun n => (σ1 n).acc) 2 _ rfl inb
  have r16_3 : ∀ inb, arg16.view.readAt (Elt F) (Rect.unit (s := S4x256x512) ![3, 0, 0] S1x256x512.size inb).toLoadRect (arg16.view.rep (stkH fun n => (σ1 n).acc)) = (σ1 3).acc :=
    fun inb => readAt_stkH arg16.view (fun n => (σ1 n).acc) 3 _ rfl inb
  sl_exec
  sl_step
  iapply Hk
  isplitl [H4]; · iexact H4
  isplitl [H5]; · iexact H5
  isplitl [H10]
  · iapply (pt_stkS c arg10 _ _ _ _ _ _ _ _ _ _ _ ?_ ?_ ?_ ?_) $$ H10
    · rfl
    · rfl
    · rfl
    · rfl
  isplitl [H11]
  · iapply (pt_stkS c arg11 _ _ _ _ _ _ _ _ _ _ _ ?_ ?_ ?_ ?_) $$ H11
    · rfl
    · rfl
    · rfl
    · rfl
  isplitl [H12]
  · iapply (pt_stkR c arg12 _ _ _ _ _ _ _ _ _ _ _ ?_ ?_ ?_ ?_) $$ H12
    · dsimp only [Map.step, Map.scores]; exact mx2_0 _ _
    · dsimp only [Map.step, Map.scores]; exact mx2_1 _ _
    · dsimp only [Map.step, Map.scores]; exact mx2_2 _ _
    · dsimp only [Map.step, Map.scores]; exact mx2_3 _ _
  isplitl [H13]
  · iapply (pt_stkR c arg13 _ _ _ _ _ _ _ _ _ _ _ ?_ ?_ ?_ ?_) $$ H13
    · rfl
    · rfl
    · rfl
    · rfl
  isplitl [H14]
  · iapply (pt_stkR c arg14 _ _ _ _ _ _ _ _ _ _ _ ?_ ?_ ?_ ?_) $$ H14
    · rfl
    · rfl
    · rfl
    · rfl
  isplitl [H15]
  · iapply (pt_stkR c arg15 _ _ _ _ _ _ _ _ _ _ _ ?_ ?_ ?_ ?_) $$ H15
    · rfl
    · rfl
    · rfl
    · rfl
  iapply (pt_stkH c arg16 _ _ _ _ _ _ _ _ _ _ _ ?_ ?_ ?_ ?_) $$ H16
  · rfl
  · rfl
  · rfl
  · rfl

end Cert.KernelIdeal.Spec

end
-- ==== Proof.Trip3.lean ====
/- One trip of the single-step loop over the key blocks. -/
module

public import proofs.«01_k».proof.Proof.Scr

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The column maxima of the scores are the same computation for every map. -/
theorem mx3_1 (q : FVec F S512x128 .bf16) (k : Vec F S1x512x128 .bf16) : k0_pay263 (k0_pay262 q k) = k0_pay259 q k := by
  delta k0_pay263 k0_pay262 k0_pay259 k0_pay260 k0_pay257; rfl

/-- The column maxima of the scores are the same computation for every map. -/
theorem mx3_2 (q : FVec F S512x128 .bf16) (k : Vec F S1x512x128 .bf16) : k0_pay266 q k = k0_pay259 q k := by
  delta k0_pay266 k0_pay259 k0_pay264 k0_pay257; rfl

/-- The column maxima of the scores are the same computation for every map. -/
theorem mx3_3 (q : FVec F S512x128 .bf16) (k : Vec F S1x512x128 .bf16) : k0_pay402 (k0_pay269 q k) = k0_pay259 q k := by
  delta k0_pay402 k0_pay269 k0_pay259 k0_pay267 k0_pay257; rfl

/-- One trip of the single-step loop takes the scratch of the four maps one step on. -/
theorem trip3 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole) (arg2 : BitVec 32) (v1 v3 v5 v7 : FVec F S512x128 .bf16) (v293 : FVec F S512x512 .f32) (v308 : BitVec 32)
    (K : Vec F S1x16384x512 .bf16) (V : Vec F S32x512x512 .bf16) (σ : Fin 4 → Map F) (t : Fin (k0_t3_loop i).trips) (kb vb : ℕ) (hk : kb < 32) (hv : vb < 32)
    (hk0 : k0_off31 i t = ![0, 512 * kb, 0]) (hk1 : k0_off32 i t = ![0, 512 * kb, 128]) (hk2 : k0_off33 i t = ![0, 512 * kb, 256]) (hk3 : k0_off34 i t = ![0, 512 * kb, 384])
    (hv0 : k0_off29 i t = ![vb, 0, 0]) (hv1 : k0_off30 i t = ![vb, 256, 0]) (Q : Unit → sProp 𝕄) :
    iprop(pt c arg4 K ∗ pt c arg5 V ∗ scr c arg10 arg11 arg12 arg13 arg14 arg15 arg16 σ
      ∗ (iprop(pt c arg4 K ∗ pt c arg5 V ∗ scr c arg10 arg11 arg12 arg13 arg14 arg15 arg16 (fun n => (σ n).step (match n with | 0 => v1 | 1 => v3 | 2 => v5 | 3 => v7) (vals V n vb) (keys K n kb))) -∗ Q ()))
    ⊢ wp frame (wpE (defs₀ (F := F)) Variants.none (c : Thread nD τ) none) Set.univ
        (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 v308 t ()) Q := by
  unfold k0_t3_body
  have r10_0 : ∀ inb, arg10.view.readAt (Elt F) (Rect.unit (s := S4x512x512) ![0, 0, 0] S1x512x512.size inb).toLoadRect (arg10.view.rep (stkS fun n => (σ n).s)) = (σ 0).s :=
    fun inb => readAt_stkS arg10.view (fun n => (σ n).s) 0 _ rfl inb
  have r10_1 : ∀ inb, arg10.view.readAt (Elt F) (Rect.unit (s := S4x512x512) ![1, 0, 0] S1x512x512.size inb).toLoadRect (arg10.view.rep (stkS fun n => (σ n).s)) = (σ 1).s :=
    fun inb => readAt_stkS arg10.view (fun n => (σ n).s) 1 _ rfl inb
  have r10_2 : ∀ inb, arg10.view.readAt (Elt F) (Rect.unit (s := S4x512x512) ![2, 0, 0] S1x512x512.size inb).toLoadRect (arg10.view.rep (stkS fun n => (σ n).s)) = (σ 2).s :=
    fun inb => readAt_stkS arg10.view (fun n => (σ n).s) 2 _ rfl inb
  have r10_3 : ∀ inb, arg10.view.readAt (Elt F) (Rect.unit (s := S4x512x512) ![3, 0, 0] S1x512x512.size inb).toLoadRect (arg10.view.rep (stkS fun n => (σ n).s)) = (σ 3).s :=
    fun inb => readAt_stkS arg10.view (fun n => (σ n).s) 3 _ rfl inb
  have r11_0 : ∀ inb, arg11.view.readAt (Elt F) (Rect.unit (s := S4x512x512) ![0, 0, 0] S1x512x512.size inb).toLoadRect (arg11.view.rep (stkS fun n => (σ n).p)) = (σ 0).p :=
    fun inb => readAt_stkS arg11.view (fun n => (σ n).p) 0 _ rfl inb
  have r11_1 : ∀ inb, arg11.view.readAt (Elt F) (Rect.unit (s := S4x512x512) ![1, 0, 0] S1x512x512.size inb).toLoadRect (arg11.view.rep (stkS fun n => (σ n).p)) = (σ 1).p :=
    fun inb => readAt_stkS arg11.view (fun n => (σ n).p) 1 _ rfl inb
  have r11_2 : ∀ inb, arg11.view.readAt (Elt F) (Rect.unit (s := S4x512x512) ![2, 0, 0] S1x512x512.size inb).toLoadRect (arg11.view.rep (stkS fun n => (σ n).p)) = (σ 2).p :=
    fun inb => readAt_stkS arg11.view (fun n => (σ n).p) 2 _ rfl inb
  have r11_3 : ∀ inb, arg11.view.readAt (Elt F) (Rect.unit (s := S4x512x512) ![3, 0, 0] S1x512x512.size inb).toLoadRect (arg11.view.rep (stkS fun n => (σ n).p)) = (σ 3).p :=
    fun inb => readAt_stkS arg11.view (fun n => (σ n).p) 3 _ rfl inb
  have r12_0 : ∀ inb, arg12.view.readAt (Elt F) (Rect.unit (s := S4x1x512) ![0, 0, 0] S1x1x512.size inb).toLoadRect (arg12.view.rep (stkR fun n => (σ n).mx)) = (σ 0).mx :=
    fun inb => readAt_stkR arg12.view (fun n => (σ n).mx) 0 _ rfl inb
  have r12_1 : ∀ inb, arg12.view.readAt (Elt F) (Rect.unit (s := S4x1x512) ![1, 0, 0] S1x1x512.size inb).toLoadRect (arg12.view.rep (stkR fun n => (σ n).mx)) = (σ 1).mx :=
    fun inb => readAt_stkR arg12.view (fun n => (σ n).mx) 1 _ rfl inb
  have r12_2 : ∀ inb, arg12.view.readAt (Elt F) (Rect.unit (s := S4x1x512) ![2, 0, 0] S1x1x512.size inb).toLoadRect (arg12.view.rep (stkR fun n => (σ n).mx)) = (σ 2).mx :=
    fun inb => readAt_stkR arg12.view (fun n => (σ n).mx) 2 _ rfl inb
  have r12_3 : ∀ inb, arg12.view.readAt (Elt F) (Rect.unit (s := S4x1x512) ![3, 0, 0] S1x1x512.size inb).toLoadRect (arg12.view.rep (stkR fun n => (σ n).mx)) = (σ 3).mx :=
    fun inb => readAt_stkR arg12.view (fun n => (σ n).mx) 3 _ rfl inb
  have r13_0 : ∀ inb, arg13.view.readAt (Elt F) (Rect.unit (s := S4x1x512) ![0, 0, 0] S1x1x512.size inb).toLoadRect (arg13.view.rep (stkR fun n => (σ n).al)) = (σ 0).al :=
    fun inb => readAt_stkR arg13.view (fun n => (σ n).al) 0 _ rfl inb
  have r13_1 : ∀ inb, arg13.view.readAt (Elt F) (Rect.unit (s := S4x1x512) ![1, 0, 0] S1x1x512.size inb).toLoadRect (arg13.view.rep (stkR fun n => (σ n).al)) = (σ 1).al :=
    fun inb => readAt_stkR arg13.view (fun n => (σ n).al) 1 _ rfl inb
  have r13_2 : ∀ inb, arg13.view.readAt (Elt F) (Rect.unit (s := S4x1x512) ![2, 0, 0] S1x1x512.size inb).toLoadRect (arg13.view.rep (stkR fun n => (σ n).al)) = (σ 2).al :=
    fun inb => readAt_stkR arg13.view (fun n => (σ n).al) 2 _ rfl inb
  have r13_3 : ∀ inb, arg13.view.readAt (Elt F) (Rect.unit (s := S4x1x512) ![3, 0, 0] S1x1x512.size inb).toLoadRect (arg13.view.rep (stkR fun n => (σ n).al)) = (σ 3).al :=
    fun inb => readAt_stkR arg13.view (fun n => (σ n).al) 3 _ rfl inb
  have r14_0 : ∀ inb, arg14.view.readAt (Elt F) (Rect.unit (s := S4x1x512) ![0, 0, 0] S1x1x512.size inb).toLoadRect (arg14.view.rep (stkR fun n => (σ n).m)) = (σ 0).m :=
    fun inb => readAt_stkR arg14.view (fun n => (σ n).m) 0 _ rfl inb
  have r14_1 : ∀ inb, arg14.view.readAt (Elt F) (Rect.unit (s := S4x1x512) ![1, 0, 0] S1x1x512.size inb).toLoadRect (arg14.view.rep (stkR fun n => (σ n).m)) = (σ 1).m :=
    fun inb => readAt_stkR arg14.view (fun n => (σ n).m) 1 _ rfl inb
  have r14_2 : ∀ inb, arg14.view.readAt (Elt F) (Rect.unit (s := S4x1x512) ![2, 0, 0] S1x1x512.size inb).toLoadRect (arg14.view.rep (stkR fun n => (σ n).m)) = (σ 2).m :=
    fun inb => readAt_stkR arg14.view (fun n => (σ n).m) 2 _ rfl inb
  have r14_3 : ∀ inb, arg14.view.readAt (Elt F) (Rect.unit (s := S4x1x512) ![3, 0, 0] S1x1x512.size inb).toLoadRect (arg14.view.rep (stkR fun n => (σ n).m)) = (σ 3).m :=
    fun inb => readAt_stkR arg14.view (fun n => (σ n).m) 3 _ rfl inb
  have r15_0 : ∀ inb, arg15.view.readAt (Elt F) (Rect.unit (s := S4x1x512) ![0, 0, 0] S1x1x512.size inb).toLoadRect (arg15.view.rep (stkR fun n => (σ n).l)) = (σ 0).l :=
    fun inb => readAt_stkR arg15.view (fun n => (σ n).l) 0 _ rfl inb
  have r15_1 : ∀ inb, arg15.view.readAt (Elt F) (Rect.unit (s := S4x1x512) ![1, 0, 0] S1x1x512.size inb).toLoadRect (arg15.view.rep (stkR fun n => (σ n).l)) = (σ 1).l :=
    fun inb => readAt_stkR arg15.view (fun n => (σ n).l) 1 _ rfl inb
  have r15_2 : ∀ inb, arg15.view.readAt (Elt F) (Rect.unit (s := S4x1x512) ![2, 0, 0] S1x1x512.size inb).toLoadRect (arg15.view.rep (stkR fun n => (σ n).l)) = (σ 2).l :=
    fun inb => readAt_stkR arg15.view (fun n => (σ n).l) 2 _ rfl inb
  have r15_3 : ∀ inb, arg15.view.readAt (Elt F) (Rect.unit (s := S4x1x512) ![3, 0, 0] S1x1x512.size inb).toLoadRect (arg15.view.rep (stkR fun n => (σ n).l)) = (σ 3).l :=
    fun inb => readAt_stkR arg15.view (fun n => (σ n).l) 3 _ rfl inb
  have r16_0 : ∀ inb, arg16.view.readAt (Elt F) (Rect.unit (s := S4x256x512) ![0, 0, 0] S1x256x512.size inb).toLoadRect (arg16.view.rep (stkH fun n => (σ n).acc)) = (σ 0).acc :=
    fun inb => readAt_stkH arg16.view (fun n => (σ n).acc) 0 _ rfl inb
  have r16_1 : ∀ inb, arg16.view.readAt (Elt F) (Rect.unit (s := S4x256x512) ![1, 0, 0] S1x256x512.size inb).toLoadRect (arg16.view.rep (stkH fun n => (σ n).acc)) = (σ 1).acc :=
    fun inb => readAt_stkH arg16.view (fun n => (σ n).acc) 1 _ rfl inb
  have r16_2 : ∀ inb, arg16.view.readAt (Elt F) (Rect.unit (s := S4x256x512) ![2, 0, 0] S1x256x512.size inb).toLoadRect (arg16.view.rep (stkH fun n => (σ n).acc)) = (σ 2).acc :=
    fun inb => readAt_stkH arg16.view (fun n => (σ n).acc) 2 _ rfl inb
  have r16_3 : ∀ inb, arg16.view.readAt (Elt F) (Rect.unit (s := S4x256x512) ![3, 0, 0] S1x256x512.size inb).toLoadRect (arg16.view.rep (stkH fun n => (σ n).acc)) = (σ 3).acc :=
    fun inb => readAt_stkH arg16.view (fun n => (σ n).acc) 3 _ rfl inb
  have rk0 : ∀ inb, arg4.view.readAt (Elt F) (Rect.unit (s := S1x16384x512) (k0_off31 i t) S1x512x128.size inb).toLoadRect (arg4.view.rep K) = keys K 0 kb :=
    fun inb => readAt_keys arg4.view K 0 kb hk _ hk0 inb
  have rk1 : ∀ inb, arg4.view.readAt (Elt F) (Rect.unit (s := S1x16384x512) (k0_off32 i t) S1x512x128.size inb).toLoadRect (arg4.view.rep K) = keys K 1 kb :=
    fun inb => readAt_keys arg4.view K 1 kb hk _ hk1 inb
  have rk2 : ∀ inb, arg4.view.readAt (Elt F) (Rect.unit (s := S1x16384x512) (k0_off33 i t) S1x512x128.size inb).toLoadRect (arg4.view.rep K) = keys K 2 kb :=
    fun inb => readAt_keys arg4.view K 2 kb hk _ hk2 inb
  have rk3 : ∀ inb, arg4.view.readAt (Elt F) (Rect.unit (s := S1x16384x512) (k0_off34 i t) S1x512x128.size inb).toLoadRect (arg4.view.rep K) = keys K 3 kb :=
    fun inb => readAt_keys arg4.view K 3 kb hk _ hk3 inb
  have rv0 : ∀ inb, arg5.view.readAt (Elt F) (Rect.unit (s := S32x512x512) (k0_off29 i t) S1x256x512.size inb).toLoadRect (arg5.view.rep V) = vals V 0 vb :=
    fun inb => readAt_vals arg5.view V 0 vb hv _ hv0 inb
  have rv1 : ∀ inb, arg5.view.readAt (Elt F) (Rect.unit (s := S32x512x512) (k0_off30 i t) S1x256x512.size inb).toLoadRect (arg5.view.rep V) = vals V 2 vb :=
    fun inb => readAt_vals arg5.view V 2 vb hv _ hv1 inb
  iintro ⟨H4, H5, ⟨H10, H11, H12, H13, H14, H15, H16⟩, Hk⟩
  sl_exec
  sl_step
  iapply Hk
  isplitl [H4]; · iexact H4
  isplitl [H5]; · iexact H5
  isplitl [H10]; · iapply (pt_stkS c arg10 _ _ _ _ _ _ _ _ _ _ _ ?_ ?_ ?_ ?_) $$ H10 <;> rfl
  isplitl [H11]; · iapply (pt_stkS c arg11 _ _ _ _ _ _ _ _ _ _ _ ?_ ?_ ?_ ?_) $$ H11 <;> rfl
  isplitl [H12]; · iapply (pt_stkR c arg12 _ _ _ _ _ _ _ _ _ _ _ ?_ ?_ ?_ ?_) $$ H12 <;> dsimp only [Map.step, Map.scores] <;> [rfl; exact mx3_1 _ _; exact mx3_2 _ _; exact mx3_3 _ _]
  isplitl [H13]; · iapply (pt_stkR c arg13 _ _ _ _ _ _ _ _ _ _ _ ?_ ?_ ?_ ?_) $$ H13 <;> rfl
  isplitl [H14]; · iapply (pt_stkR c arg14 _ _ _ _ _ _ _ _ _ _ _ ?_ ?_ ?_ ?_) $$ H14 <;> rfl
  isplitl [H15]; · iapply (pt_stkR c arg15 _ _ _ _ _ _ _ _ _ _ _ ?_ ?_ ?_ ?_) $$ H15 <;> rfl
  iapply (pt_stkH c arg16 _ _ _ _ _ _ _ _ _ _ _ ?_ ?_ ?_ ?_) $$ H16 <;> rfl

end Cert.KernelIdeal.Spec

end
-- ==== Proof.Walk.lean ====
/- The loops over the key blocks: each takes the scratch of the four maps its trips' steps on. -/
module

public import proofs.«01_k».proof.Proof.Closed
public import proofs.«01_k».proof.Proof.Trip1
public import proofs.«01_k».proof.Proof.Trip3

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One step of the maps, in the recursion's own terms. -/
theorem mapsAt_succ (qi : ℕ) (Q : Vec F S1x512x512 .bf16) (K : Vec F S1x16384x512 .bf16) (V : Vec F S32x512x512 .bf16) (b : ℕ) (n : Fin 4) :
    mapsAt qi Q K V (b + 1) n = (mapsAt qi Q K V b n).step (qmap Q n) (vals V n (if b = 0 then qi else b - 1)) (keys K n (min (b + 1) qi)) := rfl

/-- The paired loop. -/
theorem loop1 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole)
    (arg2 : BitVec 32) (v1 v3 v5 v7 : FVec F S512x128 .bf16) (v293 : FVec F S512x512 .f32)
    (K : Vec F S1x16384x512 .bf16) (V : Vec F S32x512x512 .bf16) (Q : Vec F S1x512x512 .bf16) (hv : ∀ n : Fin 4, (match n with | 0 => v1 | 1 => v3 | 2 => v5 | 3 => v7 : FVec F S512x128 .bf16) = qmap Q n) {β : Type} (kk : PUnit → Prog (TpuEff nD τ sig (Elt F) Λ₀ .tc) β) (R : β → sProp 𝕄) :
    iprop(pt c arg4 K ∗ pt c arg5 V ∗ scr c arg10 arg11 arg12 arg13 arg14 arg15 arg16 (mapsAt (i 2).val Q K V (0))
      ∗ (iprop(pt c arg4 K ∗ pt c arg5 V ∗ scr c arg10 arg11 arg12 arg13 arg14 arg15 arg16 (mapsAt (i 2).val Q K V (2 * ((i 2).val / 2)))) -∗ wp frame (wpE (defs₀ (F := F)) Variants.none (c : Thread nD τ) none) Set.univ (kk ⟨⟩) R))
    ⊢ wp frame (wpE (defs₀ (F := F)) Variants.none (c : Thread nD τ) none) Set.univ
        (Scf.Loop.for (k0_t1_loop i) (k0_t1_ok i) ⟨⟩ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293) >>= kk) R := by
  have hq : (i 2).val < 32 := (i 2).isLt
  have ht := trips1 i
  iintro ⟨H4, H5, HS, Hk⟩
  iapply (Scf.wp_for_bind frame (wpE (defs₀ (F := F)) Variants.none (c : Thread nD τ) none) Set.univ (k0_t1_loop i).lb (k0_t1_loop i).ub (k0_t1_loop i).st (k0_t1_ok i) _ _
    (fun k _ => iprop(pt c arg4 K ∗ pt c arg5 V ∗ scr c arg10 arg11 arg12 arg13 arg14 arg15 arg16 (mapsAt (i 2).val Q K V (2 * k)))) ?trip) $$ [H4 H5 HS]
  · intro t u
    have hlt : t.val < 16 := lt1 i t
    have hone : ∀ n : Fin 4, mapsAt (i 2).val Q K V (2 * t.val + 1) n = (mapsAt (i 2).val Q K V (2 * t.val) n).step (match n with | 0 => v1 | 1 => v3 | 2 => v5 | 3 => v7 : FVec F S512x128 .bf16) (vals V n (if 2 * t.val = 0 then (i 2).val else 2 * t.val - 1)) (keys K n (min (2 * t.val + 1) (i 2).val)) := by
      intro n; rw [hv n]; rfl
    have hpost : (fun n : Fin 4 => (mapsAt (i 2).val Q K V (2 * t.val + 1) n).step (match n with | 0 => v1 | 1 => v3 | 2 => v5 | 3 => v7 : FVec F S512x128 .bf16) (vals V n (if 2 * t.val + 1 = 0 then (i 2).val else 2 * t.val + 1 - 1)) (keys K n (min (2 * t.val + 1 + 1) (i 2).val)))
        = mapsAt (i 2).val Q K V (2 * (t.val + 1)) := by
      funext n; rw [hv n]; rfl
    rw [← hpost]
    iintro ⟨H4, H5, HS⟩
    iapply (trip1 c i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 K V (mapsAt (i 2).val Q K V (2 * t.val)) t
      (min (2 * t.val + 1) (i 2).val) (if 2 * t.val = 0 then (i 2).val else 2 * t.val - 1) (min (2 * t.val + 1 + 1) (i 2).val) (if 2 * t.val + 1 = 0 then (i 2).val else 2 * t.val + 1 - 1)
      (by omega) (by split <;> omega) (by omega) (by split <;> omega)
      (off_k1_0 i t) (off_k1_1 i t) (off_k1_2 i t) (off_k1_3 i t) (off_v1_0 i t) (off_v1_1 i t)
      (off_k2_0 i t) (off_k2_1 i t) (off_k2_2 i t) (off_k2_3 i t) (off_v2_0 i t) (off_v2_1 i t) (mapsAt (i 2).val Q K V (2 * t.val + 1)) hone)
    isplitl [H4]; · iexact H4
    isplitl [H5]; · iexact H5
    isplitl [HS]; · iexact HS
    iintro H
    iexact H
  · isplitl [H4]; · iexact H4
    isplitl [H5]; · iexact H5
    iexact HS
  iintro %acc H
  have he : 2 * (k0_t1_loop i).trips = 2 * ((i 2).val / 2) := by omega
  have hh : mapsAt (i 2).val Q K V (2 * (k0_t1_loop i).trips) = mapsAt (i 2).val Q K V (2 * ((i 2).val / 2)) := by rw [he]
  rw [← hh]
  iapply Hk
  iexact H

/-- The empty remainder of the paired loop. -/
theorem loop2 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole)
    (arg2 : BitVec 32) (v1 v3 v5 v7 : FVec F S512x128 .bf16) (v293 : FVec F S512x512 .f32) (v307 : BitVec 32)
    (K : Vec F S1x16384x512 .bf16) (V : Vec F S32x512x512 .bf16) (σ : Fin 4 → Map F) {β : Type} (kk : PUnit → Prog (TpuEff nD τ sig (Elt F) Λ₀ .tc) β) (R : β → sProp 𝕄) :
    iprop(pt c arg4 K ∗ pt c arg5 V ∗ scr c arg10 arg11 arg12 arg13 arg14 arg15 arg16 σ
      ∗ (iprop(pt c arg4 K ∗ pt c arg5 V ∗ scr c arg10 arg11 arg12 arg13 arg14 arg15 arg16 σ) -∗ wp frame (wpE (defs₀ (F := F)) Variants.none (c : Thread nD τ) none) Set.univ (kk ⟨⟩) R))
    ⊢ wp frame (wpE (defs₀ (F := F)) Variants.none (c : Thread nD τ) none) Set.univ
        (Scf.Loop.for (k0_t2_loop i) (k0_t2_ok i) ⟨⟩ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 v307) >>= kk) R := by
  have hq : (i 2).val < 32 := (i 2).isLt
  have ht := trips2 i
  iintro ⟨H4, H5, HS, Hk⟩
  iapply (Scf.wp_for_bind frame (wpE (defs₀ (F := F)) Variants.none (c : Thread nD τ) none) Set.univ (k0_t2_loop i).lb (k0_t2_loop i).ub (k0_t2_loop i).st (k0_t2_ok i) _ _
    (fun _ _ => iprop(pt c arg4 K ∗ pt c arg5 V ∗ scr c arg10 arg11 arg12 arg13 arg14 arg15 arg16 σ)) ?trip) $$ [H4 H5 HS]
  · intro t u
    have h1 : t.val < (k0_t2_loop i).trips := t.isLt
    omega
  · isplitl [H4]; · iexact H4
    isplitl [H5]; · iexact H5
    iexact HS
  iintro %acc H
  iapply Hk
  iexact H

/-- The single-step loop. -/
theorem loop3 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole)
    (arg2 : BitVec 32) (v1 v3 v5 v7 : FVec F S512x128 .bf16) (v293 : FVec F S512x512 .f32) (v308 : BitVec 32)
    (K : Vec F S1x16384x512 .bf16) (V : Vec F S32x512x512 .bf16) (Q : Vec F S1x512x512 .bf16) (hv : ∀ n : Fin 4, (match n with | 0 => v1 | 1 => v3 | 2 => v5 | 3 => v7 : FVec F S512x128 .bf16) = qmap Q n) {β : Type} (kk : PUnit → Prog (TpuEff nD τ sig (Elt F) Λ₀ .tc) β) (R : β → sProp 𝕄) :
    iprop(pt c arg4 K ∗ pt c arg5 V ∗ scr c arg10 arg11 arg12 arg13 arg14 arg15 arg16 (mapsAt (i 2).val Q K V (2 * ((i 2).val / 2)))
      ∗ (iprop(pt c arg4 K ∗ pt c arg5 V ∗ scr c arg10 arg11 arg12 arg13 arg14 arg15 arg16 (mapsAt (i 2).val Q K V ((i 2).val))) -∗ wp frame (wpE (defs₀ (F := F)) Variants.none (c : Thread nD τ) none) Set.univ (kk ⟨⟩) R))
    ⊢ wp frame (wpE (defs₀ (F := F)) Variants.none (c : Thread nD τ) none) Set.univ
        (Scf.Loop.for (k0_t3_loop i) (k0_t3_ok i) ⟨⟩ (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 v308) >>= kk) R := by
  have hq : (i 2).val < 32 := (i 2).isLt
  have ht := trips3 i
  iintro ⟨H4, H5, HS, Hk⟩
  iapply (Scf.wp_for_bind frame (wpE (defs₀ (F := F)) Variants.none (c : Thread nD τ) none) Set.univ (k0_t3_loop i).lb (k0_t3_loop i).ub (k0_t3_loop i).st (k0_t3_ok i) _ _
    (fun k _ => iprop(pt c arg4 K ∗ pt c arg5 V ∗ scr c arg10 arg11 arg12 arg13 arg14 arg15 arg16 (mapsAt (i 2).val Q K V (2 * ((i 2).val / 2) + k)))) ?trip) $$ [H4 H5 HS]
  · intro t u
    have hlt : t.val < 2 := lt3 i t
    have hpost : (fun n : Fin 4 => (mapsAt (i 2).val Q K V (2 * ((i 2).val / 2) + t.val) n).step (match n with | 0 => v1 | 1 => v3 | 2 => v5 | 3 => v7 : FVec F S512x128 .bf16) (vals V n (if 2 * ((i 2).val / 2) + t.val = 0 then (i 2).val else 2 * ((i 2).val / 2) + t.val - 1)) (keys K n (min (2 * ((i 2).val / 2) + t.val + 1) (i 2).val)))
        = mapsAt (i 2).val Q K V (2 * ((i 2).val / 2) + (t.val + 1)) := by
      funext n; rw [hv n]; rfl
    rw [← hpost]
    iintro ⟨H4, H5, HS⟩
    iapply (trip3 c i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 v308 K V (mapsAt (i 2).val Q K V (2 * ((i 2).val / 2) + t.val)) t
      (min (2 * ((i 2).val / 2) + t.val + 1) (i 2).val) (if 2 * ((i 2).val / 2) + t.val = 0 then (i 2).val else 2 * ((i 2).val / 2) + t.val - 1) (by omega) (by split <;> omega)
      (off_k3_0 i t) (off_k3_1 i t) (off_k3_2 i t) (off_k3_3 i t) (off_v3_0 i t) (off_v3_1 i t))
    isplitl [H4]; · iexact H4
    isplitl [H5]; · iexact H5
    isplitl [HS]; · iexact HS
    iintro H
    iexact H
  · isplitl [H4]; · iexact H4
    isplitl [H5]; · iexact H5
    iexact HS
  iintro %acc H
  have he : 2 * ((i 2).val / 2) + (k0_t3_loop i).trips = (i 2).val := by omega
  have hh : mapsAt (i 2).val Q K V (2 * ((i 2).val / 2) + (k0_t3_loop i).trips) = mapsAt (i 2).val Q K V ((i 2).val) := by rw [he]
  rw [← hh]
  iapply Hk
  iexact H

/-- The empty remainder of the single-step loop. -/
theorem loop4 (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole)
    (arg2 : BitVec 32) (v1 v3 v5 v7 : FVec F S512x128 .bf16) (v293 : FVec F S512x512 .f32) (v313 : BitVec 32)
    (K : Vec F S1x16384x512 .bf16) (V : Vec F S32x512x512 .bf16) (σ : Fin 4 → Map F) {β : Type} (kk : PUnit → Prog (TpuEff nD τ sig (Elt F) Λ₀ .tc) β) (R : β → sProp 𝕄) :
    iprop(pt c arg4 K ∗ pt c arg5 V ∗ scr c arg10 arg11 arg12 arg13 arg14 arg15 arg16 σ
      ∗ (iprop(pt c arg4 K ∗ pt c arg5 V ∗ scr c arg10 arg11 arg12 arg13 arg14 arg15 arg16 σ) -∗ wp frame (wpE (defs₀ (F := F)) Variants.none (c : Thread nD τ) none) Set.univ (kk ⟨⟩) R))
    ⊢ wp frame (wpE (defs₀ (F := F)) Variants.none (c : Thread nD τ) none) Set.univ
        (Scf.Loop.for (k0_t4_loop i) (k0_t4_ok i) ⟨⟩ (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v1 v3 v5 v7 v293 v313) >>= kk) R := by
  have hq : (i 2).val < 32 := (i 2).isLt
  have ht := trips4 i
  iintro ⟨H4, H5, HS, Hk⟩
  iapply (Scf.wp_for_bind frame (wpE (defs₀ (F := F)) Variants.none (c : Thread nD τ) none) Set.univ (k0_t4_loop i).lb (k0_t4_loop i).ub (k0_t4_loop i).st (k0_t4_ok i) _ _
    (fun _ _ => iprop(pt c arg4 K ∗ pt c arg5 V ∗ scr c arg10 arg11 arg12 arg13 arg14 arg15 arg16 σ)) ?trip) $$ [H4 H5 HS]
  · intro t u
    have h1 : t.val < (k0_t4_loop i).trips := t.isLt
    omega
  · isplitl [H4]; · iexact H4
    isplitl [H5]; · iexact H5
    iexact HS
  iintro %acc H
  iapply Hk
  iexact H

end Cert.KernelIdeal.Spec

end
-- ==== Proof.Body.lean ====
/- What one grid point does: from its operands' blocks to its output block. -/
module

public import proofs.«01_k».proof.Proof.Ends
public import proofs.«01_k».proof.Proof.Walk

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One grid point computes its output block, from any contents of the output block and of the scratch. -/
theorem body (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x512 .bf16) (harg9 : arg9.IsWhole) (arg10 : Memref sig .tc .vmem S4x512x512 .f32) (harg10 : arg10.IsWhole) (arg11 : Memref sig .tc .vmem S4x512x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x256x512 .f32) (harg16 : arg16.IsWhole)
    (Q : Vec F S1x512x512 .bf16) (K : Vec F S1x16384x512 .bf16) (V : Vec F S32x512x512 .bf16) (G : Vec F S1x512x512 .bf16) (lam : Vec F S4x128 .f32) (sw : Vec F S1x256 .f32)
    (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (R : Unit → sProp 𝕄) :
    iprop(pt c arg3 Q ∗ pt c arg4 K ∗ pt c arg5 V ∗ pt c arg6 G ∗ pt c arg7 lam ∗ pt c arg8 sw
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
      ∗ (iprop(pt c arg3 Q ∗ pt c arg4 K ∗ pt c arg5 V ∗ pt c arg6 G ∗ pt c arg7 lam ∗ pt c arg8 sw ∗ pt c arg9 (outBlk (i 2).val Q K V G lam sw)
        ∗ scr c arg10 arg11 arg12 arg13 arg14 arg15 arg16 (mapsLast (i 2).val Q K V)) -∗ R ()))
    ⊢ wp frame (wpE (defs₀ (F := F)) Variants.none (c : Thread nD τ) none) Set.univ
        (cc0_diff_prompt (F := F) i arg3 harg3 arg4 harg4 arg5 harg5 arg6 harg6 arg7 harg7 arg8 harg8 arg9 harg9 arg10 harg10 arg11 harg11 arg12 harg12 arg13 harg13 arg14 harg14 arg15 harg15 arg16 harg16) R := by
  have hq : (i 2).val < 32 := (i 2).isLt
  have rq0 : ∀ inb, arg3.view.readAt (Elt F) (Rect.unit (s := S1x512x512) ![0, 0, 0] S1x512x128.size inb).toLoadRect (arg3.view.rep Q) = qwin Q 0 :=
    fun inb => readAt_qwin arg3.view Q 0 _ rfl inb
  have rd0 : ∀ inb, arg4.view.readAt (Elt F) (Rect.unit (s := S1x16384x512) (k0_off1 i) S1x512x128.size inb).toLoadRect (arg4.view.rep K) = keys K 0 (i 2).val :=
    fun inb => readAt_keys arg4.view K 0 _ hq _ (off_d0 i) inb
  have rk0 : ∀ inb, arg4.view.readAt (Elt F) (Rect.unit (s := S1x16384x512) ![0, 0, 0] S1x512x128.size inb).toLoadRect (arg4.view.rep K) = keys K 0 0 :=
    fun inb => readAt_keys arg4.view K 0 0 (by decide) _ rfl inb
  have rq1 : ∀ inb, arg3.view.readAt (Elt F) (Rect.unit (s := S1x512x512) ![0, 0, 128] S1x512x128.size inb).toLoadRect (arg3.view.rep Q) = qwin Q 1 :=
    fun inb => readAt_qwin arg3.view Q 1 _ rfl inb
  have rd1 : ∀ inb, arg4.view.readAt (Elt F) (Rect.unit (s := S1x16384x512) (k0_off2 i) S1x512x128.size inb).toLoadRect (arg4.view.rep K) = keys K 1 (i 2).val :=
    fun inb => readAt_keys arg4.view K 1 _ hq _ (off_d1 i) inb
  have rk1 : ∀ inb, arg4.view.readAt (Elt F) (Rect.unit (s := S1x16384x512) ![0, 0, 128] S1x512x128.size inb).toLoadRect (arg4.view.rep K) = keys K 1 0 :=
    fun inb => readAt_keys arg4.view K 1 0 (by decide) _ rfl inb
  have rq2 : ∀ inb, arg3.view.readAt (Elt F) (Rect.unit (s := S1x512x512) ![0, 0, 256] S1x512x128.size inb).toLoadRect (arg3.view.rep Q) = qwin Q 2 :=
    fun inb => readAt_qwin arg3.view Q 2 _ rfl inb
  have rd2 : ∀ inb, arg4.view.readAt (Elt F) (Rect.unit (s := S1x16384x512) (k0_off3 i) S1x512x128.size inb).toLoadRect (arg4.view.rep K) = keys K 2 (i 2).val :=
    fun inb => readAt_keys arg4.view K 2 _ hq _ (off_d2 i) inb
  have rk2 : ∀ inb, arg4.view.readAt (Elt F) (Rect.unit (s := S1x16384x512) ![0, 0, 256] S1x512x128.size inb).toLoadRect (arg4.view.rep K) = keys K 2 0 :=
    fun inb => readAt_keys arg4.view K 2 0 (by decide) _ rfl inb
  have rq3 : ∀ inb, arg3.view.readAt (Elt F) (Rect.unit (s := S1x512x512) ![0, 0, 384] S1x512x128.size inb).toLoadRect (arg3.view.rep Q) = qwin Q 3 :=
    fun inb => readAt_qwin arg3.view Q 3 _ rfl inb
  have rd3 : ∀ inb, arg4.view.readAt (Elt F) (Rect.unit (s := S1x16384x512) (k0_off4 i) S1x512x128.size inb).toLoadRect (arg4.view.rep K) = keys K 3 (i 2).val :=
    fun inb => readAt_keys arg4.view K 3 _ hq _ (off_d3 i) inb
  have rk3 : ∀ inb, arg4.view.readAt (Elt F) (Rect.unit (s := S1x16384x512) ![0, 0, 384] S1x512x128.size inb).toLoadRect (arg4.view.rep K) = keys K 3 0 :=
    fun inb => readAt_keys arg4.view K 3 0 (by decide) _ rfl inb
  have rl0 : ∀ inb, arg5.view.readAt (Elt F) (Rect.unit (s := S32x512x512) (k0_off41 i) S1x256x512.size inb).toLoadRect (arg5.view.rep V) = vals V 0 ((i 2).val - 1) :=
    fun inb => readAt_vals arg5.view V 0 _ (by omega) _ (off_l0 i) inb
  have rg0 : ∀ inb, arg6.view.readAt (Elt F) (Rect.unit (s := S1x512x512) ![0, 0, 0] S1x512x256.size inb).toLoadRect (arg6.view.rep G) = gcols G 0 :=
    fun inb => readAt_gcols arg6.view G 0 _ rfl inb
  have rl1 : ∀ inb, arg5.view.readAt (Elt F) (Rect.unit (s := S32x512x512) (k0_off42 i) S1x256x512.size inb).toLoadRect (arg5.view.rep V) = vals V 2 ((i 2).val - 1) :=
    fun inb => readAt_vals arg5.view V 2 _ (by omega) _ (off_l1 i) inb
  have rg1 : ∀ inb, arg6.view.readAt (Elt F) (Rect.unit (s := S1x512x512) ![0, 0, 256] S1x512x256.size inb).toLoadRect (arg6.view.rep G) = gcols G 1 :=
    fun inb => readAt_gcols arg6.view G 1 _ rfl inb
  have rlam : ∀ inb, arg7.view.readAt (Elt F) (Rect.unit (s := S4x128) ![0, 0] S4x128.size inb).toLoadRect (arg7.view.rep lam) = lam :=
    fun inb => View.readAt_rep_full arg7.view lam inb
  have rsw : ∀ inb, arg8.view.readAt (Elt F) (Rect.unit (s := S1x256) ![0, 0] S1x256.size inb).toLoadRect (arg8.view.rep sw) = sw :=
    fun inb => View.readAt_rep_full arg8.view sw inb
  iintro ⟨H3, H4, H5, H6, H7, H8, H9, H10, H11, H12, H13, H14, H15, H16, Hk⟩
  set_option sl_exec.stopBefore "k0_part52" in sl_exec
  obtain ⟨σ0, h0⟩ : ∃ σ0 : Fin 4 → Map F, ∀ n, σ0 n = Map.init.scores (qmap Q n) (keys K n (i 2).val) := ⟨_, fun _ => rfl⟩
  ihave H10 := (pt_stkS c arg10 _ (fun n => (σ0 n).s) _ _ _ _ _ _ _ _ _ ?_ ?_ ?_ ?_) $$ H10
  · rw [h0]; rfl
  · rw [h0]; rfl
  · rw [h0]; rfl
  · rw [h0]; rfl
  ihave H12 := (pt_stkR c arg12 _ (fun n => (σ0 n).mx) _ _ _ _ _ _ _ _ _ ?_ ?_ ?_ ?_) $$ H12
  · rw [h0]; dsimp only [Map.scores]; exact mxA_0 _ _
  · rw [h0]; dsimp only [Map.scores]; exact mxA_1 _ _
  · rw [h0]; dsimp only [Map.scores]; exact mxA_2 _ _
  · rw [h0]; dsimp only [Map.scores]; exact mxA_3 _ _
  ihave H14 := (pt_full c arg14 _ (stkR fun n => (σ0 n).m) _ _ _ _ ?_) $$ H14
  · simp only [h0]; rfl
  ihave H15 := (pt_full c arg15 _ (stkR fun n => (σ0 n).l) _ _ _ _ ?_) $$ H15
  · simp only [h0]; rfl
  ihave H16 := (pt_full c arg16 _ (stkH fun n => (σ0 n).acc) _ _ _ _ ?_) $$ H16
  · simp only [h0]; rfl
  have r10_0 : ∀ inb, arg10.view.readAt (Elt F) (Rect.unit (s := S4x512x512) ![0, 0, 0] S1x512x512.size inb).toLoadRect (arg10.view.rep (stkS fun n => (σ0 n).s)) = (σ0 0).s :=
    fun inb => readAt_stkS arg10.view (fun n => (σ0 n).s) 0 _ rfl inb
  have r10_1 : ∀ inb, arg10.view.readAt (Elt F) (Rect.unit (s := S4x512x512) ![1, 0, 0] S1x512x512.size inb).toLoadRect (arg10.view.rep (stkS fun n => (σ0 n).s)) = (σ0 1).s :=
    fun inb => readAt_stkS arg10.view (fun n => (σ0 n).s) 1 _ rfl inb
  have r10_2 : ∀ inb, arg10.view.readAt (Elt F) (Rect.unit (s := S4x512x512) ![2, 0, 0] S1x512x512.size inb).toLoadRect (arg10.view.rep (stkS fun n => (σ0 n).s)) = (σ0 2).s :=
    fun inb => readAt_stkS arg10.view (fun n => (σ0 n).s) 2 _ rfl inb
  have r10_3 : ∀ inb, arg10.view.readAt (Elt F) (Rect.unit (s := S4x512x512) ![3, 0, 0] S1x512x512.size inb).toLoadRect (arg10.view.rep (stkS fun n => (σ0 n).s)) = (σ0 3).s :=
    fun inb => readAt_stkS arg10.view (fun n => (σ0 n).s) 3 _ rfl inb
  have r12_0 : ∀ inb, arg12.view.readAt (Elt F) (Rect.unit (s := S4x1x512) ![0, 0, 0] S1x1x512.size inb).toLoadRect (arg12.view.rep (stkR fun n => (σ0 n).mx)) = (σ0 0).mx :=
    fun inb => readAt_stkR arg12.view (fun n => (σ0 n).mx) 0 _ rfl inb
  have r12_1 : ∀ inb, arg12.view.readAt (Elt F) (Rect.unit (s := S4x1x512) ![1, 0, 0] S1x1x512.size inb).toLoadRect (arg12.view.rep (stkR fun n => (σ0 n).mx)) = (σ0 1).mx :=
    fun inb => readAt_stkR arg12.view (fun n => (σ0 n).mx) 1 _ rfl inb
  have r12_2 : ∀ inb, arg12.view.readAt (Elt F) (Rect.unit (s := S4x1x512) ![2, 0, 0] S1x1x512.size inb).toLoadRect (arg12.view.rep (stkR fun n => (σ0 n).mx)) = (σ0 2).mx :=
    fun inb => readAt_stkR arg12.view (fun n => (σ0 n).mx) 2 _ rfl inb
  have r12_3 : ∀ inb, arg12.view.readAt (Elt F) (Rect.unit (s := S4x1x512) ![3, 0, 0] S1x1x512.size inb).toLoadRect (arg12.view.rep (stkR fun n => (σ0 n).mx)) = (σ0 3).mx :=
    fun inb => readAt_stkR arg12.view (fun n => (σ0 n).mx) 3 _ rfl inb
  have r14_0 : ∀ inb, arg14.view.readAt (Elt F) (Rect.unit (s := S4x1x512) ![0, 0, 0] S1x1x512.size inb).toLoadRect (arg14.view.rep (stkR fun n => (σ0 n).m)) = (σ0 0).m :=
    fun inb => readAt_stkR arg14.view (fun n => (σ0 n).m) 0 _ rfl inb
  have r14_1 : ∀ inb, arg14.view.readAt (Elt F) (Rect.unit (s := S4x1x512) ![1, 0, 0] S1x1x512.size inb).toLoadRect (arg14.view.rep (stkR fun n => (σ0 n).m)) = (σ0 1).m :=
    fun inb => readAt_stkR arg14.view (fun n => (σ0 n).m) 1 _ rfl inb
  have r14_2 : ∀ inb, arg14.view.readAt (Elt F) (Rect.unit (s := S4x1x512) ![2, 0, 0] S1x1x512.size inb).toLoadRect (arg14.view.rep (stkR fun n => (σ0 n).m)) = (σ0 2).m :=
    fun inb => readAt_stkR arg14.view (fun n => (σ0 n).m) 2 _ rfl inb
  have r14_3 : ∀ inb, arg14.view.readAt (Elt F) (Rect.unit (s := S4x1x512) ![3, 0, 0] S1x1x512.size inb).toLoadRect (arg14.view.rep (stkR fun n => (σ0 n).m)) = (σ0 3).m :=
    fun inb => readAt_stkR arg14.view (fun n => (σ0 n).m) 3 _ rfl inb
  have r15_0 : ∀ inb, arg15.view.readAt (Elt F) (Rect.unit (s := S4x1x512) ![0, 0, 0] S1x1x512.size inb).toLoadRect (arg15.view.rep (stkR fun n => (σ0 n).l)) = (σ0 0).l :=
    fun inb => readAt_stkR arg15.view (fun n => (σ0 n).l) 0 _ rfl inb
  have r15_1 : ∀ inb, arg15.view.readAt (Elt F) (Rect.unit (s := S4x1x512) ![1, 0, 0] S1x1x512.size inb).toLoadRect (arg15.view.rep (stkR fun n => (σ0 n).l)) = (σ0 1).l :=
    fun inb => readAt_stkR arg15.view (fun n => (σ0 n).l) 1 _ rfl inb
  have r15_2 : ∀ inb, arg15.view.readAt (Elt F) (Rect.unit (s := S4x1x512) ![2, 0, 0] S1x1x512.size inb).toLoadRect (arg15.view.rep (stkR fun n => (σ0 n).l)) = (σ0 2).l :=
    fun inb => readAt_stkR arg15.view (fun n => (σ0 n).l) 2 _ rfl inb
  have r15_3 : ∀ inb, arg15.view.readAt (Elt F) (Rect.unit (s := S4x1x512) ![3, 0, 0] S1x1x512.size inb).toLoadRect (arg15.view.rep (stkR fun n => (σ0 n).l)) = (σ0 3).l :=
    fun inb => readAt_stkR arg15.view (fun n => (σ0 n).l) 3 _ rfl inb
  set_option sl_exec.stopBefore "k0_part58" in sl_exec
  rewrite [k0_part58_eq_skeleton]
  unfold k0_part58_skel
  sl_exec
  obtain ⟨σ1, h1⟩ : ∃ σ1 : Fin 4 → Map F, ∀ n, σ1 n = (σ0 n).softDiag.scores (qmap Q n) (keys K n 0) := ⟨_, fun _ => rfl⟩
  ihave H10 := (pt_stkS c arg10 _ (fun n => (σ1 n).s) _ _ _ _ _ _ _ _ _ ?_ ?_ ?_ ?_) $$ H10
  · rw [h1]; rfl
  · rw [h1]; rfl
  · rw [h1]; rfl
  · rw [h1]; rfl
  ihave H11 := (pt_stkS c arg11 _ (fun n => (σ1 n).p) _ _ _ _ _ _ _ _ _ ?_ ?_ ?_ ?_) $$ H11
  · rw [h1]; rfl
  · rw [h1]; rfl
  · rw [h1]; rfl
  · rw [h1]; rfl
  ihave H12 := (pt_stkR c arg12 _ (fun n => (σ1 n).mx) _ _ _ _ _ _ _ _ _ ?_ ?_ ?_ ?_) $$ H12
  · rw [h1]; dsimp only [Map.scores]; exact mxB_0 _ _
  · rw [h1]; dsimp only [Map.scores]; exact mxB_1 _ _
  · rw [h1]; dsimp only [Map.scores]; exact mxB_2 _ _
  · rw [h1]; dsimp only [Map.scores]; exact mxB_3 _ _
  ihave H13 := (pt_stkR c arg13 _ (fun n => (σ1 n).al) _ _ _ _ _ _ _ _ _ ?_ ?_ ?_ ?_) $$ H13
  · rw [h1]; rfl
  · rw [h1]; rfl
  · rw [h1]; rfl
  · rw [h1]; rfl
  ihave H14 := (pt_stkR c arg14 _ (fun n => (σ1 n).m) _ _ _ _ _ _ _ _ _ ?_ ?_ ?_ ?_) $$ H14
  · rw [h1]; rfl
  · rw [h1]; rfl
  · rw [h1]; rfl
  · rw [h1]; rfl
  ihave H15 := (pt_stkR c arg15 _ (fun n => (σ1 n).l) _ _ _ _ _ _ _ _ _ ?_ ?_ ?_ ?_) $$ H15
  · rw [h1]; rfl
  · rw [h1]; rfl
  · rw [h1]; rfl
  · rw [h1]; rfl
  clear r10_0 r10_1 r10_2 r10_3 r12_0 r12_1 r12_2 r12_3 r14_0 r14_1 r14_2 r14_3 r15_0 r15_1 r15_2 r15_3
  have ha : (fun n => (σ0 n).acc) = fun n => (σ1 n).acc := by funext n; rw [h1]; rfl
  have hs : σ1 = mapsAt (i 2).val Q K V 0 := by funext n; rw [h1, h0]; rfl
  rw [ha]
  subst hs
  beta_reduce
  rewrite [Prog.bind_assoc]
  iapply (loop1 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ K V Q ?_ _ _)
  · intro n
    match n with
    | 0 => rfl
    | 1 => rfl
    | 2 => rfl
    | 3 => rfl
  isplitl [H4]; · iexact H4
  isplitl [H5]; · iexact H5
  isplitl [H10 H11 H12 H13 H14 H15 H16]
  · isplitl [H10]; · iexact H10
    isplitl [H11]; · iexact H11
    isplitl [H12]; · iexact H12
    isplitl [H13]; · iexact H13
    isplitl [H14]; · iexact H14
    isplitl [H15]; · iexact H15
    iexact H16
  iintro ⟨H4, H5, ⟨H10, H11, H12, H13, H14, H15, H16⟩⟩
  beta_reduce
  rewrite [Prog.bind_assoc]
  iapply (loop2 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ K V (mapsAt (i 2).val Q K V (2 * ((i 2).val / 2))) _ _)
  isplitl [H4]; · iexact H4
  isplitl [H5]; · iexact H5
  isplitl [H10 H11 H12 H13 H14 H15 H16]
  · isplitl [H10]; · iexact H10
    isplitl [H11]; · iexact H11
    isplitl [H12]; · iexact H12
    isplitl [H13]; · iexact H13
    isplitl [H14]; · iexact H14
    isplitl [H15]; · iexact H15
    iexact H16
  iintro ⟨H4, H5, ⟨H10, H11, H12, H13, H14, H15, H16⟩⟩
  beta_reduce
  rewrite [Prog.bind_assoc]
  iapply (loop3 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ K V Q ?_ _ _)
  · intro n
    match n with
    | 0 => rfl
    | 1 => rfl
    | 2 => rfl
    | 3 => rfl
  isplitl [H4]; · iexact H4
  isplitl [H5]; · iexact H5
  isplitl [H10 H11 H12 H13 H14 H15 H16]
  · isplitl [H10]; · iexact H10
    isplitl [H11]; · iexact H11
    isplitl [H12]; · iexact H12
    isplitl [H13]; · iexact H13
    isplitl [H14]; · iexact H14
    isplitl [H15]; · iexact H15
    iexact H16
  iintro ⟨H4, H5, ⟨H10, H11, H12, H13, H14, H15, H16⟩⟩
  beta_reduce
  rewrite [Prog.bind_assoc]
  iapply (loop4 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ K V (mapsAt (i 2).val Q K V (i 2).val) _ _)
  isplitl [H4]; · iexact H4
  isplitl [H5]; · iexact H5
  isplitl [H10 H11 H12 H13 H14 H15 H16]
  · isplitl [H10]; · iexact H10
    isplitl [H11]; · iexact H11
    isplitl [H12]; · iexact H12
    isplitl [H13]; · iexact H13
    isplitl [H14]; · iexact H14
    isplitl [H15]; · iexact H15
    iexact H16
  iintro ⟨H4, H5, ⟨H10, H11, H12, H13, H14, H15, H16⟩⟩
  obtain ⟨σL, hL⟩ : ∃ σL : Fin 4 → Map F, mapsAt (i 2).val Q K V (i 2).val = σL := ⟨_, rfl⟩
  rw [hL]
  have r11_0 : ∀ inb, arg11.view.readAt (Elt F) (Rect.unit (s := S4x512x512) ![0, 0, 0] S1x512x512.size inb).toLoadRect (arg11.view.rep (stkS fun n => (σL n).p)) = (σL 0).p :=
    fun inb => readAt_stkS arg11.view (fun n => (σL n).p) 0 _ rfl inb
  have r11_1 : ∀ inb, arg11.view.readAt (Elt F) (Rect.unit (s := S4x512x512) ![1, 0, 0] S1x512x512.size inb).toLoadRect (arg11.view.rep (stkS fun n => (σL n).p)) = (σL 1).p :=
    fun inb => readAt_stkS arg11.view (fun n => (σL n).p) 1 _ rfl inb
  have r11_2 : ∀ inb, arg11.view.readAt (Elt F) (Rect.unit (s := S4x512x512) ![2, 0, 0] S1x512x512.size inb).toLoadRect (arg11.view.rep (stkS fun n => (σL n).p)) = (σL 2).p :=
    fun inb => readAt_stkS arg11.view (fun n => (σL n).p) 2 _ rfl inb
  have r11_3 : ∀ inb, arg11.view.readAt (Elt F) (Rect.unit (s := S4x512x512) ![3, 0, 0] S1x512x512.size inb).toLoadRect (arg11.view.rep (stkS fun n => (σL n).p)) = (σL 3).p :=
    fun inb => readAt_stkS arg11.view (fun n => (σL n).p) 3 _ rfl inb
  have r13_0 : ∀ inb, arg13.view.readAt (Elt F) (Rect.unit (s := S4x1x512) ![0, 0, 0] S1x1x512.size inb).toLoadRect (arg13.view.rep (stkR fun n => (σL n).al)) = (σL 0).al :=
    fun inb => readAt_stkR arg13.view (fun n => (σL n).al) 0 _ rfl inb
  have r13_1 : ∀ inb, arg13.view.readAt (Elt F) (Rect.unit (s := S4x1x512) ![1, 0, 0] S1x1x512.size inb).toLoadRect (arg13.view.rep (stkR fun n => (σL n).al)) = (σL 1).al :=
    fun inb => readAt_stkR arg13.view (fun n => (σL n).al) 1 _ rfl inb
  have r13_2 : ∀ inb, arg13.view.readAt (Elt F) (Rect.unit (s := S4x1x512) ![2, 0, 0] S1x1x512.size inb).toLoadRect (arg13.view.rep (stkR fun n => (σL n).al)) = (σL 2).al :=
    fun inb => readAt_stkR arg13.view (fun n => (σL n).al) 2 _ rfl inb
  have r13_3 : ∀ inb, arg13.view.readAt (Elt F) (Rect.unit (s := S4x1x512) ![3, 0, 0] S1x1x512.size inb).toLoadRect (arg13.view.rep (stkR fun n => (σL n).al)) = (σL 3).al :=
    fun inb => readAt_stkR arg13.view (fun n => (σL n).al) 3 _ rfl inb
  have r15_0 : ∀ inb, arg15.view.readAt (Elt F) (Rect.unit (s := S4x1x512) ![0, 0, 0] S1x1x512.size inb).toLoadRect (arg15.view.rep (stkR fun n => (σL n).l)) = (σL 0).l :=
    fun inb => readAt_stkR arg15.view (fun n => (σL n).l) 0 _ rfl inb
  have r15_1 : ∀ inb, arg15.view.readAt (Elt F) (Rect.unit (s := S4x1x512) ![1, 0, 0] S1x1x512.size inb).toLoadRect (arg15.view.rep (stkR fun n => (σL n).l)) = (σL 1).l :=
    fun inb => readAt_stkR arg15.view (fun n => (σL n).l) 1 _ rfl inb
  have r15_2 : ∀ inb, arg15.view.readAt (Elt F) (Rect.unit (s := S4x1x512) ![2, 0, 0] S1x1x512.size inb).toLoadRect (arg15.view.rep (stkR fun n => (σL n).l)) = (σL 2).l :=
    fun inb => readAt_stkR arg15.view (fun n => (σL n).l) 2 _ rfl inb
  have r15_3 : ∀ inb, arg15.view.readAt (Elt F) (Rect.unit (s := S4x1x512) ![3, 0, 0] S1x1x512.size inb).toLoadRect (arg15.view.rep (stkR fun n => (σL n).l)) = (σL 3).l :=
    fun inb => readAt_stkR arg15.view (fun n => (σL n).l) 3 _ rfl inb
  have r16_0 : ∀ inb, arg16.view.readAt (Elt F) (Rect.unit (s := S4x256x512) ![0, 0, 0] S1x256x512.size inb).toLoadRect (arg16.view.rep (stkH fun n => (σL n).acc)) = (σL 0).acc :=
    fun inb => readAt_stkH arg16.view (fun n => (σL n).acc) 0 _ rfl inb
  have r16_1 : ∀ inb, arg16.view.readAt (Elt F) (Rect.unit (s := S4x256x512) ![1, 0, 0] S1x256x512.size inb).toLoadRect (arg16.view.rep (stkH fun n => (σL n).acc)) = (σL 1).acc :=
    fun inb => readAt_stkH arg16.view (fun n => (σL n).acc) 1 _ rfl inb
  have r16_2 : ∀ inb, arg16.view.readAt (Elt F) (Rect.unit (s := S4x256x512) ![2, 0, 0] S1x256x512.size inb).toLoadRect (arg16.view.rep (stkH fun n => (σL n).acc)) = (σL 2).acc :=
    fun inb => readAt_stkH arg16.view (fun n => (σL n).acc) 2 _ rfl inb
  have r16_3 : ∀ inb, arg16.view.readAt (Elt F) (Rect.unit (s := S4x256x512) ![3, 0, 0] S1x256x512.size inb).toLoadRect (arg16.view.rep (stkH fun n => (σL n).acc)) = (σL 3).acc :=
    fun inb => readAt_stkH arg16.view (fun n => (σL n).acc) 3 _ rfl inb
  beta_reduce
  set_option sl_exec.stopBefore "k0_part61" in sl_exec
  obtain ⟨σF, hF⟩ : ∃ σF : Fin 4 → Map F, ∀ n, σF n = (σL n).values (vals V n ((i 2).val - 1)) := ⟨_, fun _ => rfl⟩
  ihave H16 := (pt_stkH c arg16 _ (fun n => (σF n).acc) _ _ _ _ _ _ _ _ _ ?_ ?_ ?_ ?_) $$ H16
  · rw [hF]; rfl
  · rw [hF]; rfl
  · rw [hF]; rfl
  · rw [hF]; rfl
  have g10 : (fun n => (σL n).s) = fun n => (σF n).s := by funext n; rw [hF]; rfl
  have g11 : (fun n => (σL n).p) = fun n => (σF n).p := by funext n; rw [hF]; rfl
  have g12 : (fun n => (σL n).mx) = fun n => (σF n).mx := by funext n; rw [hF]; rfl
  have g13 : (fun n => (σL n).al) = fun n => (σF n).al := by funext n; rw [hF]; rfl
  have g14 : (fun n => (σL n).m) = fun n => (σF n).m := by funext n; rw [hF]; rfl
  have g15 : (fun n => (σL n).l) = fun n => (σF n).l := by funext n; rw [hF]; rfl
  rw [g10, g11, g12, g13, g14, g15]
  clear r11_0 r11_1 r11_2 r11_3 r13_0 r13_1 r13_2 r13_3 r15_0 r15_1 r15_2 r15_3 r16_0 r16_1 r16_2 r16_3
  have r15_0 : ∀ inb, arg15.view.readAt (Elt F) (Rect.unit (s := S4x1x512) ![0, 0, 0] S1x1x512.size inb).toLoadRect (arg15.view.rep (stkR fun n => (σF n).l)) = (σF 0).l :=
    fun inb => readAt_stkR arg15.view (fun n => (σF n).l) 0 _ rfl inb
  have r15_1 : ∀ inb, arg15.view.readAt (Elt F) (Rect.unit (s := S4x1x512) ![1, 0, 0] S1x1x512.size inb).toLoadRect (arg15.view.rep (stkR fun n => (σF n).l)) = (σF 1).l :=
    fun inb => readAt_stkR arg15.view (fun n => (σF n).l) 1 _ rfl inb
  have r15_2 : ∀ inb, arg15.view.readAt (Elt F) (Rect.unit (s := S4x1x512) ![2, 0, 0] S1x1x512.size inb).toLoadRect (arg15.view.rep (stkR fun n => (σF n).l)) = (σF 2).l :=
    fun inb => readAt_stkR arg15.view (fun n => (σF n).l) 2 _ rfl inb
  have r15_3 : ∀ inb, arg15.view.readAt (Elt F) (Rect.unit (s := S4x1x512) ![3, 0, 0] S1x1x512.size inb).toLoadRect (arg15.view.rep (stkR fun n => (σF n).l)) = (σF 3).l :=
    fun inb => readAt_stkR arg15.view (fun n => (σF n).l) 3 _ rfl inb
  have r16_0 : ∀ inb, arg16.view.readAt (Elt F) (Rect.unit (s := S4x256x512) ![0, 0, 0] S1x256x512.size inb).toLoadRect (arg16.view.rep (stkH fun n => (σF n).acc)) = (σF 0).acc :=
    fun inb => readAt_stkH arg16.view (fun n => (σF n).acc) 0 _ rfl inb
  have r16_1 : ∀ inb, arg16.view.readAt (Elt F) (Rect.unit (s := S4x256x512) ![1, 0, 0] S1x256x512.size inb).toLoadRect (arg16.view.rep (stkH fun n => (σF n).acc)) = (σF 1).acc :=
    fun inb => readAt_stkH arg16.view (fun n => (σF n).acc) 1 _ rfl inb
  have r16_2 : ∀ inb, arg16.view.readAt (Elt F) (Rect.unit (s := S4x256x512) ![2, 0, 0] S1x256x512.size inb).toLoadRect (arg16.view.rep (stkH fun n => (σF n).acc)) = (σF 2).acc :=
    fun inb => readAt_stkH arg16.view (fun n => (σF n).acc) 2 _ rfl inb
  have r16_3 : ∀ inb, arg16.view.readAt (Elt F) (Rect.unit (s := S4x256x512) ![3, 0, 0] S1x256x512.size inb).toLoadRect (arg16.view.rep (stkH fun n => (σF n).acc)) = (σF 3).acc :=
    fun inb => readAt_stkH arg16.view (fun n => (σF n).acc) 3 _ rfl inb
  sl_exec
  sl_step
  have hM : σF = mapsLast (i 2).val Q K V := by
    funext n; rw [hF, ← hL]; rfl
  subst hM
  iapply Hk
  isplitl [H3]; · iexact H3
  isplitl [H4]; · iexact H4
  isplitl [H5]; · iexact H5
  isplitl [H6]; · iexact H6
  isplitl [H7]; · iexact H7
  isplitl [H8]; · iexact H8
  isplitl [H9]
  · rw [outBlk_halves]
    iapply (pt_halves c arg9 _ _ _ _ _ _ _ ?_ ?_) $$ H9
    · rfl
    · rfl
  isplitl [H10]; · iexact H10
  isplitl [H11]; · iexact H11
  isplitl [H12]; · iexact H12
  isplitl [H13]; · iexact H13
  isplitl [H14]; · iexact H14
  isplitl [H15]; · iexact H15
  iexact H16

end Cert.KernelIdeal.Spec

end
-- ==== Proof.Run.lean ====
/- The run of the launch, and its frame. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Owning a buffer at the values `X` is holding it whole at them. -/
theorem owns_pt (c : Dev nD) {sp : Space} {S : Shape} {e : EltTy} (M : Memref sig .tc sp S e) (X : S.Idx → Elt F e) :
    (owns (c : Thread nD τ) M fullShare X : sProp 𝕄) ⊢ pt c M X := by
  unfold owns
  iintro ⟨%f, %hf, H⟩
  iapply (pointsTo_rep_of_read (c : Thread nD τ) M f fullShare X hf) $$ H

/-- Holding a buffer whole at the values `X` is owning it at them. -/
theorem pt_owns (c : Dev nD) {sp : Space} {S : Shape} {e : EltTy} (M : Memref sig .tc sp S e) (X : S.Idx → Elt F e) :
    (pt c M X : sProp 𝕄) ⊢ owns (c : Thread nD τ) M fullShare X := by
  unfold owns
  iintro H
  iexists (M.view.rep X); isplitr
  · ipureintro; exact M.view.read_rep X
  iexact H

/-- The query block a grid point works on. -/
abbrev qiAt (t : Fin cfg0.N) : ℕ := ((grid0.coords t) 2).val

/-- The output block of a grid point, from the blocks of its operands. -/
def outAt (c : Dev nD) (t : Fin cfg0.N) : Vec F S1x512x512 .bf16 :=
  outBlk (qiAt t) (iblk m c 0 t) (iblk m c 1 t) (iblk m c 2 t) (iblk m c 3 t) (iblk m c 4 t) (iblk m c 5 t)

/-- What each window's buffer holds after a grid point: an operand's block, and the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- The scratch and the register, buffer by buffer. -/
theorem phi_eq (c : Dev nD) : (Pipeline.ΦA spec0 c : sProp 𝕄) = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f)) ∗ (∃ r, prngReg c r)) := by
  unfold Pipeline.ΦA; rw [scopedRest0_eq]; simp only [owns_whole]; try rfl

/-- Window 0 after a grid point. -/
theorem aft0 (c : Dev nD) (t : Fin cfg0.N) : (dats m 0 c).after 0 t = iblk m c 0 t := by dsimp only [dats]
/-- Window 1 after a grid point. -/
theorem aft1 (c : Dev nD) (t : Fin cfg0.N) : (dats m 0 c).after 1 t = iblk m c 1 t := by dsimp only [dats]
/-- Window 2 after a grid point. -/
theorem aft2 (c : Dev nD) (t : Fin cfg0.N) : (dats m 0 c).after 2 t = iblk m c 2 t := by dsimp only [dats]
/-- Window 3 after a grid point. -/
theorem aft3 (c : Dev nD) (t : Fin cfg0.N) : (dats m 0 c).after 3 t = iblk m c 3 t := by dsimp only [dats]
/-- Window 4 after a grid point. -/
theorem aft4 (c : Dev nD) (t : Fin cfg0.N) : (dats m 0 c).after 4 t = iblk m c 4 t := by dsimp only [dats]
/-- Window 5 after a grid point. -/
theorem aft5 (c : Dev nD) (t : Fin cfg0.N) : (dats m 0 c).after 5 t = iblk m c 5 t := by dsimp only [dats]
/-- Window 6 after a grid point. -/
theorem aft6 (c : Dev nD) (t : Fin cfg0.N) : (dats m 0 c).after 6 t = outAt m c t := by dsimp only [dats]
/-- Window 0 holds its block when the body begins. -/
theorem bef0 (c : Dev nD) (t : Fin cfg0.N) (d) : (dats m 0 c).before 0 t d = iblk m c 0 t :=
  before0_0_of m (dats m 0 c) (A_eq m c 0) (aft0 m c) t d
/-- Window 1 holds its block when the body begins. -/
theorem bef1 (c : Dev nD) (t : Fin cfg0.N) (d) : (dats m 0 c).before 1 t d = iblk m c 1 t :=
  before0_1_of m (dats m 0 c) (A_eq m c 1) (aft1 m c) t d
/-- Window 2 holds its block when the body begins. -/
theorem bef2 (c : Dev nD) (t : Fin cfg0.N) (d) : (dats m 0 c).before 2 t d = iblk m c 2 t :=
  before0_2_of m (dats m 0 c) (A_eq m c 2) (aft2 m c) t d
/-- Window 3 holds its block when the body begins. -/
theorem bef3 (c : Dev nD) (t : Fin cfg0.N) (d) : (dats m 0 c).before 3 t d = iblk m c 3 t :=
  before0_3_of m (dats m 0 c) (A_eq m c 3) (aft3 m c) t d
/-- Window 4 holds its block when the body begins. -/
theorem bef4 (c : Dev nD) (t : Fin cfg0.N) (d) : (dats m 0 c).before 4 t d = iblk m c 4 t :=
  before0_4_of m (dats m 0 c) (A_eq m c 4) (aft4 m c) t d
/-- Window 5 holds its block when the body begins. -/
theorem bef5 (c : Dev nD) (t : Fin cfg0.N) (d) : (dats m 0 c).before 5 t d = iblk m c 5 t :=
  before0_5_of m (dats m 0 c) (A_eq m c 5) (aft5 m c) t d

/-- What a grid point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at every grid point. -/
theorem sound (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [bef0, bef1, bef2, bef3, bef4, bef5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    aft0, aft1, aft2, aft3, aft4, aft5, aft6, phi_eq]
  iintro ⟨⟨⟨⟨%s0, S0⟩, ⟨%s1, S1⟩, ⟨%s2, S2⟩, ⟨%s3, S3⟩, ⟨%s4, S4⟩, ⟨%s5, S5⟩, ⟨%s6, S6⟩⟩, Hp⟩, Ho, ⟨%d0, W0⟩, ⟨%d1, W1⟩, ⟨%d2, W2⟩, ⟨%d3, W3⟩, ⟨%d4, W4⟩, ⟨%d5, W5⟩, ⟨%d6, W6⟩⟩
  unfold outAt
  ihave S0 := (owns_pt c _ _) $$ S0
  ihave S1 := (owns_pt c _ _) $$ S1
  ihave S2 := (owns_pt c _ _) $$ S2
  ihave S3 := (owns_pt c _ _) $$ S3
  ihave S4 := (owns_pt c _ _) $$ S4
  ihave S5 := (owns_pt c _ _) $$ S5
  ihave S6 := (owns_pt c _ _) $$ S6
  ihave W0 := (owns_pt c _ _) $$ W0
  ihave W1 := (owns_pt c _ _) $$ W1
  ihave W2 := (owns_pt c _ _) $$ W2
  ihave W3 := (owns_pt c _ _) $$ W3
  ihave W4 := (owns_pt c _ _) $$ W4
  ihave W5 := (owns_pt c _ _) $$ W5
  ihave W6 := (owns_pt c _ _) $$ W6
  iapply (body c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (iblk m c 0 t) (iblk m c 1 t) (iblk m c 2 t) (iblk m c 3 t) (iblk m c 4 t) (iblk m c 5 t) _ _ _ _ _ _ _ _ (fun _ => _))
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, S0, S1, S2, S3, S4, S5, S6⟩
  ihave S0 := (pt_owns c _ _) $$ S0
  ihave S1 := (pt_owns c _ _) $$ S1
  ihave S2 := (pt_owns c _ _) $$ S2
  ihave S3 := (pt_owns c _ _) $$ S3
  ihave S4 := (pt_owns c _ _) $$ S4
  ihave S5 := (pt_owns c _ _) $$ S5
  ihave S6 := (pt_owns c _ _) $$ S6
  ihave W0 := (pt_owns c _ _) $$ W0
  ihave W1 := (pt_owns c _ _) $$ W1
  ihave W2 := (pt_owns c _ _) $$ W2
  ihave W3 := (pt_owns c _ _) $$ W3
  ihave W4 := (pt_owns c _ _) $$ W4
  ihave W5 := (pt_owns c _ _) $$ W5
  ihave W6 := (pt_owns c _ _) $$ W6
  isplitl [S0 S1 S2 S3 S4 S5 S6 Hp]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hp
  isplitl [Ho]; · iexact Ho
  isplitl [W0]; · iexact W0
  isplitl [W1]; · iexact W1
  isplitl [W2]; · iexact W2
  isplitl [W3]; · iexact W3
  isplitl [W4]; · iexact W4
  isplitl [W5]; · iexact W5
  iexact W6

/-- The body the launch calls at a point is the printed body at the point's buffers. -/
theorem defs_at (t : Fin cfg0.N) : defs₀ (F := F) .tc cfg0.body (cfg0.bodyArgs t (cfg0.slots t)) = bodyAt0 t := by
  unfold defs₀; rw [Defs.onTc_tc]

/-- Every grid point does what the launch asks of it. -/
theorem obligation (c : Dev nD) : BodyObligation (dats (F := F) m 0 c) (defs₀ (F := F)) Variants.none () Set.univ := fun t => by
  rw [bigSep_W0, bigSep_W0, defs_at]
  exact triple_restated (sound m c t) rfl .rfl fun _ => .rfl

set_option backward.isDefEq.respectTransparency.types false in
/-- Every run ends, with every array at what the grid points leave and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every run ends, with every array at what the grid points leave. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.KernelIdeal.Spec

end
-- ==== Proof.Entry.lean ====
/- What the grid points find: the operands' blocks at an index, from the arguments. -/
module

public import proofs.«01_k».proof.Proof.Run
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Spec

open Cert.KernelIdeal Cert.KernelIdeal.Gen
open Idealize.ShloMosaic Idealize.ShloMosaic.TcCoe Idealize.SL.Sem Idealize.ShloMosaic.Pipeline

variable (m : (ℓ : Loc nD τ sig) → Buf (Elt Ideal) ℓ) (c : Dev nD)

/-- The queries, keys, values, gate, the four vectors of lambda and the norm's weights, as launched. -/
abbrev argQ : FVec Ideal S2x16384x1024 .f32 := m (c, Proc.tc.devRef main_arg0)
abbrev argK : FVec Ideal S2x16384x1024 .f32 := m (c, Proc.tc.devRef main_arg1)
abbrev argV : FVec Ideal S2x16384x1024 .f32 := m (c, Proc.tc.devRef main_arg2)
abbrev argG : FVec Ideal S2x16384x1024 .f32 := m (c, Proc.tc.devRef main_arg3)
abbrev argL : FVec Ideal S4x128 .f32 := m (c, Proc.tc.devRef main_arg4)
abbrev argW : FVec Ideal S256 .f32 := m (c, Proc.tc.devRef main_arg5)

/-- The scale the queries are given before the launch. -/
def scale : EReal := Ideal.div 1
  (Ideal.sqrt (Ideal.ofBits .f32 0x43000000#32) * Ideal.log (Ideal.ofBits .f32 0x40000000#32))

/-- A gate's value: `x` times the logistic of `x`. -/
def silu (x : EReal) : EReal :=
  x * Ideal.div 1 (1 + Ideal.exp (-x))

/-- The scaled queries at an index. -/
theorem v6_at (b : Fin 2) (r : Fin 16384) (x : Fin 1024) :
    V m c main_v6 (ix3 b r x) = argQ m c (ix3 b r x) * scale := by
  entry_read
  pointwise
  rfl

/-- The keys at an index. -/
theorem v7_at (b : Fin 2) (r : Fin 16384) (x : Fin 1024) :
    V m c main_v7 (ix3 b r x) = argK m c (ix3 b r x) := by
  entry_read
  pointwise

/-- The blocked and transposed values at an index. -/
theorem v10_at (t : Fin 64) (x : Fin 1024) (a : Fin 512) :
    V m c main_v10 (ix3 t x a) = argV m c (ix3 (⟨t.val / 32, by omega⟩ : Fin 2) (⟨t.val % 32 * 512 + a.val, by omega⟩ : Fin 16384) x) := by
  entry_read
  pointwise

/-- The gate's values at an index. -/
theorem v18_at (b : Fin 2) (r : Fin 16384) (x : Fin 1024) :
    V m c main_v18 (ix3 b r x) = silu (argG m c (ix3 b r x)) := by
  entry_read
  pointwise
  rfl

/-- The norm's weights at an index. -/
theorem v19_at (x : Fin 256) :
    V m c main_v19 (ix2 0 x) = argW m c (ix1 x) := by
  entry_read
  pointwise

theorem index_0 : ∀ t, win0_0.index t = ![t.val / 64, t.val % 32, t.val / 32 % 2] := by decide +kernel
theorem index_1 : ∀ t, win0_1.index t = ![t.val / 64, 0, t.val / 32 % 2] := by decide +kernel
theorem index_2 : ∀ t, win0_2.index t = ![t.val / 64, t.val / 32 % 2, 0] := by decide +kernel
theorem index_3 : ∀ t, win0_3.index t = ![t.val / 64, t.val % 32, t.val / 32 % 2] := by decide +kernel
theorem index_4 : ∀ t, win0_4.index t = ![0, 0] := by decide +kernel
theorem index_5 : ∀ t, win0_5.index t = ![0, 0] := by decide +kernel
theorem index_6 : ∀ t, win0_6.index t = ![t.val / 64, t.val % 32, t.val / 32 % 2] := by decide +kernel
theorem qiAt_eq : ∀ t, qiAt t = t.val % 32 := by decide +kernel
theorem point_lt : ∀ t : Fin cfg0.N, t.val < 128 := by decide +kernel

/-- A grid point's batch. -/
def bi (t : Fin cfg0.N) : Fin 2 := ⟨t.val / 64, by have := point_lt t; omega⟩
/-- A position, from its block and its place in the block. -/
def row (j : ℕ) (a : Fin 512) : Fin 16384 := ⟨(512 * j + a.val) % 16384, Nat.mod_lt _ (by decide)⟩
/-- A lane of a map of a grid point's two heads. -/
def ln (t : Fin cfg0.N) (n : Fin 4) (d : Fin 128) : Fin 1024 := ⟨512 * (t.val / 32 % 2) + 128 * n.val + d.val, by omega⟩
/-- A lane of a head of a grid point's two. -/
def vln (t : Fin cfg0.N) (h : Fin 2) (e : Fin 256) : Fin 1024 := ⟨512 * (t.val / 32 % 2) + 256 * h.val + e.val, by omega⟩

/-- The queries of map `n` at a grid point. -/
theorem q_at (t : Fin cfg0.N) (n : Fin 4) (b : Fin 512) (d : Fin 128) :
    qmap (iblk m c 0 t) n (ix2 b d) = argQ m c (ix3 (bi t) (row (t.val % 32) b) (ln t n d)) * scale := by
  rw [← v6_at]
  have := point_lt t
  pointwise [qmap, k0_pay324]
  blk_ext [iblk, index_0 t, bi, row, ln]

/-- The keys of block `j` in map `n` at a grid point. -/
theorem k_at (t : Fin cfg0.N) (n : Fin 4) (j : ℕ) (a : Fin 512) (d : Fin 128) :
    keys (iblk m c 1 t) n j (ix3 0 a d) = argK m c (ix3 (bi t) (row j a) (ln t n d)) := by
  rw [← v7_at]
  have := point_lt t
  pointwise [keys]
  blk_ext [iblk, index_1 t, bi, row, ln]

/-- The values of block `j` for map `n` at a grid point. -/
theorem vt_at (t : Fin cfg0.N) (h : Fin 2) (n : Fin 4) (hn : n.val / 2 = h.val) (j : ℕ) (a : Fin 512) (e : Fin 256) :
    vals (iblk m c 2 t) n j (ix3 0 e a) = argV m c (ix3 (bi t) (row j a) (vln t h e)) := by
  have := point_lt t
  have e1 : (ix3 (bi t) (row j a) (vln t h e) : S2x16384x1024.Idx)
      = ix3 (⟨(32 * (t.val / 64) + j % 32) / 32, by omega⟩ : Fin 2) (⟨(32 * (t.val / 64) + j % 32) % 32 * 512 + a.val, by omega⟩ : Fin 16384) (vln t h e) := by
    congr 1 <;> apply Fin.ext <;> simp only [bi, row] <;> omega
  rw [e1, ← v10_at m c (⟨32 * (t.val / 64) + j % 32, by omega⟩ : Fin 64)]
  pointwise [vals]
  blk_ext [iblk, index_2 t, vln]

/-- The gate's columns of head `h` at a grid point. -/
theorem g_at (t : Fin cfg0.N) (h : Fin 2) (b : Fin 512) (e : Fin 256) :
    gcols (iblk m c 3 t) h (ix3 0 b e) = silu (argG m c (ix3 (bi t) (row (t.val % 32) b) (vln t h e))) := by
  rw [← v18_at]
  have := point_lt t
  pointwise [gcols]
  blk_ext [iblk, index_3 t, bi, row, vln]

/-- The four vectors of lambda at a grid point. -/
theorem la_at (t : Fin cfg0.N) (i : Fin 4) (d : Fin 128) : iblk m c 4 t (ix2 i d) = argL m c (ix2 i d) := by
  have e1 : argL m c (ix2 i d) = V m c main_arg4 (ix2 i d) := by
    entry_read
    rfl
  rw [e1]
  blk_ext [iblk, index_4 t]

/-- The norm's weights at a grid point. -/
theorem sw_at (t : Fin cfg0.N) (e : Fin 256) : iblk m c 5 t (ix2 0 e) = argW m c (ix1 e) := by
  rw [← v19_at]
  blk_ext [iblk, index_5 t]

end Cert.KernelIdeal.Spec

end
-- ==== Proof.Reads.lean ====
/- The kernel's vector operations read at an index, on extended reals. -/
module

public import proofs.«01_k».proof.Proof.Spec
public import Idealize.ShloMosaic.Lib.Pointwise

@[expose] public section

set_option maxRecDepth 16384

noncomputable section

namespace Cert.KernelIdeal.Spec

open Cert.KernelIdeal Cert.KernelIdeal.Gen
open Idealize.ShloMosaic Idealize.ShloMosaic.TcCoe

/-- The output after the pending values are added. -/
theorem acc_at (vt : Vec Ideal S1x256x512 .bf16) (al : Vec Ideal S1x1x512 .f32) (acc : Vec Ideal S1x256x512 .f32) (p : Vec Ideal S1x512x512 .bf16) (e : Fin 256) (b : Fin 512) :
    k0_pay216 vt al acc p (ix3 0 e b) = al (ix3 0 0 b) * acc (ix3 0 e b) + ∑ a : Fin 512, vt (ix3 0 e a) * p (ix3 0 a b) := by
  pointwise [k0_pay216]

/-- The new running maximum. -/
theorem m_at (mx m : Vec Ideal S1x1x512 .f32) (b : Fin 512) :
    k0_pay232 (k0_pay226 mx m) (ix3 0 0 b) = max (m (ix3 0 0 b)) (mx (ix3 0 0 b)) := by
  pointwise [k0_pay232, k0_pay226, k0_pay225]

/-- The rescaling factor. -/
theorem al_at (mx m : Vec Ideal S1x1x512 .f32) (b : Fin 512) :
    k0_pay231 (k0_pay228 mx m) (ix3 0 0 b) = Ideal.exp2 (m (ix3 0 0 b) - max (m (ix3 0 0 b)) (mx (ix3 0 0 b))) := by
  pointwise [k0_pay231, k0_pay228, k0_pay226, k0_pay225]
  rfl

/-- The weights. -/
theorem p_at (s : Vec Ideal S1x512x512 .f32) (mx m : Vec Ideal S1x1x512 .f32) (a b : Fin 512) :
    k0_pay230 s mx m (ix3 0 a b) = Ideal.exp2 (s (ix3 0 a b) - max (m (ix3 0 0 b)) (mx (ix3 0 0 b))) := by
  pointwise [k0_pay230, k0_pay227, k0_pay226, k0_pay225]
  rfl

/-- The running sum. -/
theorem l_at (s : Vec Ideal S1x512x512 .f32) (mx m l : Vec Ideal S1x1x512 .f32) (b : Fin 512) :
    k0_pay229 s mx m l (ix3 0 0 b) = Ideal.exp2 (m (ix3 0 0 b) - max (m (ix3 0 0 b)) (mx (ix3 0 0 b))) * l (ix3 0 0 b)
      + ∑ a : Fin 512, Ideal.exp2 (s (ix3 0 a b) - max (m (ix3 0 0 b)) (mx (ix3 0 0 b))) := by
  pointwise [k0_pay229, k0_pay228, k0_pay227, k0_pay226, k0_pay225]
  rfl

/-- The scores. -/
theorem s_at (q : FVec Ideal S512x128 .bf16) (k : Vec Ideal S1x512x128 .bf16) (a b : Fin 512) :
    k0_pay258 q k (ix3 0 a b) = ∑ d : Fin 128, k (ix3 0 a d) * q (ix2 b d) := by
  pointwise [k0_pay258, k0_pay257]

/-- The scores' column maxima. -/
theorem mx_at (q : FVec Ideal S512x128 .bf16) (k : Vec Ideal S1x512x128 .bf16) (b : Fin 512) :
    k0_pay259 q k (ix3 0 0 b) = Finset.univ.fold max ⊥ fun a : Fin 512 => ∑ d : Fin 128, k (ix3 0 a d) * q (ix2 b d) := by
  pointwise [k0_pay259, k0_pay257]
  rfl

/-- The masked scores of the diagonal block. -/
def dsc (s : Vec Ideal S1x512x512 .f32) (a b : Fin 512) : EReal := if a.val / 64 ≤ b.val / 64 then s (ix3 0 a b) else ⊥

/-- The chunk of a row, as the kernel computes it on words. -/
def chunkWord (x : BitVec 32) : BitVec 32 :=
  Scalar.select
        (IntOp.andi
          (IntOp.cmpi CmpIPredicate.ne
            (IntOp.subi (BitVec.setWidth 32 (IntOp.cmpi CmpIPredicate.sgt x 0#32))
              (BitVec.setWidth 32 (IntOp.cmpi CmpIPredicate.slt x 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector x 64#32) 0#32))
        (IntOp.subi (IntOp.divsi ArithUnit.vector x 64#32) 1#32)
        (IntOp.divsi ArithUnit.vector x 64#32)

/-- It is the row's number over 64. -/
theorem chunkWord_eq (n : Fin 512) : chunkWord (BitVec.ofNat 32 n.val) = BitVec.ofNat 32 (n.val / 64) := by
  revert n; decide +kernel

/-- Comparing two chunks as words compares them as numbers. -/
theorem diag_word (a b : Fin 512) :
    IntOp.cmpi CmpIPredicate.sle (chunkWord (BitVec.ofNat 32 a.val)) (chunkWord (BitVec.ofNat 32 b.val)) = if a.val / 64 ≤ b.val / 64 then 1#1 else 0#1 := by
  rw [chunkWord_eq, chunkWord_eq]
  have h : ∀ x y : Fin 8, IntOp.cmpi CmpIPredicate.sle (BitVec.ofNat 32 x.val) (BitVec.ofNat 32 y.val) = if x.val ≤ y.val then 1#1 else 0#1 := by
    decide +kernel
  exact h ⟨a.val / 64, by omega⟩ ⟨b.val / 64, by omega⟩

/-- The chunk mask. -/
theorem mask_at (a b : Fin 512) : diagMask (ix2 a b) = if a.val / 64 ≤ b.val / 64 then 1#1 else 0#1 := by
  unfold diagMask
  pointwise [k0_pay345, k0_pay346, k0_pay347, k0_pay348]
  exact (diag_word a b)

/-- The masked scores. -/
theorem ds_at (s : Vec Ideal S1x512x512 .f32) (a b : Fin 512) : k0_pay358 diagMask s (ix2 a b) = dsc s a b := by
  pointwise [k0_pay358]
  rw [mask_at]; unfold dsc
  split <;> rfl

/-- A head's output before its normalisation. -/
theorem o_at (lam : FVec Ideal S1x1 .f32) (a0 a1 : Vec Ideal S1x256x512 .f32) (l0 l1 : Vec Ideal S1x1x512 .f32) (b : Fin 512) (e : Fin 256) :
    k0_pay420 lam a0 l0 a1 l1 (ix2 b e) = Ideal.div (a0 (ix3 0 e b)) (l0 (ix3 0 0 b)) - lam (ix2 0 0) * Ideal.div (a1 (ix3 0 e b)) (l1 (ix3 0 0 b)) := by
  pointwise [k0_pay420]

/-- The weight of the second map. -/
theorem lam_at (lam : Vec Ideal S4x128 .f32) :
    k0_pay413 lam (k0_pay411 lam) (k0_pay412 lam) (ix2 0 0)
      = Ideal.exp (∑ d : Fin 128, lam (ix2 0 d) * lam (ix2 1 d)) - Ideal.exp (∑ d : Fin 128, lam (ix2 2 d) * lam (ix2 3 d)) + Ideal.ofBits .f32 0x3E4CCCCD#32 := by
  pointwise [k0_pay413, k0_pay411, k0_pay412]

/-- A head's output, normalised and gated. -/
theorem fin_at (o : FVec Ideal S512x256 .f32) (sw : Vec Ideal S1x256 .f32) (g : Vec Ideal S1x512x256 .bf16) (b : Fin 512) (e : Fin 256) :
    k0_pay1 o (k0_pay421 sw) (k0_pay422 g) (mulf o o) (ix3 0 b e)
      = o (ix2 b e) * Ideal.rsqrt (Ideal.div (∑ e : Fin 256, o (ix2 b e) * o (ix2 b e)) (Ideal.ofBits .f32 0x43800000#32) + Ideal.ofBits .f32 0x358637BD#32)
        * sw (ix2 0 e) * Ideal.ofBits .f32 0x3F4CCCCD#32 * g (ix3 0 b e) := by
  pointwise [k0_pay1, k0_pay421, k0_pay422]

end Cert.KernelIdeal.Spec

end
-- ==== Proof.Mean.lean ====
/- The attention both programs compute, on real numbers: the scores' weights, the weighted mean of the values, and the
   difference of the two maps' means. -/
module

public import Idealize.ShloMosaic.Lib.Pointwise

@[expose] public section

set_option maxRecDepth 16384

noncomputable section

namespace Cert.Mean

open Idealize.ShloMosaic

/-- The weight of key `j` for query `r` at score `x`: nothing where the key's chunk is later than the query's. -/
def expw (r j : Fin 16384) (x : ℝ) : ℝ := if j.val / 64 ≤ r.val / 64 then Real.exp x else 0

/-- The weighted mean of the values `v` under the scores `x` for query `r`. -/
def mean (x v : Fin 16384 → ℝ) (r : Fin 16384) : ℝ := (∑ j, expw r j (x j) * v j) / ∑ j, expw r j (x j)

/-- The score of key `j` for query `r` of batch `b` in the lanes `l`. -/
def score (Q K : Fin 2 → Fin 16384 → Fin 1024 → ℝ) (b : Fin 2) (l : Fin 128 → Fin 1024) (r j : Fin 16384) : ℝ :=
  (∑ d, Q b r (l d) * K b j (l d)) * (1 / Real.sqrt 128)

/-- The difference of the two maps' means at value lane `x`. -/
def diff (Q K V : Fin 2 → Fin 16384 → Fin 1024 → ℝ) (L : ℝ) (b : Fin 2) (l0 l1 : Fin 128 → Fin 1024) (x : Fin 1024) (r : Fin 16384) : ℝ :=
  mean (score Q K b l0 r) (fun j => V b j x) r - L * mean (score Q K b l1 r) (fun j => V b j x) r

theorem expw_nonneg (r j : Fin 16384) (x : ℝ) : 0 ≤ expw r j x := by
  unfold expw; split
  · exact (Real.exp_pos x).le
  · exact le_rfl

/-- A query's own key has a positive weight, so the weights' sum is positive. -/
theorem sum_expw_pos (x : Fin 16384 → ℝ) (r : Fin 16384) : 0 < ∑ j, expw r j (x j) :=
  Finset.sum_pos' (fun j _ => expw_nonneg r j _) ⟨r, Finset.mem_univ _, by
    unfold expw; rw [if_pos le_rfl]; exact Real.exp_pos _⟩

/-- A sum of reals on extended reals is the reals' sum. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem bits_128 : Ideal.ofBits .f32 0x43000000#32 = ((128 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_lam : ∃ x : ℝ, Ideal.ofBits .f32 0x3E4CCCCD#32 = (x : EReal) := by
  simp [Ideal.ofBits, Ideal.ieee, -EReal.coe_mul]

/-- The square root of the lane count is a positive real. -/
theorem sqrt_128 : Ideal.sqrt (Ideal.ofBits .f32 0x43000000#32) = (Real.sqrt 128 : EReal) := by
  rw [bits_128, Ideal.sqrt_coe, if_neg (by norm_num)]

theorem sqrt_128_pos : 0 < Real.sqrt 128 := Real.sqrt_pos.2 (by norm_num)

/-- The second map's factor of real vectors is real. -/
theorem lam_real (l : Fin 4 → Fin 128 → EReal) (lr : Fin 4 → Fin 128 → ℝ) (h : ∀ i d, l i d = (lr i d : EReal)) :
    ∃ L : ℝ, Ideal.exp (∑ d, l 0 d * l 1 d) - Ideal.exp (∑ d, l 2 d * l 3 d) + Ideal.ofBits .f32 0x3E4CCCCD#32 = (L : EReal) := by
  obtain ⟨x, hx⟩ := bits_lam
  simp only [h, hx, ← EReal.coe_mul, sum_coe, Ideal.exp_coe, ← EReal.coe_sub, ← EReal.coe_add]
  exact ⟨_, rfl⟩

end Cert.Mean

end
-- ==== Proof.Cols.lean ====
/- One query's column of one attention map on extended reals: the running maximum, sum and output stay real, and
   after the last block their ratio is the weighted mean of the values. -/
module

public import proofs.«01_k».proof.Proof.Reads
public import proofs.«01_k».proof.Proof.Mean

@[expose] public section

set_option maxRecDepth 16384

noncomputable section

namespace Cert.KernelIdeal.Spec

open Cert.KernelIdeal Cert.KernelIdeal.Gen
open Idealize.ShloMosaic Idealize.ShloMosaic.TcCoe
open Cert.Mean (sum_coe)

/-- A maximum from −∞ of values below +∞, one of them above −∞, is real. -/
theorem fold_real {n : ℕ} (f : Fin n → EReal) (ht : ∀ a, f a ≠ ⊤) (a₀ : Fin n) (hb : f a₀ ≠ ⊥) :
    ∃ μ : ℝ, Finset.univ.fold max ⊥ f = (μ : EReal) := by
  have h1 : Finset.univ.fold max ⊥ f < ⊤ :=
    (Finset.fold_max_lt (c := (⊤ : EReal))).2 ⟨bot_lt_top, fun a _ => lt_top_iff_ne_top.2 (ht a)⟩
  have h2 : ⊥ < Finset.univ.fold max ⊥ f :=
    (Finset.lt_fold_max (c := (⊥ : EReal))).2 (Or.inr ⟨a₀, Finset.mem_univ _, bot_lt_iff_ne_bot.2 hb⟩)
  exact ⟨_, (EReal.coe_toReal h1.ne h2.ne').symm⟩

theorem dm_at (s : Vec Ideal S1x512x512 .f32) (m : Vec Ideal S1x1x512 .f32) (b : Fin 512) :
    k0_pay366 (k0_pay360 diagMask s m) (ix3 0 0 b) = max (m (ix3 0 0 b)) (Finset.univ.fold max ⊥ fun a => dsc s a b) := by
  pointwise [k0_pay366, k0_pay360, k0_pay359]
  simp only [ds_at]
  rfl

theorem dm2_at (s : Vec Ideal S1x512x512 .f32) (m : Vec Ideal S1x1x512 .f32) (b : Fin 512) :
    k0_pay360 diagMask s m (ix2 0 b) = max (m (ix3 0 0 b)) (Finset.univ.fold max ⊥ fun a => dsc s a b) := by
  pointwise [k0_pay360, k0_pay359]
  simp only [ds_at]
  rfl

theorem dp_at (s : Vec Ideal S1x512x512 .f32) (m : Vec Ideal S1x1x512 .f32) (a b : Fin 512) :
    k0_pay361 diagMask s m (ix2 a b)
      = Ideal.exp2 (dsc s a b - max (m (ix3 0 0 b)) (Finset.univ.fold max ⊥ fun a => dsc s a b)) := by
  pointwise [k0_pay361]
  simp only [ds_at, dm2_at]
  rfl

theorem dal_at (s : Vec Ideal S1x512x512 .f32) (m : Vec Ideal S1x1x512 .f32) (b : Fin 512) :
    k0_pay362 diagMask s m (ix2 0 b)
      = Ideal.exp2 (m (ix3 0 0 b) - max (m (ix3 0 0 b)) (Finset.univ.fold max ⊥ fun a => dsc s a b)) := by
  pointwise [k0_pay362, k0_pay359]
  simp only [dm2_at]
  rfl

theorem dp3_at (p : FVec Ideal S512x512 .f32) (a b : Fin 512) : k0_pay364 p (ix3 0 a b) = p (ix2 a b) := by
  pointwise [k0_pay364]

theorem dal3_at (p : FVec Ideal S1x512 .f32) (b : Fin 512) : k0_pay365 p (ix3 0 0 b) = p (ix2 0 b) := by
  pointwise [k0_pay365]

theorem dl_at (p : FVec Ideal S512x512 .f32) (al : FVec Ideal S1x512 .f32) (l : Vec Ideal S1x1x512 .f32) (b : Fin 512) :
    k0_pay363 p al l (ix3 0 0 b) = al (ix2 0 b) * l (ix3 0 0 b) + ∑ a : Fin 512, p (ix2 a b) := by
  pointwise [k0_pay363]

section
variable (x : Map Ideal) (q : FVec Ideal S512x128 .bf16) (vt : Vec Ideal S1x256x512 .bf16) (k kd : Vec Ideal S1x512x128 .bf16)

theorem step_m : (x.step q vt k).m = k0_pay232 (F := Ideal) (k0_pay226 (F := Ideal) x.mx x.m) := rfl
theorem step_l : (x.step q vt k).l = k0_pay229 (F := Ideal) x.s x.mx x.m x.l := rfl
theorem step_p : (x.step q vt k).p = k0_pay230 (F := Ideal) x.s x.mx x.m := rfl
theorem step_al : (x.step q vt k).al = k0_pay231 (F := Ideal) (k0_pay228 (F := Ideal) x.mx x.m) := rfl
theorem step_acc : (x.step q vt k).acc = (x.values vt).acc := rfl
theorem step_s : (x.step q vt k).s = k0_pay258 q k := rfl
theorem step_mx : (x.step q vt k).mx = k0_pay259 q k := by simp only [Map.step, Map.scores]
theorem start_m : (Map.start q kd k).m = k0_pay366 (F := Ideal) (k0_pay360 diagMask (k0_pay258 q kd) (Map.init (F := Ideal)).m) := rfl
theorem start_l : (Map.start q kd k).l = k0_pay363 (F := Ideal) (k0_pay361 diagMask (k0_pay258 q kd) (Map.init (F := Ideal)).m) (k0_pay362 diagMask (k0_pay258 q kd) (Map.init (F := Ideal)).m) (Map.init (F := Ideal)).l := rfl
theorem start_p : (Map.start q kd k).p = k0_pay364 (F := Ideal) (k0_pay361 diagMask (k0_pay258 q kd) (Map.init (F := Ideal)).m) := rfl
theorem start_al : (Map.start q kd k).al = k0_pay365 (F := Ideal) (k0_pay362 diagMask (k0_pay258 q kd) (Map.init (F := Ideal)).m) := rfl
theorem start_acc : (Map.start q kd k).acc = (Map.init (F := Ideal)).acc := rfl
theorem start_s : (Map.start q kd k).s = k0_pay258 q k := rfl
theorem start_mx : (Map.start q kd k).mx = k0_pay259 q k := by simp only [Map.start, Map.scores]
theorem init_m (i : S1x1x512.Idx) : (Map.init (F := Ideal)).m i = ⊥ := rfl
theorem init_l (i : S1x1x512.Idx) : (Map.init (F := Ideal)).l i = 0 := Ideal.ofBits_zero .f32
theorem init_acc (i : S1x256x512.Idx) : (Map.init (F := Ideal)).acc i = 0 := Ideal.ofBits_zero .f32

end

/-- The `i`th block a query block visits: its own, then the blocks from the first on. -/
def blk (qi i : ℕ) : ℕ := if i = 0 then qi else i - 1

section
variable (qi : ℕ) (b : Fin 512) (σ : ℕ → Fin 512 → ℝ)

/-- The weight of a key under the maximum `M`: nothing where the key is later than the query's chunk. -/
def wt (M : ℝ) (j : ℕ) (a : Fin 512) : ℝ := if j = qi ∧ ¬ a.val / 64 ≤ b.val / 64 then 0 else Real.rpow 2 (σ j a - M)

theorem rpow_sub_mul (x M M' : ℝ) : Real.rpow 2 (M - M') * Real.rpow 2 (x - M) = Real.rpow 2 (x - M') := by
  have := Real.rpow_add (by norm_num : (0:ℝ) < 2) (M - M') (x - M)
  rw [show M - M' + (x - M) = x - M' by ring] at this
  exact this.symm

/-- Changing the maximum rescales the weights. -/
theorem wt_scale (M M' : ℝ) (j : ℕ) (a : Fin 512) : Real.rpow 2 (M - M') * wt qi b σ M j a = wt qi b σ M' j a := by
  unfold wt
  split
  · simp
  · exact rpow_sub_mul _ _ _

/-- The weights' sum over the first `n` blocks visited. -/
def den (M : ℝ) (n : ℕ) : ℝ := ∑ t ∈ Finset.range n, ∑ a : Fin 512, wt qi b σ M (blk qi t) a

/-- The weighted values' sum over the first `n` blocks visited. -/
def num (ν : ℕ → Fin 256 → Fin 512 → ℝ) (M : ℝ) (n : ℕ) (e : Fin 256) : ℝ :=
  ∑ t ∈ Finset.range n, ∑ a : Fin 512, wt qi b σ M (blk qi t) a * ν (blk qi t) e a

theorem den_scale (M M' : ℝ) (n : ℕ) : Real.rpow 2 (M - M') * den qi b σ M n = den qi b σ M' n := by
  unfold den
  simp only [Finset.mul_sum, wt_scale]

theorem num_scale (ν : ℕ → Fin 256 → Fin 512 → ℝ) (M M' : ℝ) (n : ℕ) (e : Fin 256) :
    Real.rpow 2 (M - M') * num qi b σ ν M n e = num qi b σ ν M' n e := by
  unfold num
  simp only [Finset.mul_sum, ← mul_assoc, wt_scale]

/-- A query's own key has a positive weight, so the sum is positive. -/
theorem den_pos (M : ℝ) (n : ℕ) : 0 < den qi b σ M (n + 1) := by
  have nn : ∀ j a, 0 ≤ wt qi b σ M j a := fun j a => by
    unfold wt; split
    · exact le_rfl
    · exact Real.rpow_nonneg (by norm_num) _
  refine Finset.sum_pos' (fun t _ => Finset.sum_nonneg fun a _ => nn _ a) ⟨0, by simp, ?_⟩
  refine Finset.sum_pos' (fun a _ => nn _ a) ⟨b, Finset.mem_univ _, ?_⟩
  unfold wt
  rw [if_neg (by simp)]
  exact Real.rpow_pos_of_pos (by norm_num) _

/-- What a query's column of a map's scratch holds before step `i`. -/
structure Col (ν : ℕ → Fin 256 → Fin 512 → ℝ) (i : ℕ) (x : Map Ideal) : Prop where
  h : ∃ (M α μ : ℝ) (A : Fin 256 → ℝ),
    x.m (ix3 0 0 b) = (M : EReal) ∧ x.l (ix3 0 0 b) = (den qi b σ M (i + 1) : EReal)
    ∧ (∀ a, x.p (ix3 0 a b) = (wt qi b σ M (blk qi i) a : EReal))
    ∧ x.al (ix3 0 0 b) = (α : EReal) ∧ (∀ e, x.acc (ix3 0 e b) = (A e : EReal))
    ∧ (∀ e, α * A e = num qi b σ ν M i e)
    ∧ (∀ a, x.s (ix3 0 a b) = (σ (min i qi) a : EReal)) ∧ x.mx (ix3 0 0 b) = (μ : EReal)

variable (q : FVec Ideal S512x128 .bf16) (kb : ℕ → Vec Ideal S1x512x128 .bf16) (vb : ℕ → Vec Ideal S1x256x512 .bf16)
  (ν : ℕ → Fin 256 → Fin 512 → ℝ)
  (hσ : ∀ j a, (∑ d : Fin 128, kb j (ix3 0 a d) * q (ix2 b d)) = (σ j a : EReal))
  (hν : ∀ j e a, vb j (ix3 0 e a) = (ν j e a : EReal))

include hσ in
/-- The scores' maximum is real. -/
theorem mx_real (j : ℕ) : ∃ μ : ℝ, k0_pay259 q (kb j) (ix3 0 0 b) = (μ : EReal) := by
  rw [mx_at]
  simp only [hσ]
  exact fold_real _ (fun a => EReal.coe_ne_top _) b (EReal.coe_ne_bot _)

include hν in
/-- Adding the pending values. -/
theorem values_at {α : ℝ} {A : Fin 256 → ℝ} {M : ℝ} {i : ℕ} (x : Map Ideal)
    (hp : ∀ a, x.p (ix3 0 a b) = (wt qi b σ M (blk qi i) a : EReal))
    (hal : x.al (ix3 0 0 b) = (α : EReal)) (hacc : ∀ e, x.acc (ix3 0 e b) = (A e : EReal))
    (hA : ∀ e, α * A e = num qi b σ ν M i e) (e : Fin 256) :
    (x.values (vb (blk qi i))).acc (ix3 0 e b) = (num qi b σ ν M (i + 1) e : EReal) := by
  show k0_pay216 _ _ _ _ _ = _
  rw [acc_at, hal, hacc]
  simp only [hp, hν, ← EReal.coe_mul]
  rw [sum_coe, ← EReal.coe_add, hA]
  unfold num
  rw [Finset.sum_range_succ]
  simp only [mul_comm]

include hσ in
/-- The column before the loop. -/
theorem col_start : Col qi b σ ν 0 (Map.start q (kb qi) (kb 0)) := by
  have hd : ∀ a, dsc (k0_pay258 q (kb qi)) a b = if a.val / 64 ≤ b.val / 64 then (σ qi a : EReal) else ⊥ := fun a => by
    unfold dsc
    rw [s_at, hσ]
  obtain ⟨M, hM⟩ := fold_real (fun a => dsc (k0_pay258 q (kb qi)) a b) (fun a => by
    show dsc (k0_pay258 q (kb qi)) a b ≠ ⊤
    rw [hd]; split
    · exact EReal.coe_ne_top _
    · exact bot_ne_top) b (by
    show dsc (k0_pay258 q (kb qi)) b b ≠ ⊥
    rw [hd, if_pos le_rfl]; exact EReal.coe_ne_bot _)
  obtain ⟨μ, hμ⟩ := mx_real b σ q kb hσ 0
  have hm : (Map.init (F := Ideal)).m (ix3 0 0 b) = ⊥ := init_m _
  have hl : (Map.init (F := Ideal)).l (ix3 0 0 b) = 0 := init_l _
  have hw : ∀ a, Ideal.exp2 (dsc (k0_pay258 q (kb qi)) a b - (M : EReal)) = (wt qi b σ M qi a : EReal) := fun a => by
    rw [hd]
    unfold wt
    by_cases h : a.val / 64 ≤ b.val / 64
    · rw [if_pos h, if_neg (by simp [h]), ← EReal.coe_sub, Ideal.exp2_coe]
    · rw [if_neg h, if_pos ⟨rfl, h⟩, EReal.bot_sub, Ideal.exp2_bot]; rfl
  refine ⟨M, 0, μ, fun _ => 0, ?_, ?_, ?_, ?_, ?_, ?_, ?_, ?_⟩
  · rw [start_m, dm_at, hm, hM, max_eq_right bot_le]
  · rw [start_l, dl_at, hl, mul_zero, zero_add]
    simp only [dp_at, hm, hM, max_eq_right bot_le, hw]
    rw [sum_coe]
    unfold den
    simp [blk]
  · intro a
    rw [start_p, dp3_at, dp_at, hm, hM, max_eq_right bot_le, hw]
    rfl
  · rw [start_al, dal3_at, dal_at, hm, hM, max_eq_right bot_le, EReal.bot_sub, Ideal.exp2_bot]; rfl
  · intro e
    rw [start_acc, init_acc, EReal.coe_zero]
  · intro e
    simp [num]
  · intro a
    rw [start_s, s_at, hσ]; simp
  · rw [start_mx, hμ]

include hσ hν in
/-- A step keeps the column. -/
theorem col_step (i : ℕ) (hi : i < qi) (x : Map Ideal) (hx : Col qi b σ ν i x) :
    Col qi b σ ν (i + 1) (x.step q (vb (if i = 0 then qi else i - 1)) (kb (min (i + 1) qi))) := by
  obtain ⟨M, α, μ, A, hm, hl, hp, hal, hacc, hA, hs, hmx⟩ := hx.h
  obtain ⟨μ', hμ'⟩ := mx_real b σ q kb hσ (min (i + 1) qi)
  have hM' : max (x.m (ix3 0 0 b)) (x.mx (ix3 0 0 b)) = ((max M μ : ℝ) : EReal) := by
    rw [hm, hmx]; exact (EReal.coe_strictMono.monotone.map_max).symm
  have hw : ∀ a, Ideal.exp2 (x.s (ix3 0 a b) - ((max M μ : ℝ) : EReal)) = (wt qi b σ (max M μ) (blk qi (i + 1)) a : EReal) := fun a => by
    rw [hs, min_eq_left hi.le, ← EReal.coe_sub, Ideal.exp2_coe]
    unfold wt
    rw [if_neg (by simp [blk]; omega)]
    rfl
  have hα : Ideal.exp2 (x.m (ix3 0 0 b) - ((max M μ : ℝ) : EReal)) = ((Real.rpow 2 (M - max M μ) : ℝ) : EReal) := by
    rw [hm, ← EReal.coe_sub, Ideal.exp2_coe]
  refine ⟨max M μ, Real.rpow 2 (M - max M μ), μ', num qi b σ ν M (i + 1), ?_, ?_, ?_, ?_, ?_, ?_, ?_, ?_⟩
  · rw [step_m, m_at, hM']
  · rw [step_l, l_at]
    simp only [hM', hw, hα, hl]
    rw [sum_coe, ← EReal.coe_mul, ← EReal.coe_add, den_scale]
    unfold den
    rw [Finset.sum_range_succ _ (i + 1)]
  · intro a
    rw [step_p, p_at, hM', hw]
  · rw [step_al, al_at, hM', hα]
  · intro e
    rw [step_acc]
    exact values_at qi b σ vb ν hν x hp hal hacc hA e
  · intro e
    exact num_scale qi b σ ν M _ _ e
  · intro a
    rw [step_s, s_at, hσ]
  · rw [step_mx, hμ']

include hσ hν in
/-- The column before every step. -/
theorem col_at (i : ℕ) (hi : i ≤ qi) : Col qi b σ ν i (Map.at qi q kb vb i) := by
  induction i with
  | zero => exact col_start qi b σ q kb ν hσ
  | succ i ih => exact col_step qi b σ q kb vb ν hσ hν i hi _ (ih (by omega))

/-- The blocks visited are the blocks up to the query's own. -/
theorem sum_blk (f : ℕ → ℝ) : ∑ t ∈ Finset.range (qi + 1), f (blk qi t) = ∑ j ∈ Finset.range (qi + 1), f j := by
  rw [Finset.sum_range_succ', Finset.sum_range_succ]
  simp [blk]

include hσ hν in
/-- A column of the normalised output is the weighted mean of the values. -/
theorem last_at (e : Fin 256) :
    Ideal.div ((Map.last qi q kb vb).acc (ix3 0 e b)) ((Map.last qi q kb vb).l (ix3 0 0 b))
      = (((∑ j ∈ Finset.range (qi + 1), ∑ a : Fin 512, wt qi b σ 0 j a * ν j e a)
          / (∑ j ∈ Finset.range (qi + 1), ∑ a : Fin 512, wt qi b σ 0 j a) : ℝ) : EReal) := by
  obtain ⟨M, α, μ, A, hm, hl, hp, hal, hacc, hA, hs, hmx⟩ := (col_at qi b σ q kb vb ν hσ hν qi le_rfl).h
  have hb : qi - 1 = blk qi qi := by unfold blk; split <;> omega
  have h1 : (Map.last qi q kb vb).acc (ix3 0 e b) = (num qi b σ ν M (qi + 1) e : EReal) := by
    unfold Map.last
    rw [hb]
    exact values_at qi b σ vb ν hν _ hp hal hacc hA e
  have h2 : (Map.last qi q kb vb).l (ix3 0 0 b) = (den qi b σ M (qi + 1) : EReal) := hl
  rw [h1, h2, Ideal.div_coe (den_pos qi b σ M qi).ne', ← EReal.coe_mul]
  congr 1
  rw [mul_one_div, ← num_scale qi b σ ν 0 M, ← den_scale qi b σ 0 M,
    mul_div_mul_left _ _ (show Real.rpow 2 (0 - M) ≠ 0 from (Real.rpow_pos_of_pos (by norm_num : (0:ℝ) < 2) _).ne')]
  unfold num den
  rw [sum_blk qi (fun j => ∑ a : Fin 512, wt qi b σ 0 j a * ν j e a), sum_blk qi (fun j => ∑ a : Fin 512, wt qi b σ 0 j a)]

end

end Cert.KernelIdeal.Spec

end
-- ==== Proof.KerVal.lean ====
/- The block a grid point writes, at an index, on real arguments. -/
module

public import proofs.«01_k».proof.Proof.Entry
public import proofs.«01_k».proof.Proof.Cols
public import proofs.«01_k».proof.Proof.Mean

@[expose] public section

set_option maxRecDepth 16384

noncomputable section

namespace Cert.KernelIdeal.Spec

open Cert.KernelIdeal Cert.KernelIdeal.Gen
open Idealize.ShloMosaic Idealize.ShloMosaic.TcCoe Idealize.SL.Sem
open Cert.Mean

/-- The scale of the queries, a real: over the square root of the lane count and the natural logarithm of two. -/
theorem scale_eq : scale = ((1 / (Real.sqrt 128 * Real.log 2) : ℝ) : EReal) := by
  have h : Real.sqrt 128 * Real.log 2 ≠ 0 := (mul_pos sqrt_128_pos (Real.log_pos (by norm_num))).ne'
  unfold scale
  rw [sqrt_128, bits_2, Ideal.log_coe, if_neg (by norm_num), ← EReal.coe_mul, Ideal.div_coe h, one_mul]

/-- A sum over the positions is a sum over the blocks and the places in a block. -/
theorem sum_row (f : Fin 16384 → ℝ) : ∑ x, f x = ∑ j ∈ Finset.range 32, ∑ a, f (row j a) := by
  rw [← Fin.sum_univ_eq_sum_range (fun j => ∑ a, f (row j a)) 32,
    ← Fintype.sum_prod_type' (f := fun (j : Fin 32) a => f (row j.val a))]
  refine (Fintype.sum_equiv (finProdFinEquiv : Fin 32 × Fin 512 ≃ Fin (32 * 512)) _ f fun p => congrArg f (Fin.ext ?_)).symm
  show (512 * p.1.val + p.2.val) % 16384 = p.2.val + 512 * p.1.val
  have := p.1.isLt
  have := p.2.isLt
  omega

/-- A key's weight in the kernel is its weight in the mean. -/
theorem wt_eq (qi : ℕ) (hqi : qi < 32) (b : Fin 512) (x : Fin 16384 → ℝ) (j : ℕ) (hj : j ≤ qi) (a : Fin 512) :
    wt qi b (fun j a => x (row j a) * (1 / Real.log 2)) 0 j a = expw (row qi b) (row j a) (x (row j a)) := by
  have hx : Real.rpow 2 (x (row j a) * (1 / Real.log 2) - 0) = Real.exp (x (row j a)) := by
    show (2 : ℝ) ^ (x (row j a) * (1 / Real.log 2) - 0) = _
    rw [Real.rpow_def_of_pos (by norm_num), sub_zero]
    congr 1
    have : Real.log 2 ≠ 0 := (Real.log_pos (by norm_num)).ne'
    field_simp
  unfold wt expw
  rw [hx]
  have ha := a.isLt
  have hb := b.isLt
  have hr : (row j a).val = 512 * j + a.val := Nat.mod_eq_of_lt (by omega)
  have hq : (row qi b).val = 512 * qi + b.val := Nat.mod_eq_of_lt (by omega)
  rw [hr, hq]
  by_cases h : j = qi ∧ ¬ a.val / 64 ≤ b.val / 64
  · rw [if_pos h, if_neg (by omega)]
  · rw [if_neg h, if_pos (by omega)]

/-- A weighted sum over the blocks up to the query's is the sum over all positions. -/
theorem sum_wt (qi : ℕ) (hqi : qi < 32) (b : Fin 512) (x f : Fin 16384 → ℝ) :
    ∑ j ∈ Finset.range (qi + 1), ∑ a, wt qi b (fun j a => x (row j a) * (1 / Real.log 2)) 0 j a * f (row j a)
      = ∑ y, expw (row qi b) y (x y) * f y := by
  rw [sum_row]
  rw [← Finset.sum_subset (Finset.range_subset_range.2 (by omega : qi + 1 ≤ 32))]
  · refine Finset.sum_congr rfl fun j hj => Finset.sum_congr rfl fun a _ => ?_
    rw [wt_eq qi hqi b x j (by have := Finset.mem_range.1 hj; omega)]
  · intro j hj hj'
    refine Finset.sum_eq_zero fun a _ => ?_
    have h1 := Finset.mem_range.1 hj
    have h2 : ¬ j < qi + 1 := fun h => hj' (Finset.mem_range.2 h)
    have ha := a.isLt
    have hb := b.isLt
    have hr : (row j a).val = 512 * j + a.val := Nat.mod_eq_of_lt (by omega)
    have hq : (row qi b).val = 512 * qi + b.val := Nat.mod_eq_of_lt (by omega)
    unfold expw
    rw [hr, hq, if_neg (by omega), zero_mul]

variable (m : (ℓ : Loc nD τ sig) → Buf (Elt Ideal) ℓ) (c : Dev nD)
  (Q K V : Fin 2 → Fin 16384 → Fin 1024 → ℝ)
  (hq : ∀ b r x, argQ m c (ix3 b r x) = (Q b r x : EReal)) (hk : ∀ b r x, argK m c (ix3 b r x) = (K b r x : EReal))
  (hv : ∀ b r x, argV m c (ix3 b r x) = (V b r x : EReal))

include hq hk hv in
/-- A map's normalised output at a grid point: the weighted mean of the values. -/
theorem map_at (t : Fin cfg0.N) (h : Fin 2) (n : Fin 4) (hn : n.val / 2 = h.val) (b : Fin 512) (e : Fin 256) :
    Ideal.div ((mapsLast (t.val % 32) (iblk m c 0 t) (iblk m c 1 t) (iblk m c 2 t) n).acc (ix3 0 e b))
        ((mapsLast (t.val % 32) (iblk m c 0 t) (iblk m c 1 t) (iblk m c 2 t) n).l (ix3 0 0 b))
      = (mean (score Q K (bi t) (ln t n) (row (t.val % 32) b)) (fun j => V (bi t) j (vln t h e)) (row (t.val % 32) b) : EReal) := by
  have h32 : t.val % 32 < 32 := Nat.mod_lt _ (by norm_num)
  have hσ : ∀ j a, (∑ d : Fin 128, keys (iblk m c 1 t) n j (ix3 0 a d) * qmap (iblk m c 0 t) n (ix2 b d))
      = ((score Q K (bi t) (ln t n) (row (t.val % 32) b) (row j a) * (1 / Real.log 2) : ℝ) : EReal) := fun j a => by
    simp only [k_at, q_at, hq, hk, scale_eq, ← EReal.coe_mul, sum_coe]
    refine EReal.coe_eq_coe_iff.2 ?_
    unfold score
    rw [Finset.sum_mul, Finset.sum_mul]
    refine Finset.sum_congr rfl fun d _ => ?_
    rw [one_div, mul_inv, one_div, one_div]
    ring
  refine (last_at (t.val % 32) b _ (qmap (iblk m c 0 t) n) (keys (iblk m c 1 t) n) (vals (iblk m c 2 t) n)
    (fun j e a => V (bi t) (row j a) (vln t h e)) hσ (fun j e a => ?_) e).trans ?_
  · rw [vt_at m c t h n hn, hv]
  · refine EReal.coe_eq_coe_iff.2 ?_
    have h1 := sum_wt (t.val % 32) h32 b (score Q K (bi t) (ln t n) (row (t.val % 32) b)) (fun _ => 1)
    simp only [mul_one] at h1
    rw [h1, sum_wt (t.val % 32) h32 b (score Q K (bi t) (ln t n) (row (t.val % 32) b)) (fun j => V (bi t) j (vln t h e))]
    rfl

/-- The second map's factor at a grid point. -/
theorem lamAt (t : Fin cfg0.N) : k0_pay413 (iblk m c 4 t) (k0_pay411 (iblk m c 4 t)) (k0_pay412 (iblk m c 4 t)) (ix2 0 0)
    = Ideal.exp (∑ d, argL m c (ix2 0 d) * argL m c (ix2 1 d)) - Ideal.exp (∑ d, argL m c (ix2 2 d) * argL m c (ix2 3 d)) + Ideal.ofBits .f32 0x3E4CCCCD#32 := by
  rw [lam_at]
  simp only [la_at]

include hq hk hv in
/-- A head's columns at a grid point, at an index. -/
theorem finish_at (L : ℝ)
    (hl : Ideal.exp (∑ d, argL m c (ix2 0 d) * argL m c (ix2 1 d)) - Ideal.exp (∑ d, argL m c (ix2 2 d) * argL m c (ix2 3 d)) + Ideal.ofBits .f32 0x3E4CCCCD#32 = (L : EReal))
    (t : Fin cfg0.N) (h : Fin 2) (n0 n1 : Fin 4) (h0 : n0.val / 2 = h.val) (h1 : n1.val / 2 = h.val) (b : Fin 512) (e : Fin 256) :
    finish (iblk m c 4 t) (iblk m c 5 t) (gcols (iblk m c 3 t) h)
        (mapsLast (t.val % 32) (iblk m c 0 t) (iblk m c 1 t) (iblk m c 2 t) n0)
        (mapsLast (t.val % 32) (iblk m c 0 t) (iblk m c 1 t) (iblk m c 2 t) n1) (ix3 0 b e)
      = (diff Q K V L (bi t) (ln t n0) (ln t n1) (vln t h e) (row (t.val % 32) b) : EReal)
        * Ideal.rsqrt (Ideal.div (∑ e, (diff Q K V L (bi t) (ln t n0) (ln t n1) (vln t h e) (row (t.val % 32) b) : EReal)
            * (diff Q K V L (bi t) (ln t n0) (ln t n1) (vln t h e) (row (t.val % 32) b) : EReal)) (Ideal.ofBits .f32 0x43800000#32) + Ideal.ofBits .f32 0x358637BD#32)
        * argW m c (ix1 e) * Ideal.ofBits .f32 0x3F4CCCCD#32 * silu (argG m c (ix3 (bi t) (row (t.val % 32) b) (vln t h e))) := by
  have ho : ∀ e, k0_pay420 (k0_pay413 (iblk m c 4 t) (k0_pay411 (iblk m c 4 t)) (k0_pay412 (iblk m c 4 t)))
        (mapsLast (t.val % 32) (iblk m c 0 t) (iblk m c 1 t) (iblk m c 2 t) n0).acc (mapsLast (t.val % 32) (iblk m c 0 t) (iblk m c 1 t) (iblk m c 2 t) n0).l
        (mapsLast (t.val % 32) (iblk m c 0 t) (iblk m c 1 t) (iblk m c 2 t) n1).acc (mapsLast (t.val % 32) (iblk m c 0 t) (iblk m c 1 t) (iblk m c 2 t) n1).l (ix2 b e)
      = (diff Q K V L (bi t) (ln t n0) (ln t n1) (vln t h e) (row (t.val % 32) b) : EReal) := fun e => by
    rw [o_at, map_at m c Q K V hq hk hv t h n0 h0, map_at m c Q K V hq hk hv t h n1 h1, lamAt, hl, ← EReal.coe_mul, ← EReal.coe_sub]
    rfl
  unfold finish
  refine (fin_at _ _ _ b e).trans ?_
  simp only [ho, sw_at, g_at]

end Cert.KernelIdeal.Spec

end
-- ==== Proof.Ref.lean ====
/- The reference's value in stages, each read at an index. -/
module

public import proofs.«01_k».proof.Proof.Gen.ReferenceIdeal.Run
public import Idealize.ShloMosaic.Lib.Pointwise
public import Idealize.ShloMosaic.Lib.WordCmp
public import Idealize.ShloMosaic.Lib.Routing.Words

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe

/-- The chunk of every position. -/
def chunk : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32)))) (broadcastInDim S16384 ![] bcast_S_S16384 (constantI S_ 32 0#32))))
    (subi (Host.divsi (iotaInDim S16384 32 0) (broadcastInDim S16384 ![] bcast_S_S16384 (id (constantI S_ 32 64#32)))) (broadcastInDim S16384 ![] bcast_S_S16384 (constantI S_ 32 1#32)))
    (Host.divsi (iotaInDim S16384 32 0) (broadcastInDim S16384 ![] bcast_S_S16384 (id (constantI S_ 32 64#32))))

/-- Which keys (last axis) a query (first axis) sees. -/
def visible : IVec S16384x16384 1 :=
  cmpi .sle (broadcastInDim S16384x16384 ![0, 1] bcast_S1x16384_S16384x16384_0_1 (broadcastInDim S1x16384 ![1] bcast_S16384_S1x16384_1 chunk))
    (broadcastInDim S16384x16384 ![0, 1] bcast_S16384x1_S16384x16384_0_1 (broadcastInDim S16384x1 ![0] bcast_S16384_S16384x1_0 chunk))

/-- The scaled scores, −∞ at the keys not seen. -/
def masked (q k : FVec Ideal S2x16384x1024 .f32) : FVec Ideal S2x4x2x16384x16384 .f32 :=
  select (broadcastInDim S2x4x2x16384x16384 ![3, 4] bcast_S16384x16384_S2x4x2x16384x16384_3_4 visible)
    (Host.divf (Host.dotGeneral dot_S2x16384x4x2x128_S2x16384x4x2x128_S2x4x2x16384x16384_4_4_1_1_023_023 none
        (shapeCast _ q shapeCasts_S2x16384x1024_S2x16384x4x2x128) (shapeCast _ k shapeCasts_S2x16384x1024_S2x16384x4x2x128))
      (broadcastInDim S2x4x2x16384x16384 ![] bcast_S_S2x4x2x16384x16384 (Host.sqrt (constant S_ .f32 0x43000000#32))))
    (broadcastInDim S2x4x2x16384x16384 ![] bcast_S_S2x4x2x16384x16384 (id (constant S_ .f32 0xFF800000#32)))

/-- Each query's greatest score. -/
def rowMax (s : FVec Ideal S2x4x2x16384x16384 .f32) : FVec Ideal S2x4x2x16384 .f32 :=
  maximumf (broadcastInDim S2x4x2x16384 ![] bcast_S_S2x4x2x16384 (constant S_ .f32 0xFF800000#32))
    (Host.reduce FloatOps.maximumf s (constant S_ .f32 0xFF800000#32) reducesTo_S2x4x2x16384x16384_S2x4x2x16384_d4 h_S_)

/-- The exponentials of the scores less their maximum. -/
def expo (s : FVec Ideal S2x4x2x16384x16384 .f32) : FVec Ideal S2x4x2x16384x16384 .f32 :=
  Host.exp (subf s (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3 (rowMax s))))

/-- The softmax of the scores. -/
def soft (s : FVec Ideal S2x4x2x16384x16384 .f32) : FVec Ideal S2x4x2x16384x16384 .f32 :=
  Host.divf (expo s) (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3
      (Host.reduceAdd (expo s) (constant S_ .f32 0x00000000#32) reducesTo_S2x4x2x16384x16384_S2x4x2x16384_d4 h_S_)))

/-- The second map's factor. -/
def lam (la : FVec Ideal S4x128 .f32) : FVec Ideal S_ .f32 :=
  addf (subf
      (Host.exp (Host.reduceAdd (mulf (shapeCast _ (extractStridedSlice S1x128 ![0, 0] la slices_S4x128_S1x128_0_0) shapeCasts_S1x128_S128)
        (shapeCast _ (extractStridedSlice S1x128 ![1, 0] la slices_S4x128_S1x128_1_0) shapeCasts_S1x128_S128)) (constant S_ .f32 0x00000000#32) reducesTo_S128_S_d0 h_S_))
      (Host.exp (Host.reduceAdd (mulf (shapeCast _ (extractStridedSlice S1x128 ![2, 0] la slices_S4x128_S1x128_2_0) shapeCasts_S1x128_S128)
        (shapeCast _ (extractStridedSlice S1x128 ![3, 0] la slices_S4x128_S1x128_3_0) shapeCasts_S1x128_S128)) (constant S_ .f32 0x00000000#32) reducesTo_S128_S_d0 h_S_)))
    (constant S_ .f32 0x3E4CCCCD#32)

/-- The difference of the two maps applied to the values. -/
def outp (p : FVec Ideal S2x4x2x16384x16384 .f32) (l : FVec Ideal S_ .f32) (v : FVec Ideal S2x16384x1024 .f32) : FVec Ideal S2x16384x4x256 .f32 :=
  transpose S2x16384x4x256 [0, 3, 1, 2]
    (Host.dotGeneral dot_S2x16384x4x256_S2x4x16384x16384_S2x4x256x16384_1_3_3_2_02_01 none (shapeCast _ v shapeCasts_S2x16384x1024_S2x16384x4x256)
      (subf (shapeCast _ (extractStridedSlice S2x4x1x16384x16384 ![0, 0, 0, 0, 0] p slices_S2x4x2x16384x16384_S2x4x1x16384x16384_0_0_0_0_0) shapeCasts_S2x4x1x16384x16384_S2x4x16384x16384)
        (mulf (broadcastInDim S2x4x16384x16384 ![] bcast_S_S2x4x16384x16384 l)
          (shapeCast _ (extractStridedSlice S2x4x1x16384x16384 ![0, 0, 1, 0, 0] p slices_S2x4x2x16384x16384_S2x4x1x16384x16384_0_0_1_0_0) shapeCasts_S2x4x1x16384x16384_S2x4x16384x16384))))
    transposes_S2x4x256x16384_S2x16384x4x256_0_3_1_2

/-- The output normalised, weighted and gated. -/
def tail (o : FVec Ideal S2x16384x4x256 .f32) (g : FVec Ideal S2x16384x1024 .f32) (sw : FVec Ideal S256 .f32) : FVec Ideal S2x16384x1024 .bf16 :=
  truncf .bf16 (mulf (shapeCast _ (mulf (mulf (mulf o
      (broadcastInDim S2x16384x4x256 ![0, 1, 2, 3] bcast_S2x16384x4x1_S2x16384x4x256_0_1_2_3 (Host.rsqrt (addf
        (Host.divf (broadcastInDim S2x16384x4x1 ![0, 1, 2] bcast_S2x16384x4_S2x16384x4x1_0_1_2
          (Host.reduceAdd (mulf o o) (constant S_ .f32 0x00000000#32) reducesTo_S2x16384x4x256_S2x16384x4_d3 h_S_))
          (broadcastInDim S2x16384x4x1 ![] bcast_S_S2x16384x4x1 (constant S_ .f32 0x43800000#32)))
        (broadcastInDim S2x16384x4x1 ![] bcast_S_S2x16384x4x1 (constant S_ .f32 0x358637BD#32))))))
      (broadcastInDim S2x16384x4x256 ![0, 1, 2, 3] bcast_S1x1x1x256_S2x16384x4x256_0_1_2_3 (broadcastInDim S1x1x1x256 ![3] bcast_S256_S1x1x1x256_3 sw)))
      (broadcastInDim S2x16384x4x256 ![] bcast_S_S2x16384x4x256 (constant S_ .f32 0x3F4CCCCD#32))) shapeCasts_S2x16384x4x256_S2x16384x1024)
    (mulf g (Host.divf (broadcastInDim S2x16384x1024 ![] bcast_S_S2x16384x1024 (constant S_ .f32 0x3F800000#32))
      (addf (broadcastInDim S2x16384x1024 ![] bcast_S_S2x16384x1024 (constant S_ .f32 0x3F800000#32)) (Host.exp (Host.negf g)))))) bitsLt_bf16_f32

/-- The reference's result is the stages composed. -/
theorem res_eq (m : (ℓ : Loc nD τ sig) → Buf (Elt Ideal) ℓ) (c : Dev nD) :
    res_out0 m c = tail (outp (soft (masked (m ((c.tc : Thread nD τ).loc main_arg0)) (m ((c.tc : Thread nD τ).loc main_arg1))))
        (lam (m ((c.tc : Thread nD τ).loc main_arg4))) (m ((c.tc : Thread nD τ).loc main_arg2)))
      (m ((c.tc : Thread nD τ).loc main_arg3)) (m ((c.tc : Thread nD τ).loc main_arg5)) := by
  unfold res_out0 res_main_v70 tail outp lam soft expo rowMax masked visible chunk
  rfl

/-- A position's chunk, as the host computes it on words. -/
def chunkWord (x : BitVec 32) : BitVec 32 :=
  Scalar.select
      (IntOp.andi
        (IntOp.cmpi CmpIPredicate.ne
          (if x = 0 then (0 : BitVec 32) else if x.msb = true then -1 else 1)
          (if 64#32 = 0 then (0 : BitVec 32) else if (64#32).msb = true then -1 else 1))
        (IntOp.cmpi CmpIPredicate.ne (IntOp.remsi ArithUnit.host x 64#32) 0#32))
      (IntOp.subi (IntOp.divsi ArithUnit.host x 64#32) 1#32)
      (IntOp.divsi ArithUnit.host x 64#32)

/-- It is the position's number over 64. -/
theorem chunkWord_eq (r : Fin 16384) : chunkWord (BitVec.ofNat 32 r.val) = BitVec.ofNat 32 (r.val / 64) := by
  have hd : IntOp.divsi ArithUnit.host (BitVec.ofNat 32 r.val) 64#32 = BitVec.ofNat 32 (r.val / 64) :=
    Routing.divsi_word ArithUnit.host (a := r.val) (b := 64) (by omega) (by norm_num) (by norm_num)
  by_cases h0 : r.val = 0
  · rw [h0]; decide +kernel
  have hx : ¬ BitVec.ofNat 32 r.val = 0 := fun h => h0 (by
    have := congrArg BitVec.toNat h
    simp only [BitVec.toNat_ofNat] at this
    have h2 : r.val % 2 ^ 32 = 0 := this
    omega)
  have hm : ¬ (BitVec.ofNat 32 r.val).msb = true := by
    rw [BitVec.msb_eq_decide, BitVec.toNat_ofNat]
    simp only [decide_eq_true_eq]
    omega
  have h64 : (if 64#32 = 0 then (0 : BitVec 32) else if (64#32).msb = true then -1 else 1) = 1 := by decide
  have hn : IntOp.cmpi CmpIPredicate.ne (1 : BitVec 32) 1 = 0#1 := by decide
  have ha : ∀ y : BitVec 1, IntOp.andi 0#1 y = 0#1 := by decide
  unfold chunkWord
  rw [if_neg hx, if_neg hm, h64, hn, ha, hd]
  rfl

/-- The chunk of a position is its number over 64. -/
theorem chunk_at (r : Fin 16384) : chunk (ix1 r) = BitVec.ofNat 32 (r.val / 64) := by
  rw [← chunkWord_eq]
  pointwise [chunk]
  rfl

/-- A query sees the keys of its own chunk and of the chunks before it. -/
theorem visible_at (r j : Fin 16384) : visible (ix2 r j) = if j.val / 64 ≤ r.val / 64 then 1#1 else 0#1 := by
  pointwise [visible]
  simp only [chunk_at]
  rw [WordCmp.cmpi_sle_ofNat (by omega) (by omega)]
  split <;> rename_i h <;> simp [h]

/-- A lane of the 1024, from its head, map and place. -/
def lane (h : Fin 4) (n : Fin 2) (d : Fin 128) : Fin 1024 := ⟨h.val * 256 + n.val * 128 + d.val, by omega⟩

/-- A value lane of the 1024, from its head and place. -/
def vlane (h : Fin 4) (e : Fin 256) : Fin 1024 := ⟨h.val * 256 + e.val, by omega⟩

/-- The masked scores at an index. -/
theorem masked_at (q k : FVec Ideal S2x16384x1024 .f32) (b : Fin 2) (h : Fin 4) (n : Fin 2) (r j : Fin 16384) :
    masked q k (ix5 b h n r j) = if j.val / 64 ≤ r.val / 64 then
      Ideal.div (∑ d : Fin 128, q (ix3 b r (lane h n d)) * k (ix3 b j (lane h n d))) (Ideal.sqrt (Ideal.ofBits .f32 0x43000000#32)) else ⊥ := by
  have e : masked q k (ix5 b h n r j) = Scalar.select (visible (ix2 r j))
      (Ideal.div (∑ d : Fin 128, q (ix3 b r (lane h n d)) * k (ix3 b j (lane h n d))) (Ideal.sqrt (Ideal.ofBits .f32 0x43000000#32)))
      (Ideal.ofBits .f32 0xFF800000#32) := by
    pointwise [masked]
    rfl
  have z : Ideal.ofBits .f32 0xFF800000#32 = ⊥ := by simp [Ideal.ofBits, Ideal.ieee]
  rw [e, visible_at, z]
  split <;> rfl

/-- A maximum from −∞ of values below +∞, one of them above −∞, is real. -/
theorem max_real {ι : Type*} (S : Finset ι) (f : ι → EReal) (ht : ∀ a, f a ≠ ⊤) (a₀ : ι) (h₀ : a₀ ∈ S) (hb : f a₀ ≠ ⊥) :
    ∃ μ : ℝ, max ⊥ (S.fold (FloatOps.maximumf (F := Ideal) (φ := .f32)) (⊥ : EReal) f) = (μ : EReal) := by
  have h1 : S.fold max ⊥ f < ⊤ :=
    (Finset.fold_max_lt (c := (⊤ : EReal))).2 ⟨bot_lt_top, fun a _ => lt_top_iff_ne_top.2 (ht a)⟩
  have h2 : ⊥ < S.fold max ⊥ f := (Finset.lt_fold_max (c := (⊥ : EReal))).2 (Or.inr ⟨a₀, h₀, bot_lt_iff_ne_bot.2 hb⟩)
  exact ⟨_, (max_eq_right bot_le).trans (EReal.coe_toReal h1.ne h2.ne').symm⟩

/-- The kept coordinates of a score's index. -/
theorem drop_score (b : Fin 2) (h : Fin 4) (n : Fin 2) (r j : Fin 16384) :
    reducesTo_S2x4x2x16384x16384_S2x4x2x16384_d4.drop (ix5 b h n r j) = ix4 b h n r := by
  funext a
  apply Fin.ext
  fin_cases a
  · exact Shape.ReducesTo.drop_apply_val_of_eq reducesTo_S2x4x2x16384x16384_S2x4x2x16384_d4 (ix5 b h n r j) 0 0
  · exact Shape.ReducesTo.drop_apply_val_of_eq reducesTo_S2x4x2x16384x16384_S2x4x2x16384_d4 (ix5 b h n r j) 1 1
  · exact Shape.ReducesTo.drop_apply_val_of_eq reducesTo_S2x4x2x16384x16384_S2x4x2x16384_d4 (ix5 b h n r j) 2 2
  · exact Shape.ReducesTo.drop_apply_val_of_eq reducesTo_S2x4x2x16384x16384_S2x4x2x16384_d4 (ix5 b h n r j) 3 3

/-- A query's greatest score is real where the scores are below +∞ and one of its own is above −∞. -/
theorem rowMax_real (s : FVec Ideal S2x4x2x16384x16384 .f32) (ht : ∀ i, s i ≠ ⊤) (b : Fin 2) (h : Fin 4) (n : Fin 2) (r j : Fin 16384)
    (hb : s (ix5 b h n r j) ≠ ⊥) : ∃ μ : ℝ, rowMax s (ix4 b h n r) = (μ : EReal) := by
  have z : Ideal.ofBits .f32 0xFF800000#32 = ⊥ := by simp [Ideal.ofBits, Ideal.ieee]
  have gen : ∀ (x y : FVec Ideal S2x4x2x16384 .f32) (i : S2x4x2x16384.Idx), maximumf x y i = max (x i) (y i) := fun _ _ _ => rfl
  have hc : ∀ i : S_.Idx, constant (F := Ideal) S_ .f32 0xFF800000#32 i = (⊥ : EReal) := fun _ => z
  have hbc : ∀ i : S2x4x2x16384.Idx, broadcastInDim S2x4x2x16384 ![] bcast_S_S2x4x2x16384 (constant (F := Ideal) S_ .f32 0xFF800000#32) i = (⊥ : EReal) :=
    fun _ => hc _
  rw [rowMax, gen, Host.reduce_eq_fold, hbc, hc]
  exact max_real _ s ht (ix5 b h n r j) (Finset.mem_filter.2 ⟨Finset.mem_univ _, drop_score b h n r j⟩) hb

/-- An exponential at an index. -/
theorem expo_at (s : FVec Ideal S2x4x2x16384x16384 .f32) (b : Fin 2) (h : Fin 4) (n : Fin 2) (r j : Fin 16384) :
    expo s (ix5 b h n r j) = Ideal.exp (s (ix5 b h n r j) - rowMax s (ix4 b h n r)) := by
  pointwise [expo]

/-- A softmax weight at an index. -/
theorem soft_at (s : FVec Ideal S2x4x2x16384x16384 .f32) (b : Fin 2) (h : Fin 4) (n : Fin 2) (r j : Fin 16384) :
    soft s (ix5 b h n r j) = Ideal.div (expo s (ix5 b h n r j)) (∑ j, expo s (ix5 b h n r j)) := by
  pointwise [soft]

/-- The second map's factor. -/
theorem lam_at (la : FVec Ideal S4x128 .f32) :
    lam la ix0 = Ideal.exp (∑ d : Fin 128, la (ix2 0 d) * la (ix2 1 d)) - Ideal.exp (∑ d : Fin 128, la (ix2 2 d) * la (ix2 3 d)) + Ideal.ofBits .f32 0x3E4CCCCD#32 := by
  pointwise [lam]

/-- A head's output at an index. -/
theorem outp_at (p : FVec Ideal S2x4x2x16384x16384 .f32) (l : FVec Ideal S_ .f32) (v : FVec Ideal S2x16384x1024 .f32) (b : Fin 2) (h : Fin 4) (r : Fin 16384) (e : Fin 256) :
    outp p l v (ix4 b r h e) = ∑ j : Fin 16384, v (ix3 b j (vlane h e)) * (p (ix5 b h 0 r j) - l ix0 * p (ix5 b h 1 r j)) := by
  pointwise [outp]
  rfl

/-- The result at an index. -/
theorem tail_at (o : FVec Ideal S2x16384x4x256 .f32) (g : FVec Ideal S2x16384x1024 .f32) (sw : FVec Ideal S256 .f32) (b : Fin 2) (r : Fin 16384) (h : Fin 4) (e : Fin 256) :
    tail o g sw (ix3 b r (vlane h e)) = o (ix4 b r h e)
        * Ideal.rsqrt (Ideal.div (∑ e, o (ix4 b r h e) * o (ix4 b r h e)) (Ideal.ofBits .f32 0x43800000#32) + Ideal.ofBits .f32 0x358637BD#32)
        * sw (ix1 e) * Ideal.ofBits .f32 0x3F4CCCCD#32 * (g (ix3 b r (vlane h e)) * Ideal.div 1 (1 + Ideal.exp (-g (ix3 b r (vlane h e))))) := by
  pointwise [tail]
  have h1 : (⟨(vlane h e).val / 256, by omega⟩ : Fin 4) = h := Fin.ext (by show (h.val * 256 + e.val) / 256 = h.val; omega)
  have h2 : (⟨(vlane h e).val % 256, by omega⟩ : Fin 256) = e := Fin.ext (by show (h.val * 256 + e.val) % 256 = e.val; omega)
  rw [h1, h2]

end Cert.ReferenceIdeal.Stages

end
-- ==== Proof.RefVal.lean ====
/- The reference's result at an index, on real arguments. -/
module

public import proofs.«01_k».proof.Proof.Ref
public import proofs.«01_k».proof.Proof.Mean

@[expose] public section

set_option maxRecDepth 16384

noncomputable section

namespace Cert.ReferenceIdeal.Stages

open Cert.ReferenceIdeal Cert.ReferenceIdeal.Gen
open Idealize.ShloMosaic Idealize.ShloMosaic.TcCoe
open Cert.Mean

variable (q k v : FVec Ideal S2x16384x1024 .f32) (Q K V : Fin 2 → Fin 16384 → Fin 1024 → ℝ)
  (hq : ∀ b r x, q (ix3 b r x) = (Q b r x : EReal)) (hk : ∀ b r x, k (ix3 b r x) = (K b r x : EReal))
  (hv : ∀ b r x, v (ix3 b r x) = (V b r x : EReal))

include hq hk in
/-- A masked score of real arguments. -/
theorem masked_real (b : Fin 2) (h : Fin 4) (n : Fin 2) (r j : Fin 16384) :
    masked q k (ix5 b h n r j) = if j.val / 64 ≤ r.val / 64 then (score Q K b (lane h n) r j : EReal) else ⊥ := by
  rw [masked_at]
  refine if_congr Iff.rfl ?_ rfl
  rw [sqrt_128, Ideal.div_coe sqrt_128_pos.ne']
  simp only [hq, hk, ← EReal.coe_mul, sum_coe]
  rfl

include hq hk in
/-- No masked score is +∞. -/
theorem masked_ne_top (i : S2x4x2x16384x16384.Idx) : masked q k i ≠ ⊤ := by
  obtain ⟨b, h, n, r, j, e⟩ : ∃ (b : Fin 2) (h : Fin 4) (n : Fin 2) (r j : Fin 16384), i = ix5 b h n r j :=
    ⟨i 0, i 1, i 2, i 3, i 4, by funext a; fin_cases a <;> rfl⟩
  rw [e, masked_real q k Q K hq hk]
  split
  · exact EReal.coe_ne_top _
  · exact bot_ne_top

include hq hk in
/-- A softmax weight of real arguments. -/
theorem soft_real (b : Fin 2) (h : Fin 4) (n : Fin 2) (r j : Fin 16384) :
    soft (masked q k) (ix5 b h n r j)
      = ((expw r j (score Q K b (lane h n) r j) / ∑ j, expw r j (score Q K b (lane h n) r j) : ℝ) : EReal) := by
  obtain ⟨μ, hμ⟩ := rowMax_real (masked q k) (masked_ne_top q k Q K hq hk) b h n r r (by
    rw [masked_real q k Q K hq hk, if_pos le_rfl]; exact EReal.coe_ne_bot _)
  have he : ∀ j, expo (masked q k) (ix5 b h n r j) = ((Real.exp (-μ) * expw r j (score Q K b (lane h n) r j) : ℝ) : EReal) := fun j => by
    rw [expo_at, hμ, masked_real q k Q K hq hk]
    unfold expw
    split
    · rw [← EReal.coe_sub, Ideal.exp_coe, ← Real.exp_add, neg_add_eq_sub]
    · rw [EReal.bot_sub, Ideal.exp_bot, mul_zero]; rfl
  rw [soft_at]
  simp only [he, sum_coe]
  rw [← Finset.mul_sum, Ideal.div_coe (mul_pos (Real.exp_pos _) (sum_expw_pos _ r)).ne', ← EReal.coe_mul, mul_one_div,
    mul_div_mul_left _ _ (Real.exp_pos _).ne']

include hq hk hv in
/-- A head's output of real arguments: the difference of the two maps' means. -/
theorem outp_real (l : FVec Ideal S_ .f32) (L : ℝ) (hl : l ix0 = (L : EReal)) (b : Fin 2) (h : Fin 4) (r : Fin 16384) (e : Fin 256) :
    outp (soft (masked q k)) l v (ix4 b r h e) = (diff Q K V L b (lane h 0) (lane h 1) (vlane h e) r : EReal) := by
  rw [outp_at]
  simp only [soft_real q k Q K hq hk, hl, hv, ← EReal.coe_mul, ← EReal.coe_sub, sum_coe]
  refine EReal.coe_eq_coe_iff.2 ?_
  unfold diff mean
  rw [Finset.sum_div, Finset.sum_div, Finset.mul_sum, ← Finset.sum_sub_distrib]
  refine Finset.sum_congr rfl fun j _ => ?_
  ring

end Cert.ReferenceIdeal.Stages

end
-- ==== Proof.Value.lean ====
/- The kernel's result is the reference's, on real queries, keys, values and vectors of lambda. -/
module

public import proofs.«01_k».proof.Proof.KerVal
public import proofs.«01_k».proof.Proof.RefVal

@[expose] public section

set_option maxRecDepth 16384

noncomputable section

namespace Cert.KernelIdeal.Spec

open Cert.KernelIdeal Cert.KernelIdeal.Gen
open Idealize.ShloMosaic Idealize.ShloMosaic.TcCoe Idealize.SL.Sem
open Cert.Mean
open Cert.ReferenceIdeal.Stages (masked soft outp lam tail lane vlane outp_real tail_at)

variable (m : (ℓ : Loc nD τ sig) → Buf (Elt Ideal) ℓ) (c : Dev nD)

/-- The reference's result, of the kernel's arguments. -/
def refOut : FVec Ideal S2x16384x1024 .bf16 :=
  tail (outp (soft (masked (argQ m c) (argK m c))) (lam (argL m c)) (argV m c)) (argG m c) (argW m c)

/-- A column of the block a grid point writes is a column of one of its two heads. -/
theorem outAt_at (t : Fin cfg0.N) (h : Fin 2) (b : Fin 512) (e : Fin 256) :
    outAt m c t (ix3 0 b (⟨256 * h.val + e.val, by omega⟩ : Fin 512))
      = finish (iblk m c 4 t) (iblk m c 5 t) (gcols (iblk m c 3 t) h)
        (mapsLast (t.val % 32) (iblk m c 0 t) (iblk m c 1 t) (iblk m c 2 t) (⟨2 * h.val, by omega⟩ : Fin 4))
        (mapsLast (t.val % 32) (iblk m c 0 t) (iblk m c 1 t) (iblk m c 2 t) (⟨2 * h.val + 1, by omega⟩ : Fin 4)) (ix3 0 b e) := by
  unfold outAt outBlk
  rw [qiAt_eq]
  have he := e.isLt
  have hi : (fun | 0 => (0 : Fin 1) | 1 => b | 2 => (⟨(256 * h.val + e.val) % 256, Nat.mod_lt _ (by decide)⟩ : Fin 256) : S1x512x256.Idx) = ix3 0 b e := by
    funext a
    fin_cases a
    · rfl
    · rfl
    · exact Fin.ext (by show (256 * h.val + e.val) % 256 = e.val; omega)
  by_cases h0 : h.val < 1
  · obtain rfl : h = 0 := Fin.ext (by show h.val = 0; omega)
    exact (if_pos (show 256 * (0 : Fin 2).val + e.val < 256 by simp)).trans (congrArg _ hi)
  · obtain rfl : h = 1 := Fin.ext (by show h.val = 1; omega)
    exact (if_neg (show ¬ 256 * (1 : Fin 2).val + e.val < 256 by simp)).trans (congrArg _ hi)

/-- The kernel's result after the last grid point is the reference's. -/
theorem out_arr (h0 : ∀ i, ∃ r : ℝ, argQ m c i = ((r : EReal) : Ideal .f32)) (h1 : ∀ i, ∃ r : ℝ, argK m c i = ((r : EReal) : Ideal .f32))
    (h2 : ∀ i, ∃ r : ℝ, argV m c i = ((r : EReal) : Ideal .f32)) (h4 : ∀ i, ∃ r : ℝ, argL m c i = ((r : EReal) : Ideal .f32)) :
    (dats m 0 c).arrAt 6 (cfgs 0).N = refOut m c := by
  choose Q hQ using h0
  choose K hK using h1
  choose V hV using h2
  choose L hL using h4
  obtain ⟨l, hl⟩ := lam_real (fun i d => argL m c (ix2 i d)) (fun i d => L (ix2 i d)) (fun i d => hL _)
  refine (dats m 0 c).arrAt_eq_of_covers 6 _ (by decide +kernel) fun t hf y => ?_
  blk_simp
  rw [aft6]
  obtain ⟨b, x, rfl⟩ : ∃ (b : Fin 512) (x : Fin 512), y = ix3 0 b x :=
    ⟨y 1, y 2, by funext a; fin_cases a; exacts [Subsingleton.elim (α := Fin 1) _ _, rfl, rfl]⟩
  obtain ⟨h, e, rfl⟩ : ∃ (h : Fin 2) (e : Fin 256), x = (⟨256 * h.val + e.val, by omega⟩ : Fin 512) :=
    ⟨⟨x.val / 256, by omega⟩, ⟨x.val % 256, by omega⟩, Fin.ext (by show x.val = 256 * (x.val / 256) + x.val % 256; omega)⟩
  have ht := point_lt t
  have hx := h.isLt
  let H : Fin 4 := ⟨2 * (t.val / 32 % 2) + h.val, by omega⟩
  have hvl : ∀ e, vln t h e = vlane H e := fun e => Fin.ext (by show 512 * (t.val / 32 % 2) + 256 * h.val + e.val = (2 * (t.val / 32 % 2) + h.val) * 256 + e.val; omega)
  have hl0 : ln t (⟨2 * h.val, by omega⟩ : Fin 4) = lane H 0 := funext fun d => Fin.ext (by
    show 512 * (t.val / 32 % 2) + 128 * (2 * h.val) + d.val = (2 * (t.val / 32 % 2) + h.val) * 256 + 0 * 128 + d.val; omega)
  have hl1 : ln t (⟨2 * h.val + 1, by omega⟩ : Fin 4) = lane H 1 := funext fun d => Fin.ext (by
    show 512 * (t.val / 32 % 2) + 128 * (2 * h.val + 1) + d.val = (2 * (t.val / 32 % 2) + h.val) * 256 + 1 * 128 + d.val; omega)
  have hemb : (win0_6.blk t).view.emb (ix3 0 b (⟨256 * h.val + e.val, by omega⟩ : Fin 512)) = ix3 (bi t) (row (t.val % 32) b) (vlane H e) := by
    rw [← hvl]
    blk_ext [index_6 t, bi, row, vln]
  rw [hemb, outAt_at, finish_at m c (fun b r x => Q (ix3 b r x)) (fun b r x => K (ix3 b r x)) (fun b r x => V (ix3 b r x))
    (fun _ _ _ => hQ _) (fun _ _ _ => hK _) (fun _ _ _ => hV _) l hl t h _ _ (by show 2 * h.val / 2 = h.val; omega) (by show (2 * h.val + 1) / 2 = h.val; omega)]
  refine Eq.symm ?_
  unfold refOut
  rw [tail_at]
  simp only [outp_real (argQ m c) (argK m c) (argV m c) (fun b r x => Q (ix3 b r x)) (fun b r x => K (ix3 b r x)) (fun b r x => V (ix3 b r x))
    (fun _ _ _ => hQ _) (fun _ _ _ => hK _) (fun _ _ _ => hV _) (lam (argL m c)) l ((Cert.ReferenceIdeal.Stages.lam_at _).trans hl), hl0, hl1, hvl]
  rfl

end Cert.KernelIdeal.Spec

end
-- ==== Proof.Finite.lean ====
/- The precondition read back: every query, key, value and vector of lambda is a real. -/
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic

/-- The predicate's side conditions. -/
instance facts : Cert.Pre_finite.Facts where
  bcast_S_S2x16384x1024 := by decide
  reducesTo_S2x16384x1024_S_d0_1_2 := by decide
  h_S_ := by decide
  bcast_S_S4x128 := by decide
  reducesTo_S4x128_S_d0_1 := by decide

/-- An extended real whose magnitude is below +∞ is real. -/
theorem real_of (x : Ideal .f32) (h : FloatOps.cmpf (F := Ideal) .olt (FloatOps.hostAbsf x) (Ideal.ofBits .f32 0x7F800000#32) = 1#1) :
    ∃ r : ℝ, x = ((r : EReal) : Ideal .f32) := by
  have z : Ideal.ofBits .f32 0x7F800000#32 = ⊤ := by simp [Ideal.ofBits, Ideal.ieee]
  rw [z] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

instance : Subsingleton S_.Idx := ⟨fun a b => funext fun i => i.elim0⟩

variable (a0 a1 a2 a3 : FVec Ideal S2x16384x1024 .f32) (a4 : FVec Ideal S4x128 .f32) (a5 : FVec Ideal S256 .f32)

theorem real0 (h : (fn (F := Ideal) a0 a1 a2 a3 a4 a5).1 = fun _ => 1#1) (i : S2x16384x1024.Idx) : ∃ r : ℝ, a0 i = ((r : EReal) : Ideal .f32) := by
  dsimp only [fn] at h
  exact real_of _ (Host.reduce_andi_all _ _ _ _ ix0 (congrFun h ix0) i)

theorem real1 (h : (fn (F := Ideal) a0 a1 a2 a3 a4 a5).2.1 = fun _ => 1#1) (i : S2x16384x1024.Idx) : ∃ r : ℝ, a1 i = ((r : EReal) : Ideal .f32) := by
  dsimp only [fn] at h
  exact real_of _ (Host.reduce_andi_all _ _ _ _ ix0 (congrFun h ix0) i)

theorem real2 (h : (fn (F := Ideal) a0 a1 a2 a3 a4 a5).2.2.1 = fun _ => 1#1) (i : S2x16384x1024.Idx) : ∃ r : ℝ, a2 i = ((r : EReal) : Ideal .f32) := by
  dsimp only [fn] at h
  exact real_of _ (Host.reduce_andi_all _ _ _ _ ix0 (congrFun h ix0) i)

theorem real4 (h : (fn (F := Ideal) a0 a1 a2 a3 a4 a5).2.2.2 = fun _ => 1#1) (i : S4x128.Idx) : ∃ r : ℝ, a4 i = ((r : EReal) : Ideal .f32) := by
  dsimp only [fn] at h
  exact real_of _ (Host.reduce_andi_all _ _ _ _ ix0 (congrFun h ix0) i)

end Cert.Pre_finite

end
-- ==== Proof.Sb.Pieces.lean ====
/- Buffers of two slabs held at the stack of the slabs' values, and what a list of stores that covers a buffer leaves in it. -/
module

public import Idealize.ShloMosaic.Lib.Tactic
public import Idealize.ShloMosaic.Lib.Pipeline.Kit
public import Idealize.ShloMosaic.Lib.VecWindow

@[expose] public section

noncomputable section

namespace Cert.Pieces

open Idealize.ShloMosaic

section

variable {sig : RefSig} {κ : Kind} {sp : Space} {e : EltTy} {Val : EltTy → Type} [∀ e, Nonempty (Val e)]

/-- A store of the window of `X` extends the indices at which the contents read as `X` by its rectangle. -/
theorem agree_cons {s : Shape} (v : View sig κ sp s e) (f : v.ty.Contents Val) (X : s.Idx → Val e) (off size : Fin s.rank → ℕ)
    (inb : ∀ a, off a + size a ≤ s.size a) (w : (⟨s.rank, size⟩ : Shape).Idx → Val e) (L : List (View.Piece Val s e)) (P : s.Idx → Prop)
    (hw : ∀ z : (⟨s.rank, size⟩ : Shape).Idx, w z = X fun a => ⟨off a + 1 * (z a).val, by have := inb a; have h : (z a).val < size a := (z a).isLt; omega⟩) (hL : ∀ y, P y → v.read Val (v.writes Val f L) y = X y) :
    ∀ y : s.Idx, (P y ∨ ∀ a, off a ≤ (y a).val ∧ (y a).val < off a + size a) →
      v.read Val (v.writes Val f (⟨Rect.unit (s := s) off size inb, w⟩ :: L)) y = X y := by
  intro y hy
  rw [View.read_writes_cons_put v f inb w L rfl]
  unfold VecWindow.put
  by_cases hm : ∀ a, off a ≤ (y a).val ∧ (y a).val < off a + size a
  · rw [dif_pos hm]
    refine (hw _).trans (congrArg X (funext fun a => Fin.ext ?_))
    show off a + 1 * ((y a).val - off a) = (y a).val
    have := (hm a).1
    omega
  · rw [dif_neg hm]
    exact hL y (hy.resolve_right hm)

variable {A B : ℕ}

/-- Two slabs stacked. -/
def stk {α : Type} (x : Fin 2 → (⟨3, ![1, A, B]⟩ : Shape).Idx → α) : (⟨3, ![2, A, B]⟩ : Shape).Idx → α :=
  fun y => x (y 0) fun | 0 => ⟨0, Nat.one_pos⟩ | 1 => y 1 | 2 => y 2

/-- Rows `256 * d` to `256 * d + 255` of a slab of 512 rows. -/
def half {α : Type} (x : (⟨3, ![1, 512, B]⟩ : Shape).Idx → α) (d : Fin 2) : (⟨3, ![1, 256, B]⟩ : Shape).Idx → α :=
  fun y => x fun | 0 => y 0 | 1 => ⟨256 * d.val + (y 1).val, by have h : (y 1).val < 256 := (y 1).isLt; show _ < 512; omega⟩ | 2 => y 2

/-- The slab of 512 rows with the given halves. -/
def join {α : Type} (x0 x1 : (⟨3, ![1, 256, B]⟩ : Shape).Idx → α) : (⟨3, ![1, 512, B]⟩ : Shape).Idx → α :=
  fun y => if h : (y 1).val < 256 then x0 fun | 0 => y 0 | 1 => ⟨(y 1).val, h⟩ | 2 => y 2
    else x1 fun | 0 => y 0 | 1 => ⟨(y 1).val - 256, by have h : (y 1).val < 512 := (y 1).isLt; show _ < 256; omega⟩ | 2 => y 2

/-- A load of slab `n` of a buffer held at a stack. -/
theorem readAt_stk (v : View sig κ sp ⟨3, ![2, A, B]⟩ e) (x : Fin 2 → (⟨3, ![1, A, B]⟩ : Shape).Idx → Val e) (n : Fin 2)
    (inb : ∀ a, (![n.val, 0, 0] : Fin 3 → ℕ) a + (⟨3, ![1, A, B]⟩ : Shape).size a ≤ (⟨3, ![2, A, B]⟩ : Shape).size a) :
    v.readAt Val (Rect.unit (s := ⟨3, ![2, A, B]⟩) ![n.val, 0, 0] (⟨3, ![1, A, B]⟩ : Shape).size inb).toLoadRect (v.rep (stk x)) = x n := by
  rw [View.readAt_rep_unit v (stk x) inb rfl inb]
  funext y
  have h0 : (y 0).val = 0 := Nat.lt_one_iff.mp (y 0).isLt
  show x _ _ = x n y
  congr 1
  · congr 1
    apply Fin.ext
    show n.val + 1 * (y 0).val = n.val
    omega
  · funext a
    apply Fin.ext
    match a with
    | 0 => show 0 = (y 0).val; omega
    | 1 => show 0 + 1 * (y 1).val = (y 1).val; omega
    | 2 => show 0 + 1 * (y 2).val = (y 2).val; omega

/-- A load of half `d` of slab `n` of a buffer held at a stack. -/
theorem readAt_half (v : View sig κ sp ⟨3, ![2, 512, B]⟩ e) (x : Fin 2 → (⟨3, ![1, 512, B]⟩ : Shape).Idx → Val e) (n d : Fin 2) (off : Fin 3 → ℕ)
    (h : off = ![n.val, 256 * d.val, 0])
    (inb : ∀ a, off a + (⟨3, ![1, 256, B]⟩ : Shape).size a ≤ (⟨3, ![2, 512, B]⟩ : Shape).size a) :
    v.readAt Val (Rect.unit (s := ⟨3, ![2, 512, B]⟩) off (⟨3, ![1, 256, B]⟩ : Shape).size inb).toLoadRect (v.rep (stk x)) = half (x n) d := by
  subst h
  rw [View.readAt_rep_unit v (stk x) inb rfl inb]
  funext y
  have h0 : (y 0).val = 0 := Nat.lt_one_iff.mp (y 0).isLt
  show x _ _ = x n _
  congr 1
  · congr 1
    apply Fin.ext
    show n.val + 1 * (y 0).val = n.val
    omega
  · funext a
    apply Fin.ext
    match a with
    | 0 => show 0 = (y 0).val; omega
    | 1 => show 256 * d.val + 1 * (y 1).val = 256 * d.val + (y 1).val; omega
    | 2 => show 0 + 1 * (y 2).val = (y 2).val; omega

/-- Stores to both slabs leave their stack. -/
theorem read_two (v : View sig κ sp ⟨3, ![2, A, B]⟩ e) (f : v.ty.Contents Val) (i0 i1) (w : Fin 2 → (⟨3, ![1, A, B]⟩ : Shape).Idx → Val e)
    (L : List (View.Piece Val ⟨3, ![2, A, B]⟩ e)) :
    v.read Val (v.writes Val f (⟨Rect.unit (s := ⟨3, ![2, A, B]⟩) ![1, 0, 0] (⟨3, ![1, A, B]⟩ : Shape).size i1, w 1⟩
      :: ⟨Rect.unit (s := ⟨3, ![2, A, B]⟩) ![0, 0, 0] (⟨3, ![1, A, B]⟩ : Shape).size i0, w 0⟩ :: L)) = stk w := by
  have hwin : ∀ (n : Fin 2) (inb : ∀ a, (![n.val, 0, 0] : Fin 3 → ℕ) a + (⟨3, ![1, A, B]⟩ : Shape).size a ≤ (⟨3, ![2, A, B]⟩ : Shape).size a) (z : (⟨3, ![1, A, B]⟩ : Shape).Idx),
      w n z = stk w fun a => ⟨(![n.val, 0, 0] : Fin 3 → ℕ) a + 1 * (z a).val, by have := inb a; have h : (z a).val < (⟨3, ![1, A, B]⟩ : Shape).size a := (z a).isLt; omega⟩ := by
    intro n inb z
    have h0 : (z 0).val = 0 := Nat.lt_one_iff.mp (z 0).isLt
    show w n z = w _ _
    congr 1
    · congr 1
      apply Fin.ext
      show n.val = n.val + 1 * (z 0).val
      omega
    · funext a
      apply Fin.ext
      match a with
      | 0 => show (z 0).val = 0; omega
      | 1 => show (z 1).val = 0 + 1 * (z 1).val; omega
      | 2 => show (z 2).val = 0 + 1 * (z 2).val; omega
  funext y
  refine agree_cons v f (stk w) ![1, 0, 0] (⟨3, ![1, A, B]⟩ : Shape).size i1 (w 1) _ _ (hwin 1 i1)
    (agree_cons v f (stk w) ![0, 0, 0] (⟨3, ![1, A, B]⟩ : Shape).size i0 (w 0) L (fun _ => False) (hwin 0 i0) (fun _ h => h.elim)) y ?_
  have h0 : (y 0).val < 2 := (y 0).isLt
  have h1 : (y 1).val < A := (y 1).isLt
  have h2 : (y 2).val < B := (y 2).isLt
  by_cases h : (y 0).val = 0
  · refine .inl (.inr fun a => ?_)
    match a with
    | 0 => exact ⟨Nat.zero_le _, by show (y 0).val < 0 + 1; omega⟩
    | 1 => exact ⟨Nat.zero_le _, by show (y 1).val < 0 + A; omega⟩
    | 2 => exact ⟨Nat.zero_le _, by show (y 2).val < 0 + B; omega⟩
  · refine .inr fun a => ?_
    match a with
    | 0 => exact ⟨by show 1 ≤ (y 0).val; omega, by show (y 0).val < 1 + 1; omega⟩
    | 1 => exact ⟨Nat.zero_le _, by show (y 1).val < 0 + A; omega⟩
    | 2 => exact ⟨Nat.zero_le _, by show (y 2).val < 0 + B; omega⟩

/-- A load of a whole buffer of two slabs just stored reads their stack. -/
theorem readCov_two (v : View sig κ sp ⟨3, ![2, A, B]⟩ e) (i0 i1) (w : Fin 2 → (⟨3, ![1, A, B]⟩ : Shape).Idx → Val e)
    (L : List (View.Piece Val ⟨3, ![2, A, B]⟩ e)) (inb : ∀ a, (![0, 0, 0] : Fin 3 → ℕ) a + (⟨3, ![2, A, B]⟩ : Shape).size a ≤ (⟨3, ![2, A, B]⟩ : Shape).size a) :
    v.readCov (⟨Rect.unit (s := ⟨3, ![2, A, B]⟩) ![1, 0, 0] (⟨3, ![1, A, B]⟩ : Shape).size i1, w 1⟩
      :: ⟨Rect.unit (s := ⟨3, ![2, A, B]⟩) ![0, 0, 0] (⟨3, ![1, A, B]⟩ : Shape).size i0, w 0⟩ :: L)
      (Rect.unit (s := ⟨3, ![2, A, B]⟩) ![0, 0, 0] (⟨3, ![2, A, B]⟩ : Shape).size inb).toLoadRect = stk w := by
  unfold View.readCov
  rw [View.readAt_full v _ inb]
  exact read_two v _ i0 i1 w L

/-- A load of one slab after stores to both: the slab's values. -/
theorem readCov_slab (v : View sig κ sp ⟨3, ![2, A, B]⟩ e) (i0 i1) (w : Fin 2 → (⟨3, ![1, A, B]⟩ : Shape).Idx → Val e)
    (L : List (View.Piece Val ⟨3, ![2, A, B]⟩ e)) (n : Fin 2)
    (inb : ∀ a, (![n.val, 0, 0] : Fin 3 → ℕ) a + (⟨3, ![1, A, B]⟩ : Shape).size a ≤ (⟨3, ![2, A, B]⟩ : Shape).size a) :
    v.readCov (⟨Rect.unit (s := ⟨3, ![2, A, B]⟩) ![1, 0, 0] (⟨3, ![1, A, B]⟩ : Shape).size i1, w 1⟩
      :: ⟨Rect.unit (s := ⟨3, ![2, A, B]⟩) ![0, 0, 0] (⟨3, ![1, A, B]⟩ : Shape).size i0, w 0⟩ :: L)
      (Rect.unit (s := ⟨3, ![2, A, B]⟩) ![n.val, 0, 0] (⟨3, ![1, A, B]⟩ : Shape).size inb).toLoadRect = w n := by
  unfold View.readCov
  refine Eq.trans (funext fun x => ?_) (readAt_stk v w n inb)
  rw [View.readAt_apply, View.readAt_apply, read_two v _ i0 i1 w L, View.read_rep]

/-- Stores to both halves of both slabs leave the stack of the joined halves. -/
theorem read_four (v : View sig κ sp ⟨3, ![2, 512, B]⟩ e) (f : v.ty.Contents Val) (i00 i01 i10 i11)
    (w0 w1 : Fin 2 → (⟨3, ![1, 256, B]⟩ : Shape).Idx → Val e) (L : List (View.Piece Val ⟨3, ![2, 512, B]⟩ e)) :
    v.read Val (v.writes Val f (⟨Rect.unit (s := ⟨3, ![2, 512, B]⟩) ![1, 0, 0] (⟨3, ![1, 256, B]⟩ : Shape).size i10, w0 1⟩
      :: ⟨Rect.unit (s := ⟨3, ![2, 512, B]⟩) ![1, 256, 0] (⟨3, ![1, 256, B]⟩ : Shape).size i11, w1 1⟩
      :: ⟨Rect.unit (s := ⟨3, ![2, 512, B]⟩) ![0, 0, 0] (⟨3, ![1, 256, B]⟩ : Shape).size i00, w0 0⟩
      :: ⟨Rect.unit (s := ⟨3, ![2, 512, B]⟩) ![0, 256, 0] (⟨3, ![1, 256, B]⟩ : Shape).size i01, w1 0⟩ :: L)) = stk fun n => join (w0 n) (w1 n) := by
  have hwin0 : ∀ (n : Fin 2) (inb : ∀ a, (![n.val, 0, 0] : Fin 3 → ℕ) a + (⟨3, ![1, 256, B]⟩ : Shape).size a ≤ (⟨3, ![2, 512, B]⟩ : Shape).size a) (z : (⟨3, ![1, 256, B]⟩ : Shape).Idx),
      w0 n z = (stk fun n => join (w0 n) (w1 n)) fun a => ⟨(![n.val, 0, 0] : Fin 3 → ℕ) a + 1 * (z a).val, by have := inb a; have h : (z a).val < (⟨3, ![1, 256, B]⟩ : Shape).size a := (z a).isLt; omega⟩ := by
    intro n inb z
    have h0 : (z 0).val = 0 := Nat.lt_one_iff.mp (z 0).isLt
    have h1 : (z 1).val < 256 := (z 1).isLt
    refine Eq.trans ?_ (dif_pos (show 0 + 1 * (z 1).val < 256 by omega)).symm
    congr 1
    · congr 1
      apply Fin.ext
      show n.val = n.val + 1 * (z 0).val
      omega
    · funext a
      apply Fin.ext
      match a with
      | 0 => show (z 0).val = 0; omega
      | 1 => show (z 1).val = 0 + 1 * (z 1).val; omega
      | 2 => show (z 2).val = 0 + 1 * (z 2).val; omega
  have hwin1 : ∀ (n : Fin 2) (inb : ∀ a, (![n.val, 256, 0] : Fin 3 → ℕ) a + (⟨3, ![1, 256, B]⟩ : Shape).size a ≤ (⟨3, ![2, 512, B]⟩ : Shape).size a) (z : (⟨3, ![1, 256, B]⟩ : Shape).Idx),
      w1 n z = (stk fun n => join (w0 n) (w1 n)) fun a => ⟨(![n.val, 256, 0] : Fin 3 → ℕ) a + 1 * (z a).val, by have := inb a; have h : (z a).val < (⟨3, ![1, 256, B]⟩ : Shape).size a := (z a).isLt; omega⟩ := by
    intro n inb z
    have h0 : (z 0).val = 0 := Nat.lt_one_iff.mp (z 0).isLt
    have h1 : (z 1).val < 256 := (z 1).isLt
    refine Eq.trans ?_ (dif_neg (show ¬ 256 + 1 * (z 1).val < 256 by omega)).symm
    congr 1
    · congr 1
      apply Fin.ext
      show n.val = n.val + 1 * (z 0).val
      omega
    · funext a
      apply Fin.ext
      match a with
      | 0 => show (z 0).val = 0; omega
      | 1 => show (z 1).val = 256 + 1 * (z 1).val - 256; omega
      | 2 => show (z 2).val = 0 + 1 * (z 2).val; omega
  funext y
  refine agree_cons v f _ ![1, 0, 0] (⟨3, ![1, 256, B]⟩ : Shape).size i10 (w0 1) _ _ (hwin0 1 i10)
    (agree_cons v f _ ![1, 256, 0] (⟨3, ![1, 256, B]⟩ : Shape).size i11 (w1 1) _ _ (hwin1 1 i11)
    (agree_cons v f _ ![0, 0, 0] (⟨3, ![1, 256, B]⟩ : Shape).size i00 (w0 0) _ _ (hwin0 0 i00)
    (agree_cons v f _ ![0, 256, 0] (⟨3, ![1, 256, B]⟩ : Shape).size i01 (w1 0) L (fun _ => False) (hwin1 0 i01) (fun _ h => h.elim)))) y ?_
  have h0 : (y 0).val < 2 := (y 0).isLt
  have h1 : (y 1).val < 512 := (y 1).isLt
  have h2 : (y 2).val < B := (y 2).isLt
  have key : ∀ n d : ℕ, (y 0).val = n → 256 * d ≤ (y 1).val → (y 1).val < 256 * d + 256 →
      ∀ a, (![n, 256 * d, 0] : Fin 3 → ℕ) a ≤ (y a).val ∧ (y a).val < (![n, 256 * d, 0] : Fin 3 → ℕ) a + (⟨3, ![1, 256, B]⟩ : Shape).size a := by
    intro n d e ha hb a
    match a with
    | 0 => exact ⟨by show n ≤ (y 0).val; omega, by show (y 0).val < n + 1; omega⟩
    | 1 => exact ⟨ha, hb⟩
    | 2 => exact ⟨Nat.zero_le _, by show (y 2).val < 0 + B; omega⟩
  by_cases h : (y 0).val = 0 <;> by_cases h' : (y 1).val < 256
  · exact .inl (.inl (.inr (key 0 0 h (Nat.zero_le _) h')))
  · exact .inl (.inl (.inl (.inr (key 0 1 h (by omega) (by omega)))))
  · exact .inr (key 1 0 (by omega) (Nat.zero_le _) h')
  · exact .inl (.inr (key 1 1 (by omega) (by omega) (by omega)))

/-- Two halves of a block side by side. -/
def halves {α : Type} (a b : (⟨3, ![1, 512, 256]⟩ : Shape).Idx → α) : (⟨3, ![1, 512, 512]⟩ : Shape).Idx → α :=
  fun y =>
    if (y 2).val < 256 then a (fun | 0 => y 0 | 1 => y 1 | 2 => (⟨(y 2).val % 256, Nat.mod_lt _ (by decide)⟩ : Fin 256))
    else b (fun | 0 => y 0 | 1 => y 1 | 2 => (⟨(y 2).val % 256, Nat.mod_lt _ (by decide)⟩ : Fin 256))

/-- Stores to both halves of a block leave both side by side. -/
theorem read_halves (v : View sig κ sp ⟨3, ![1, 512, 512]⟩ e) (f : v.ty.Contents Val) (i0 i1) (a b : (⟨3, ![1, 512, 256]⟩ : Shape).Idx → Val e)
    (L : List (View.Piece Val ⟨3, ![1, 512, 512]⟩ e)) :
    v.read Val (v.writes Val f (⟨Rect.unit (s := ⟨3, ![1, 512, 512]⟩) ![0, 0, 256] (⟨3, ![1, 512, 256]⟩ : Shape).size i1, b⟩
      :: ⟨Rect.unit (s := ⟨3, ![1, 512, 512]⟩) ![0, 0, 0] (⟨3, ![1, 512, 256]⟩ : Shape).size i0, a⟩ :: L)) = halves a b := by
  funext y
  refine agree_cons v f (halves a b) ![0, 0, 256] (⟨3, ![1, 512, 256]⟩ : Shape).size i1 b _ _ (fun z => ?_)
    (agree_cons v f (halves a b) ![0, 0, 0] (⟨3, ![1, 512, 256]⟩ : Shape).size i0 a L (fun _ => False) (fun z => ?_) (fun _ h => h.elim)) y ?_
  · have h2 : (z 2).val < 256 := (z 2).isLt
    refine Eq.trans ?_ (if_neg (show ¬ 256 + 1 * (z 2).val < 256 by omega)).symm
    congr 1
    funext a
    apply Fin.ext
    match a with
    | 0 => show (z 0).val = 0 + 1 * (z 0).val; omega
    | 1 => show (z 1).val = 0 + 1 * (z 1).val; omega
    | 2 => show (z 2).val = (256 + 1 * (z 2).val) % 256; omega
  · have h2 : (z 2).val < 256 := (z 2).isLt
    refine Eq.trans ?_ (if_pos (show 0 + 1 * (z 2).val < 256 by omega)).symm
    congr 1
    funext a
    apply Fin.ext
    match a with
    | 0 => show (z 0).val = 0 + 1 * (z 0).val; omega
    | 1 => show (z 1).val = 0 + 1 * (z 1).val; omega
    | 2 => show (z 2).val = (0 + 1 * (z 2).val) % 256; omega
  · have h0 : (y 0).val < 1 := (y 0).isLt
    have h1 : (y 1).val < 512 := (y 1).isLt
    have h2 : (y 2).val < 512 := (y 2).isLt
    by_cases h : (y 2).val < 256
    · refine .inl (.inr fun a => ?_)
      match a with
      | 0 => exact ⟨Nat.zero_le _, by show (y 0).val < 0 + 1; omega⟩
      | 1 => exact ⟨Nat.zero_le _, by show (y 1).val < 0 + 512; omega⟩
      | 2 => exact ⟨Nat.zero_le _, by show (y 2).val < 0 + 256; omega⟩
    · refine .inr fun a => ?_
      match a with
      | 0 => exact ⟨Nat.zero_le _, by show (y 0).val < 0 + 1; omega⟩
      | 1 => exact ⟨Nat.zero_le _, by show (y 1).val < 0 + 512; omega⟩
      | 2 => exact ⟨by show 256 ≤ (y 2).val; omega, by show (y 2).val < 256 + 256; omega⟩

end

end Cert.Pieces

end
-- ==== Proof.Sb.Spec.lean ====
/- What the stick-breaking attention kernel computes at one grid point, as a recursion over the key blocks: the vectors a head
   holds, and how one block changes them. -/
module

public import proofs.«01_k».proof.Proof.Gen.SbIdeal
public import proofs.«01_k».proof.Proof.Gen.SbIdeal.Skeleton
public import proofs.«01_k».proof.Proof.Gen.SbIdeal.Launch
public import proofs.«01_k».proof.Proof.Sb.Pieces

@[expose] public section

noncomputable section

namespace Cert.SbIdeal.Spec

open Cert.SbIdeal Cert.SbIdeal.Gen Cert.Pieces
open Idealize.ShloMosaic Idealize.ShloMosaic.TcCoe

variable {F : FTy → Type} [FloatOps F] [Named F]

/-- The lanes of head `n` of a block of queries or of gates. -/
def cols (X : Vec F S1x512x512 .bf16) (n : Fin 2) : Vec F S1x512x256 .bf16 :=
  fun y => X fun | 0 => y 0 | 1 => y 1 | 2 => (⟨(256 * n.val + (y 2).val) % 512, Nat.mod_lt _ (by decide)⟩ : Fin 512)

/-- The keys of block `kb` in the lanes of head `n`. -/
def keys (K : Vec F S1x16384x512 .bf16) (n : Fin 2) (kb : ℕ) : Vec F S1x512x256 .bf16 :=
  fun y => K fun | 0 => y 0 | 1 => (⟨(512 * kb + (y 1).val) % 16384, Nat.mod_lt _ (by decide)⟩ : Fin 16384) | 2 => (⟨(256 * n.val + (y 2).val) % 512, Nat.mod_lt _ (by decide)⟩ : Fin 512)

/-- The transposed values of block `vb` of head `n`. -/
def vals (V : Vec F S32x512x512 .bf16) (n : Fin 2) (vb : ℕ) : Vec F S1x256x512 .bf16 :=
  fun y => V fun | 0 => (⟨vb % 32, Nat.mod_lt _ (by decide)⟩ : Fin 32) | 1 => (⟨(256 * n.val + (y 1).val) % 512, Nat.mod_lt _ (by decide)⟩ : Fin 512) | 2 => y 2

/-- The vectors held for one head: the logits of the coming block, the weights of the last block, the carried sum, the
    accumulated output. -/
structure Head (F : FTy → Type) where
  z : Vec F S1x512x512 .f32
  a : Vec F S1x512x512 .bf16
  c : Vec F S1x1x512 .f32
  acc : Vec F S1x256x512 .f32

/-- The logits of a block of keys. -/
def logits (q : FVec F S512x256 .bf16) (k : Vec F S1x512x256 .bf16) : Vec F S1x512x512 .f32 := k0_pay46 q k

/-- A head before the first block of weights: the logits of the diagonal block, nothing carried, nothing accumulated. -/
def Head.init (q : FVec F S512x256 .bf16) (k : Vec F S1x512x256 .bf16) : Head F where
  z := logits q k
  a := fun _ => Scalar.ofBits .bf16 0
  c := fun _ => Scalar.ofBits .f32 0x00000000#32
  acc := fun _ => Scalar.ofBits .f32 0x00000000#32

/-- The diagonal block's weights of the later half of the keys. -/
def diag1 (σ : Head F) : Vec F S1x256x512 .bf16 := k0_pay17 (k0_pay16 (k0_pay4 (F := F)) σ.c (half (B := 512) σ.z 1))

/-- The diagonal block's weights of the earlier half of the keys. -/
def diag0 (σ : Head F) : Vec F S1x256x512 .bf16 :=
  k0_pay24 (k0_pay4 (F := F)) (k0_pay10 σ.c) (k0_pay14 (half (B := 512) σ.z 1)) (k0_pay15 (k0_pay4 (F := F)) (half (B := 512) σ.z 1)) (half (B := 512) σ.z 0)

/-- The sum carried on from the diagonal block. -/
def diagC (σ : Head F) : Vec F S1x1x512 .f32 :=
  k0_pay27 (k0_pay25 (k0_pay4 (F := F)) (k0_pay10 σ.c) (k0_pay14 (half (B := 512) σ.z 1)) (k0_pay15 (k0_pay4 (F := F)) (half (B := 512) σ.z 1)) (half (B := 512) σ.z 0))
    (k0_pay26 (half (B := 512) σ.z 0))

/-- The diagonal block: its weights from its logits, the logits of the coming block. -/
def Head.diag (σ : Head F) (q : FVec F S512x256 .bf16) (k : Vec F S1x512x256 .bf16) : Head F where
  z := logits q k
  a := join (B := 512) (diag0 σ) (diag1 σ)
  c := diagC σ
  acc := σ.acc

/-- A block's weights of the later half of the keys. -/
def w1 (σ : Head F) : Vec F S1x256x512 .bf16 := k0_pay60 (k0_pay4 (F := F)) σ.c (half (B := 512) σ.z 1)

/-- The sum carried on from the later half of the keys. -/
def c1 (σ : Head F) : FVec F S1x512 .f32 := k0_pay61 (k0_pay4 (F := F)) σ.c (half (B := 512) σ.z 1)

/-- A block's weights of the earlier half of the keys. -/
def w0 (σ : Head F) : Vec F S1x256x512 .bf16 :=
  k0_pay68 (k0_pay4 (F := F)) (c1 σ) (k0_pay62 (half (B := 512) σ.z 0)) (k0_pay63 (half (B := 512) σ.z 0)) (k0_pay64 (half (B := 512) σ.z 0))

/-- The sum carried on from the block. -/
def c0 (σ : Head F) : Vec F S1x1x512 .f32 :=
  k0_pay69 (k0_pay4 (F := F)) (c1 σ) (k0_pay63 (half (B := 512) σ.z 0)) (k0_pay64 (half (B := 512) σ.z 0))

/-- One block: the last block's weights times its values, the block's weights, the logits of the coming block. -/
def Head.step (σ : Head F) (q : FVec F S512x256 .bf16) (v : Vec F S1x256x512 .bf16) (k : Vec F S1x512x256 .bf16) : Head F where
  z := logits q k
  a := join (B := 512) (w0 σ) (w1 σ)
  c := c0 σ
  acc := k0_pay53 σ.acc v σ.a

/-- The queries of head `n`. -/
def qh (Q : Vec F S1x512x512 .bf16) (n : Fin 2) : FVec F S512x256 .bf16 := k0_pay2 (cols Q n)

/-- The heads before the loop over the earlier key blocks. -/
def start (qi : ℕ) (Q : Vec F S1x512x512 .bf16) (K : Vec F S1x16384x512 .bf16) (n : Fin 2) : Head F :=
  (Head.init (qh Q n) (keys K n qi)).diag (qh Q n) (keys K n (qi - 1))

/-- The heads after `j` trips of the loop. -/
def after (qi : ℕ) (Q : Vec F S1x512x512 .bf16) (K : Vec F S1x16384x512 .bf16) (V : Vec F S32x512x512 .bf16) : ℕ → Fin 2 → Head F
  | 0 => start qi Q K
  | j + 1 => fun n => (after qi Q K V j n).step (qh Q n) (vals V n (qi - j)) (keys K n (qi - 2 - j))

/-- Whether some weight of a coming block can still count: the least carried sum is below the constant. -/
def go (σ : Fin 2 → Head F) : BitVec 1 :=
  Scalar.cmpf .olt (k0_pay88 (stk (A := 1) (B := 512) fun n => (σ n).c)) (Named.named κ "zero_mass" 0x43200000#32)

/-- How many more trips the loop makes, from trip `j` with flag `g`, at most `r`. -/
def more (qi : ℕ) (Q : Vec F S1x512x512 .bf16) (K : Vec F S1x16384x512 .bf16) (V : Vec F S32x512x512 .bf16) : ℕ → ℕ → BitVec 1 → ℕ
  | 0, _, _ => 0
  | r + 1, j, g => if g = 1#1 then more qi Q K V r (j + 1) (go (after qi Q K V (j + 1))) + 1 else 0

/-- How many trips the loop makes. -/
def visited (qi : ℕ) (Q : Vec F S1x512x512 .bf16) (K : Vec F S1x16384x512 .bf16) (V : Vec F S32x512x512 .bf16) : ℕ :=
  more qi Q K V qi 0 1#1

/-- The accumulated outputs after the last block of weights is used. -/
def accLast (qi : ℕ) (Q : Vec F S1x512x512 .bf16) (K : Vec F S1x16384x512 .bf16) (V : Vec F S32x512x512 .bf16) (n : Fin 2) : Vec F S1x256x512 .f32 :=
  k0_pay53 (after qi Q K V (visited qi Q K V) n).acc (vals V n (qi - visited qi Q K V)) (after qi Q K V (visited qi Q K V) n).a

/-- The output block. -/
def outBlk (qi : ℕ) (Q : Vec F S1x512x512 .bf16) (K : Vec F S1x16384x512 .bf16) (V : Vec F S32x512x512 .bf16) (G : Vec F S1x512x512 .bf16) : Vec F S1x512x512 .bf16 :=
  halves (k0_pay52 (accLast qi Q K V 0) (cols G 0)) (k0_pay52 (accLast qi Q K V 1) (cols G 1))

end Cert.SbIdeal.Spec

end
-- ==== Proof.Sb.Offsets.lean ====
/- The offsets of the loads of key and value blocks in closed form, and the loads themselves. -/
module

public import proofs.«01_k».proof.Proof.Sb.Spec

@[expose] public section

set_option maxRecDepth 16384

noncomputable section

namespace Cert.SbIdeal.Spec

open Cert.SbIdeal Cert.SbIdeal.Gen Cert.Pieces
open Idealize.ShloMosaic Idealize.ShloMosaic.TcCoe

/-- The index word of the values used by a trip. -/
def vword (q j : BitVec 32) : ℕ := (Scalar.indexCast (Scalar.addi (Scalar.subi (Scalar.subi q 1#32) j) 1#32)).toNat

/-- The index word of the keys fetched by a trip. -/
def kword (q j : BitVec 32) : ℕ := (Scalar.indexCast (Scalar.muli (Scalar.maxsi (Scalar.subi (Scalar.subi (Scalar.subi q 1#32) j) 1#32) 0#32) 512#32)).toNat

/-- The index word of the keys fetched before the loop. -/
def pword (q : BitVec 32) : ℕ := (Scalar.indexCast (Scalar.muli (Scalar.maxsi (Scalar.subi q 1#32) 0#32) 512#32)).toNat

/-- The index word of the values used after the loop. -/
def lword (q j : BitVec 32) : ℕ := (Scalar.indexCast (Scalar.subi q j)).toNat

/-- The word above in closed form. -/
theorem vword_eq : ∀ q j : Fin 32, j.val < q.val → vword (BitVec.ofNat 32 q.val) (BitVec.ofNat 32 j.val) = q.val - j.val := by decide +kernel

/-- The word above in closed form. -/
theorem kword_eq : ∀ q j : Fin 32, j.val < q.val → kword (BitVec.ofNat 32 q.val) (BitVec.ofNat 32 j.val) = 512 * (q.val - 2 - j.val) := by decide +kernel

/-- The word above in closed form. -/
theorem pword_eq : ∀ q : Fin 32, pword (BitVec.ofNat 32 q.val) = 512 * (q.val - 1) := by decide +kernel

/-- The word above in closed form. -/
theorem lword_eq : ∀ q j : Fin 32, j.val ≤ q.val → lword (BitVec.ofNat 32 q.val) (BitVec.ofNat 32 j.val) = q.val - j.val := by decide +kernel

/-- The offsets of the keys before the loop. -/
theorem off3_eq (i : grid0.Coords) : k0_off3 i = ![0, 512 * ((i 2).val - 1), 0] :=
  congrArg (fun x : ℕ => (![0, x, 0] : Fin 3 → ℕ)) (pword_eq (i 2))

/-- The offsets of the keys before the loop. -/
theorem off4_eq (i : grid0.Coords) : k0_off4 i = ![0, 512 * ((i 2).val - 1), 256] :=
  congrArg (fun x : ℕ => (![0, x, 256] : Fin 3 → ℕ)) (pword_eq (i 2))

section

variable (i : grid0.Coords) (j : ℕ) (h : j < (i 2).val)

include h

/-- The offsets of a trip's values. -/
theorem off5_eq : k0_off5 i (BitVec.ofNat 32 j) = ![(i 2).val - j, 0, 0] :=
  congrArg (fun x : ℕ => (![x, 0, 0] : Fin 3 → ℕ)) (vword_eq (i 2) ⟨j, h.trans (i 2).isLt⟩ h)

/-- The offsets of a trip's values. -/
theorem off6_eq : k0_off6 i (BitVec.ofNat 32 j) = ![(i 2).val - j, 256, 0] :=
  congrArg (fun x : ℕ => (![x, 256, 0] : Fin 3 → ℕ)) (vword_eq (i 2) ⟨j, h.trans (i 2).isLt⟩ h)

/-- The offsets of a trip's keys. -/
theorem off7_eq : k0_off7 i (BitVec.ofNat 32 j) = ![0, 512 * ((i 2).val - 2 - j), 0] :=
  congrArg (fun x : ℕ => (![0, x, 0] : Fin 3 → ℕ)) (kword_eq (i 2) ⟨j, h.trans (i 2).isLt⟩ h)

/-- The offsets of a trip's keys. -/
theorem off8_eq : k0_off8 i (BitVec.ofNat 32 j) = ![0, 512 * ((i 2).val - 2 - j), 256] :=
  congrArg (fun x : ℕ => (![0, x, 256] : Fin 3 → ℕ)) (kword_eq (i 2) ⟨j, h.trans (i 2).isLt⟩ h)

/-- A trip's windows lie in their buffers. -/
theorem chk1 : k0_chk1 i (BitVec.ofNat 32 j) := by
  have hq : (i 2).val < 32 := (i 2).isLt
  refine ⟨?_, ?_, ?_, ?_, ?_⟩
  · rw [off5_eq i j h]
    intro a
    match a with
    | 0 => show (i 2).val - j + 1 ≤ 32; omega
    | 1 => show 0 + 256 ≤ 512; omega
    | 2 => show 0 + 512 ≤ 512; omega
  · rw [off6_eq i j h]
    intro a
    match a with
    | 0 => show (i 2).val - j + 1 ≤ 32; omega
    | 1 => show 256 + 256 ≤ 512; omega
    | 2 => show 0 + 512 ≤ 512; omega
  · have e : (k0_mult3 i (BitVec.ofNat 32 j)).toNat = 512 * ((i 2).val - 2 - j) := kword_eq (i 2) ⟨j, h.trans hq⟩ h
    rw [e]
    exact Nat.dvd_mul_right _ _
  · rw [off7_eq i j h]
    intro a
    match a with
    | 0 => show 0 + 1 ≤ 1; omega
    | 1 => show 512 * ((i 2).val - 2 - j) + 512 ≤ 16384; omega
    | 2 => show 0 + 256 ≤ 512; omega
  · rw [off8_eq i j h]
    intro a
    match a with
    | 0 => show 0 + 1 ≤ 1; omega
    | 1 => show 512 * ((i 2).val - 2 - j) + 512 ≤ 16384; omega
    | 2 => show 256 + 256 ≤ 512; omega

end

section

variable (i : grid0.Coords) (j : ℕ) (h : j ≤ (i 2).val)

include h

/-- The offsets of the last values. -/
theorem off9_eq : k0_off9 i (BitVec.ofNat 32 j) = ![(i 2).val - j, 0, 0] :=
  congrArg (fun x : ℕ => (![x, 0, 0] : Fin 3 → ℕ)) (lword_eq (i 2) ⟨j, lt_of_le_of_lt h (i 2).isLt⟩ h)

/-- The offsets of the last values. -/
theorem off10_eq : k0_off10 i (BitVec.ofNat 32 j) = ![(i 2).val - j, 256, 0] :=
  congrArg (fun x : ℕ => (![x, 256, 0] : Fin 3 → ℕ)) (lword_eq (i 2) ⟨j, lt_of_le_of_lt h (i 2).isLt⟩ h)

/-- The last values' windows lie in their buffer. -/
theorem chk2 : k0_chk2 i (BitVec.ofNat 32 j) := by
  have hq : (i 2).val < 32 := (i 2).isLt
  refine ⟨?_, ?_⟩
  · rw [off9_eq i j h]
    intro a
    match a with
    | 0 => show (i 2).val - j + 1 ≤ 32; omega
    | 1 => show 0 + 256 ≤ 512; omega
    | 2 => show 0 + 512 ≤ 512; omega
  · rw [off10_eq i j h]
    intro a
    match a with
    | 0 => show (i 2).val - j + 1 ≤ 32; omega
    | 1 => show 256 + 256 ≤ 512; omega
    | 2 => show 0 + 512 ≤ 512; omega

end

section

variable {F : FTy → Type} [FloatOps F] [Named F]
variable {κ : Kind} {sp : Space}

/-- A load of the lanes of head `n`. -/
theorem readAt_cols (v : View sig κ sp S1x512x512 .bf16) (X : Vec F S1x512x512 .bf16) (n : Fin 2) (off : Fin 3 → ℕ)
    (h : off = ![0, 0, 256 * n.val]) (inb : ∀ a, off a + S1x512x256.size a ≤ S1x512x512.size a) :
    v.readAt (Elt F) (Rect.unit (s := S1x512x512) off S1x512x256.size inb).toLoadRect (v.rep X) = cols X n := by
  subst h
  rw [View.readAt_rep_unit v X inb rfl inb]
  funext y
  have h2 : (y 2).val < 256 := (y 2).isLt
  refine congrArg X (funext fun a => Fin.ext ?_)
  match a with
  | 0 => show 0 + 1 * (y 0).val = (y 0).val; omega
  | 1 => show 0 + 1 * (y 1).val = (y 1).val; omega
  | 2 => show 256 * n.val + 1 * (y 2).val = (256 * n.val + (y 2).val) % 512; omega

/-- A load of the keys of block `kb` in the lanes of head `n`. -/
theorem readAt_keys (v : View sig κ sp S1x16384x512 .bf16) (K : Vec F S1x16384x512 .bf16) (n : Fin 2) (kb : ℕ) (hk : kb < 32) (off : Fin 3 → ℕ)
    (h : off = ![0, 512 * kb, 256 * n.val]) (inb : ∀ a, off a + S1x512x256.size a ≤ S1x16384x512.size a) :
    v.readAt (Elt F) (Rect.unit (s := S1x16384x512) off S1x512x256.size inb).toLoadRect (v.rep K) = keys K n kb := by
  subst h
  rw [View.readAt_rep_unit v K inb rfl inb]
  funext y
  have h1 : (y 1).val < 512 := (y 1).isLt
  have h2 : (y 2).val < 256 := (y 2).isLt
  refine congrArg K (funext fun a => Fin.ext ?_)
  match a with
  | 0 => show 0 + 1 * (y 0).val = (y 0).val; omega
  | 1 => show 512 * kb + 1 * (y 1).val = (512 * kb + (y 1).val) % 16384; omega
  | 2 => show 256 * n.val + 1 * (y 2).val = (256 * n.val + (y 2).val) % 512; omega

/-- A load of the transposed values of block `vb` of head `n`. -/
theorem readAt_vals (v : View sig κ sp S32x512x512 .bf16) (V : Vec F S32x512x512 .bf16) (n : Fin 2) (vb : ℕ) (hk : vb < 32) (off : Fin 3 → ℕ)
    (h : off = ![vb, 256 * n.val, 0]) (inb : ∀ a, off a + S1x256x512.size a ≤ S32x512x512.size a) :
    v.readAt (Elt F) (Rect.unit (s := S32x512x512) off S1x256x512.size inb).toLoadRect (v.rep V) = vals V n vb := by
  subst h
  rw [View.readAt_rep_unit v V inb rfl inb]
  funext y
  have h1 : (y 1).val < 256 := (y 1).isLt
  refine congrArg V (funext fun a => Fin.ext ?_)
  match a with
  | 0 => show vb + 1 * (y 0).val = vb % 32; have : (y 0).val < 1 := (y 0).isLt; omega
  | 1 => show 256 * n.val + 1 * (y 1).val = (256 * n.val + (y 1).val) % 512; omega
  | 2 => show 0 + 1 * (y 2).val = (y 2).val; omega

/-- Two square slabs stacked. -/
abbrev stkS {e : EltTy} (x : Fin 2 → Vec F S1x512x512 e) : Vec F S2x512x512 e := stk (A := 512) (B := 512) x

/-- Two rows stacked. -/
abbrev stkR {e : EltTy} (x : Fin 2 → Vec F S1x1x512 e) : Vec F S2x1x512 e := stk (A := 1) (B := 512) x

/-- Two half slabs stacked. -/
abbrev stkH {e : EltTy} (x : Fin 2 → Vec F S1x256x512 e) : Vec F S2x256x512 e := stk (A := 256) (B := 512) x

end

end Cert.SbIdeal.Spec

end
-- ==== Proof.Sb.Trip.lean ====
/- One trip of the loop over the earlier key blocks. -/
module

public import proofs.«01_k».proof.Proof.Sb.Offsets

@[expose] public section

set_option maxRecDepth 16384

noncomputable section

namespace Cert.SbIdeal.Spec

open Cert.SbIdeal Cert.SbIdeal.Gen Cert.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer held whole at the values `X`. -/
abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- The four scratch buffers at the vectors of the two heads `σ`. -/
abbrev scr (c : Dev nD) (arg8 : Memref sig .tc .vmem S2x512x512 .f32) (arg9 : Memref sig .tc .vmem S2x512x512 .bf16) (arg10 : Memref sig .tc .vmem S2x1x512 .f32) (arg11 : Memref sig .tc .vmem S2x256x512 .f32) (σ : Fin 2 → Head F) : sProp 𝕄 :=
  iprop(pt c arg8 (stkS fun n => (σ n).z) ∗ pt c arg9 (stkS fun n => (σ n).a) ∗ pt c arg10 (stkR fun n => (σ n).c) ∗ pt c arg11 (stkH fun n => (σ n).acc))

/-- A buffer whose two slabs were stored last, held at their stack. -/
theorem pt_stkS (c : Dev nD) {sp : Space} {e : EltTy} (M : Memref sig .tc sp S2x512x512 e) (f : M.view.ty.Contents (Elt F)) (y : Fin 2 → Vec F S1x512x512 e)
    (i0 i1) (w0 w1 : Vec F S1x512x512 e) (L : List (View.Piece (Elt F) S2x512x512 e)) (h0 : w0 = y 0) (h1 : w1 = y 1) :
    (M.view.loc (c : Thread nD τ) ↦[M.view.set]{fullShare} M.view.writes (Elt F) f (⟨Rect.unit (s := S2x512x512) ![1, 0, 0] S1x512x512.size i1, w1⟩ :: ⟨Rect.unit (s := S2x512x512) ![0, 0, 0] S1x512x512.size i0, w0⟩ :: L) : sProp 𝕄)
      ⊢ pt c M (stkS y) := by
  subst h0 h1
  exact pointsTo_rep_of_read (c : Thread nD τ) M _ fullShare _ (read_two (Val := Elt F) (A := 512) (B := 512) M.view f i0 i1 y L)

/-- A buffer whose two slabs were stored last, held at their stack. -/
theorem pt_stkR (c : Dev nD) {sp : Space} {e : EltTy} (M : Memref sig .tc sp S2x1x512 e) (f : M.view.ty.Contents (Elt F)) (y : Fin 2 → Vec F S1x1x512 e)
    (i0 i1) (w0 w1 : Vec F S1x1x512 e) (L : List (View.Piece (Elt F) S2x1x512 e)) (h0 : w0 = y 0) (h1 : w1 = y 1) :
    (M.view.loc (c : Thread nD τ) ↦[M.view.set]{fullShare} M.view.writes (Elt F) f (⟨Rect.unit (s := S2x1x512) ![1, 0, 0] S1x1x512.size i1, w1⟩ :: ⟨Rect.unit (s := S2x1x512) ![0, 0, 0] S1x1x512.size i0, w0⟩ :: L) : sProp 𝕄)
      ⊢ pt c M (stkR y) := by
  subst h0 h1
  exact pointsTo_rep_of_read (c : Thread nD τ) M _ fullShare _ (read_two (Val := Elt F) (A := 1) (B := 512) M.view f i0 i1 y L)

/-- A buffer whose two slabs were stored last, held at their stack. -/
theorem pt_stkH (c : Dev nD) {sp : Space} {e : EltTy} (M : Memref sig .tc sp S2x256x512 e) (f : M.view.ty.Contents (Elt F)) (y : Fin 2 → Vec F S1x256x512 e)
    (i0 i1) (w0 w1 : Vec F S1x256x512 e) (L : List (View.Piece (Elt F) S2x256x512 e)) (h0 : w0 = y 0) (h1 : w1 = y 1) :
    (M.view.loc (c : Thread nD τ) ↦[M.view.set]{fullShare} M.view.writes (Elt F) f (⟨Rect.unit (s := S2x256x512) ![1, 0, 0] S1x256x512.size i1, w1⟩ :: ⟨Rect.unit (s := S2x256x512) ![0, 0, 0] S1x256x512.size i0, w0⟩ :: L) : sProp 𝕄)
      ⊢ pt c M (stkH y) := by
  subst h0 h1
  exact pointsTo_rep_of_read (c : Thread nD τ) M _ fullShare _ (read_two (Val := Elt F) (A := 256) (B := 512) M.view f i0 i1 y L)

/-- A buffer whose four half slabs were stored last, held at the stack of the joined halves. -/
theorem pt_stkJ (c : Dev nD) {sp : Space} {e : EltTy} (M : Memref sig .tc sp S2x512x512 e) (f : M.view.ty.Contents (Elt F)) (y0 y1 : Fin 2 → Vec F S1x256x512 e)
    (i00 i01 i10 i11) (w00 w01 w10 w11 : Vec F S1x256x512 e) (L : List (View.Piece (Elt F) S2x512x512 e)) (h00 : w00 = y0 0) (h01 : w01 = y1 0) (h10 : w10 = y0 1) (h11 : w11 = y1 1) :
    (M.view.loc (c : Thread nD τ) ↦[M.view.set]{fullShare} M.view.writes (Elt F) f (⟨Rect.unit (s := S2x512x512) ![1, 0, 0] S1x256x512.size i10, w10⟩ :: ⟨Rect.unit (s := S2x512x512) ![1, 256, 0] S1x256x512.size i11, w11⟩
      :: ⟨Rect.unit (s := S2x512x512) ![0, 0, 0] S1x256x512.size i00, w00⟩ :: ⟨Rect.unit (s := S2x512x512) ![0, 256, 0] S1x256x512.size i01, w01⟩ :: L) : sProp 𝕄)
      ⊢ pt c M (stkS fun n => join (B := 512) (y0 n) (y1 n)) := by
  subst h00 h01 h10 h11
  exact pointsTo_rep_of_read (c : Thread nD τ) M _ fullShare _ (read_four (Val := Elt F) (B := 512) M.view f i00 i01 i10 i11 y0 y1 L)

/-- One trip of the loop takes the scratch of the two heads one step on. -/
theorem trip (c : Dev nD) (bd : Option ℕ) (i : grid0.Coords) (arg4 : Memref sig .tc .vmem S1x16384x512 .bf16) (harg4 : arg4.IsWhole) (arg5 : Memref sig .tc .vmem S32x512x512 .bf16) (harg5 : arg5.IsWhole) (arg8 : Memref sig .tc .vmem S2x512x512 .f32) (harg8 : arg8.IsWhole) (arg9 : Memref sig .tc .vmem S2x512x512 .bf16) (harg9 : arg9.IsWhole) (arg10 : Memref sig .tc .vmem S2x1x512 .f32) (harg10 : arg10.IsWhole) (arg11 : Memref sig .tc .vmem S2x256x512 .f32) (harg11 : arg11.IsWhole)
    (K : Vec F S1x16384x512 .bf16) (V : Vec F S32x512x512 .bf16) (q : Fin 2 → FVec F S512x256 .bf16) (σ : Fin 2 → Head F) (j : ℕ) (hj : j < (i 2).val) (g : BitVec 32) (Q : (Σ' (_ : BitVec 32), BitVec 1) → sProp 𝕄) :
    iprop(pt c arg4 K ∗ pt c arg5 V ∗ scr c arg8 arg9 arg10 arg11 σ
      ∗ (iprop(pt c arg4 K ∗ pt c arg5 V ∗ scr c arg8 arg9 arg10 arg11 (fun n => (σ n).step (q n) (vals V n ((i 2).val - j)) (keys K n ((i 2).val - 2 - j))))
          -∗ Q ⟨Scalar.addi (BitVec.ofNat 32 j) 1#32, go (fun n => (σ n).step (q n) (vals V n ((i 2).val - j)) (keys K n ((i 2).val - 2 - j)))⟩))
    ⊢ wp frame (wpE (defs₀ (F := F)) Variants.nat (c : Thread nD τ) bd) Set.univ
        (k0_part12 (F := F) i arg11 harg11 arg5 harg5 arg9 harg9 arg10 harg10 arg8 harg8 (k0_pay4 (F := F)) arg4 harg4 (q 0) (q 1) (BitVec.ofNat 32 j) g (BitVec.ofNat 32 (i 2).val)) Q := by
  have hq : (i 2).val < 32 := (i 2).isLt
  have hc := chk1 i j hj
  have r8 : ∀ (n d : Fin 2) (off : Fin 3 → ℕ) (h : off = ![n.val, 256 * d.val, 0]) (inb), arg8.view.readAt (Elt F) (Rect.unit (s := S2x512x512) off S1x256x512.size inb).toLoadRect (arg8.view.rep (stkS fun n => (σ n).z)) = half (B := 512) (σ n).z d :=
    fun n d off h inb => readAt_half (Val := Elt F) (B := 512) arg8.view (fun n => (σ n).z) n d off h inb
  have r8_00 : ∀ inb, arg8.view.readAt (Elt F) (Rect.unit (s := S2x512x512) ![0, 0, 0] S1x256x512.size inb).toLoadRect (arg8.view.rep (stkS fun n => (σ n).z)) = half (B := 512) (σ 0).z 0 := r8 0 0 _ rfl
  have r8_01 : ∀ inb, arg8.view.readAt (Elt F) (Rect.unit (s := S2x512x512) ![0, 256, 0] S1x256x512.size inb).toLoadRect (arg8.view.rep (stkS fun n => (σ n).z)) = half (B := 512) (σ 0).z 1 := r8 0 1 _ rfl
  have r8_10 : ∀ inb, arg8.view.readAt (Elt F) (Rect.unit (s := S2x512x512) ![1, 0, 0] S1x256x512.size inb).toLoadRect (arg8.view.rep (stkS fun n => (σ n).z)) = half (B := 512) (σ 1).z 0 := r8 1 0 _ rfl
  have r8_11 : ∀ inb, arg8.view.readAt (Elt F) (Rect.unit (s := S2x512x512) ![1, 256, 0] S1x256x512.size inb).toLoadRect (arg8.view.rep (stkS fun n => (σ n).z)) = half (B := 512) (σ 1).z 1 := r8 1 1 _ rfl
  have r9_0 : ∀ inb, arg9.view.readAt (Elt F) (Rect.unit (s := S2x512x512) ![0, 0, 0] S1x512x512.size inb).toLoadRect (arg9.view.rep (stkS fun n => (σ n).a)) = (σ 0).a :=
    fun inb => readAt_stk (Val := Elt F) (A := 512) (B := 512) arg9.view (fun n => (σ n).a) 0 inb
  have r9_1 : ∀ inb, arg9.view.readAt (Elt F) (Rect.unit (s := S2x512x512) ![1, 0, 0] S1x512x512.size inb).toLoadRect (arg9.view.rep (stkS fun n => (σ n).a)) = (σ 1).a :=
    fun inb => readAt_stk (Val := Elt F) (A := 512) (B := 512) arg9.view (fun n => (σ n).a) 1 inb
  have r10_0 : ∀ inb, arg10.view.readAt (Elt F) (Rect.unit (s := S2x1x512) ![0, 0, 0] S1x1x512.size inb).toLoadRect (arg10.view.rep (stkR fun n => (σ n).c)) = (σ 0).c :=
    fun inb => readAt_stk (Val := Elt F) (A := 1) (B := 512) arg10.view (fun n => (σ n).c) 0 inb
  have r10_1 : ∀ inb, arg10.view.readAt (Elt F) (Rect.unit (s := S2x1x512) ![1, 0, 0] S1x1x512.size inb).toLoadRect (arg10.view.rep (stkR fun n => (σ n).c)) = (σ 1).c :=
    fun inb => readAt_stk (Val := Elt F) (A := 1) (B := 512) arg10.view (fun n => (σ n).c) 1 inb
  have r11_0 : ∀ inb, arg11.view.readAt (Elt F) (Rect.unit (s := S2x256x512) ![0, 0, 0] S1x256x512.size inb).toLoadRect (arg11.view.rep (stkH fun n => (σ n).acc)) = (σ 0).acc :=
    fun inb => readAt_stk (Val := Elt F) (A := 256) (B := 512) arg11.view (fun n => (σ n).acc) 0 inb
  have r11_1 : ∀ inb, arg11.view.readAt (Elt F) (Rect.unit (s := S2x256x512) ![1, 0, 0] S1x256x512.size inb).toLoadRect (arg11.view.rep (stkH fun n => (σ n).acc)) = (σ 1).acc :=
    fun inb => readAt_stk (Val := Elt F) (A := 256) (B := 512) arg11.view (fun n => (σ n).acc) 1 inb
  have rk0 : ∀ inb, arg4.view.readAt (Elt F) (Rect.unit (s := S1x16384x512) (k0_off7 i (BitVec.ofNat 32 j)) S1x512x256.size inb).toLoadRect (arg4.view.rep K) = keys K 0 ((i 2).val - 2 - j) :=
    fun inb => readAt_keys arg4.view K 0 _ (by omega) _ (off7_eq i j hj) inb
  have rk1 : ∀ inb, arg4.view.readAt (Elt F) (Rect.unit (s := S1x16384x512) (k0_off8 i (BitVec.ofNat 32 j)) S1x512x256.size inb).toLoadRect (arg4.view.rep K) = keys K 1 ((i 2).val - 2 - j) :=
    fun inb => readAt_keys arg4.view K 1 _ (by omega) _ (off8_eq i j hj) inb
  have rv0 : ∀ inb, arg5.view.readAt (Elt F) (Rect.unit (s := S32x512x512) (k0_off5 i (BitVec.ofNat 32 j)) S1x256x512.size inb).toLoadRect (arg5.view.rep V) = vals V 0 ((i 2).val - j) :=
    fun inb => readAt_vals arg5.view V 0 _ (by omega) _ (off5_eq i j hj) inb
  have rv1 : ∀ inb, arg5.view.readAt (Elt F) (Rect.unit (s := S32x512x512) (k0_off6 i (BitVec.ofNat 32 j)) S1x256x512.size inb).toLoadRect (arg5.view.rep V) = vals V 1 ((i 2).val - j) :=
    fun inb => readAt_vals arg5.view V 1 _ (by omega) _ (off6_eq i j hj) inb
  iintro ⟨H4, H5, ⟨H8, H9, H10, H11⟩, Hk⟩
  sl_exec
  sl_step
  have e : trip.sl.v447 arg10 σ = go (fun n => (σ n).step (q n) (vals V n ((i 2).val - j)) (keys K n ((i 2).val - 2 - j))) := by
    unfold trip.sl.v447 go trip.sl.v442 trip.sl.cst_248
    refine congrArg (fun x => Scalar.cmpf .olt (k0_pay88 x) (Named.named κ "zero_mass" 0x43200000#32)) ?_
    exact readCov_two (Val := Elt F) (A := 1) (B := 512) arg10.view _ _ (fun n => ((σ n).step (q n) (vals V n ((i 2).val - j)) (keys K n ((i 2).val - 2 - j))).c) _ _
  have e' : trip.sl.v441 j = Scalar.addi (BitVec.ofNat 32 j) 1#32 := rfl
  rw [e, e']
  iapply Hk
  isplitl [H4]; · iexact H4
  isplitl [H5]; · iexact H5
  isplitl [H8]; · iapply (pt_stkS c arg8 _ _ _ _ _ _ _ ?_ ?_) $$ H8 <;> rfl
  isplitl [H9]; · iapply (pt_stkJ c arg9 _ _ _ _ _ _ _ _ _ _ _ _ ?_ ?_ ?_ ?_) $$ H9 <;> rfl
  unfold trip.sl.H10_2
  isplitl [H10]; · iapply (pt_stkR c arg10 _ _ _ _ _ _ _ ?_ ?_) $$ H10 <;> rfl
  iapply (pt_stkH c arg11 _ _ _ _ _ _ _ ?_ ?_) $$ H11 <;> rfl

end Cert.SbIdeal.Spec

end
-- ==== Proof.Sb.Loop.lean ====
/- The loop over the earlier key blocks, which stops after the first block or once no weight of a coming block can count. -/
module

public import proofs.«01_k».proof.Proof.Sb.Trip

@[expose] public section

set_option maxRecDepth 16384

noncomputable section

namespace Cert.SbIdeal.Spec

open Cert.SbIdeal Cert.SbIdeal.Gen Cert.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop's condition as the words decide it. -/
def cond (j q : BitVec 32) (g : BitVec 32) : BitVec 1 := Scalar.andi (Scalar.cmpi .slt j q) (Scalar.cmpi .sgt g 0#32)

/-- The loop goes on while a block is left and the flag is set. -/
theorem cond_true : ∀ q j : Fin 32, j.val < q.val → cond (BitVec.ofNat 32 j.val) (BitVec.ofNat 32 q.val) (Scalar.extui (1#1 : BitVec 1) : BitVec 32) = 1#1 := by decide +kernel

/-- The loop stops at a flag that is not set. -/
theorem cond_flag : ∀ q j : Fin 32, ∀ g : BitVec 1, ¬ g = 1#1 → ¬ cond (BitVec.ofNat 32 j.val) (BitVec.ofNat 32 q.val) (Scalar.extui g : BitVec 32) = 1#1 := by decide +kernel

/-- The loop stops after the first block. -/
theorem cond_last : ∀ q : Fin 32, ∀ g : BitVec 1, ¬ cond (BitVec.ofNat 32 q.val) (BitVec.ofNat 32 q.val) (Scalar.extui g : BitVec 32) = 1#1 := by decide +kernel

/-- The next trip's number. -/
theorem next_word : ∀ j : Fin 32, Scalar.addi (BitVec.ofNat 32 j.val) 1#32 = BitVec.ofNat 32 (j.val + 1) := by decide +kernel

/-- The loop from trip `j` with flag `g`, at most `r` trips before its end: it leaves the scratch after the trips it makes. -/
theorem loop (c : Dev nD) (i : grid0.Coords) (arg4 : Memref sig .tc .vmem S1x16384x512 .bf16) (harg4 : arg4.IsWhole) (arg5 : Memref sig .tc .vmem S32x512x512 .bf16) (harg5 : arg5.IsWhole) (arg8 : Memref sig .tc .vmem S2x512x512 .f32) (harg8 : arg8.IsWhole) (arg9 : Memref sig .tc .vmem S2x512x512 .bf16) (harg9 : arg9.IsWhole) (arg10 : Memref sig .tc .vmem S2x1x512 .f32) (harg10 : arg10.IsWhole) (arg11 : Memref sig .tc .vmem S2x256x512 .f32) (harg11 : arg11.IsWhole)
    (X : Vec F S1x512x512 .bf16) (K : Vec F S1x16384x512 .bf16) (V : Vec F S32x512x512 .bf16) (r : ℕ) : ∀ (j : ℕ) (_ : j + r = (i 2).val) (g : BitVec 1) (Q : BitVec 32 × BitVec 32 → sProp 𝕄) (Q' : BitVec 32 → sProp 𝕄) (_ : ∀ p, Q' p.1 ⊢ Q p),
    iprop(pt c arg4 K ∗ pt c arg5 V ∗ scr c arg8 arg9 arg10 arg11 (after (i 2).val X K V j)
      ∗ (iprop(pt c arg4 K ∗ pt c arg5 V ∗ scr c arg8 arg9 arg10 arg11 (after (i 2).val X K V (j + more (i 2).val X K V r j g)))
          -∗ Q' (BitVec.ofNat 32 (j + more (i 2).val X K V r j g))))
    ⊢ wp frame (wpE (defs₀ (F := F)) Variants.nat (c : Thread nD τ) (some r)) Set.univ
        (cc0_while1 (F := F) i arg11 harg11 arg5 harg5 arg9 harg9 arg10 harg10 arg8 harg8 (k0_pay4 (F := F)) arg4 harg4 (qh X 0) (qh X 1) (BitVec.ofNat 32 j) (Scalar.extui g)) Q := by
  induction r with
  | zero =>
    intro j hj g Q Q' hQ
    have hq : (i 2).val < 32 := (i 2).isLt
    have hc : ¬ cond (BitVec.ofNat 32 j) (BitVec.ofNat 32 (i 2).val) (Scalar.extui g : BitVec 32) = 1#1 := by
      have e : j = (i 2).val := by omega
      rw [e]; exact cond_last (i 2) g
    unfold cc0_while1; unfold cond at hc
    dsimp only
    rw [if_neg hc]
    iintro ⟨H4, H5, H, Hk⟩
    simp only [more, Nat.add_zero]
    sl_step
    iapply (hQ (BitVec.ofNat 32 j, Scalar.extui g))
    iapply Hk
    isplitl [H4]; · iexact H4
    isplitl [H5]; · iexact H5
    iexact H
  | succ r ih =>
    intro j hj g Q Q' hQ
    have hq : (i 2).val < 32 := (i 2).isLt
    by_cases hg : g = 1#1
    · subst hg
      have hc : cond (BitVec.ofNat 32 j) (BitVec.ofNat 32 (i 2).val) (Scalar.extui (1#1 : BitVec 1) : BitVec 32) = 1#1 :=
        cond_true (i 2) ⟨j, by omega⟩ (by show j < (i 2).val; omega)
      unfold cc0_while1; unfold cond at hc
      dsimp only
      rw [if_pos hc]
      have em : j + more (i 2).val X K V (r + 1) j 1#1 = j + 1 + more (i 2).val X K V r (j + 1) (go (after (i 2).val X K V (j + 1))) := by
        show j + (if (1#1 : BitVec 1) = 1#1 then _ else _) = _
        rw [if_pos rfl]; omega
      rw [em]
      iintro ⟨H4, H5, H, Hk⟩
      rw [wp_bind]
      iapply (trip c (some (r + 1)) i arg4 harg4 arg5 harg5 arg8 harg8 arg9 harg9 arg10 harg10 arg11 harg11 K V (qh X) (after (i 2).val X K V j) j (by omega) _ _)
      isplitl [H4]; · iexact H4
      isplitl [H5]; · iexact H5
      isplitl [H]; · iexact H
      iintro ⟨H4, H5, H⟩
      dsimp only
      rw [show Scalar.addi (BitVec.ofNat 32 j) 1#32 = BitVec.ofNat 32 (j + 1) from next_word ⟨j, by omega⟩]
      iapply (wp_call Variants.nat (c : Thread nD τ) _ Set.univ r (fun u hu => by cases hu; exact Nat.lt_succ_self r))
      unfold defs₀
      rw [Defs.onTc_tc]
      iapply (ih (j + 1) (by omega) (go (after (i 2).val X K V (j + 1))) _ Q' fun p => (hQ p).trans (le_wp_ret _ _ _ _ _))
      isplitl [H4]; · iexact H4
      isplitl [H5]; · iexact H5
      isplitl [H]; · iexact H
      iexact Hk
    · have hc : ¬ cond (BitVec.ofNat 32 j) (BitVec.ofNat 32 (i 2).val) (Scalar.extui g : BitVec 32) = 1#1 :=
        cond_flag (i 2) ⟨j, by omega⟩ g hg
      unfold cc0_while1; unfold cond at hc
      dsimp only
      rw [if_neg hc]
      have em : more (i 2).val X K V (r + 1) j g = 0 := if_neg hg
      rw [em, Nat.add_zero]
      iintro ⟨H4, H5, H, Hk⟩
      sl_step
      iapply (hQ (BitVec.ofNat 32 j, Scalar.extui g))
      iapply Hk
      isplitl [H4]; · iexact H4
      isplitl [H5]; · iexact H5
      iexact H

/-- The whole loop, for a continuation that does not look at the flag. -/
theorem loop_all (c : Dev nD) (i : grid0.Coords) (arg4 : Memref sig .tc .vmem S1x16384x512 .bf16) (harg4 : arg4.IsWhole) (arg5 : Memref sig .tc .vmem S32x512x512 .bf16) (harg5 : arg5.IsWhole) (arg8 : Memref sig .tc .vmem S2x512x512 .f32) (harg8 : arg8.IsWhole) (arg9 : Memref sig .tc .vmem S2x512x512 .bf16) (harg9 : arg9.IsWhole) (arg10 : Memref sig .tc .vmem S2x1x512 .f32) (harg10 : arg10.IsWhole) (arg11 : Memref sig .tc .vmem S2x256x512 .f32) (harg11 : arg11.IsWhole)
    (X : Vec F S1x512x512 .bf16) (K : Vec F S1x16384x512 .bf16) (V : Vec F S32x512x512 .bf16) (Q : BitVec 32 × BitVec 32 → sProp 𝕄) (hQ : ∀ a b b', Q (a, b) = Q (a, b')) :
    iprop(pt c arg4 K ∗ pt c arg5 V ∗ scr c arg8 arg9 arg10 arg11 (start (i 2).val X K)
      ∗ (iprop(pt c arg4 K ∗ pt c arg5 V ∗ scr c arg8 arg9 arg10 arg11 (after (i 2).val X K V (visited (i 2).val X K V)))
          -∗ Q (BitVec.ofNat 32 (visited (i 2).val X K V), 0#32)))
    ⊢ wp frame (wpE (defs₀ (F := F)) Variants.nat (c : Thread nD τ) (some (i 2).val)) Set.univ
        (cc0_while1 (F := F) i arg11 harg11 arg5 harg5 arg9 harg9 arg10 harg10 arg8 harg8 (k0_pay4 (F := F)) arg4 harg4 (qh X 0) (qh X 1) 0#32 1#32) Q := by
  have h := loop c i arg4 harg4 arg5 harg5 arg8 harg8 arg9 harg9 arg10 harg10 arg11 harg11 X K V (i 2).val 0 (Nat.zero_add _) 1#1 Q (fun a => Q (a, 0#32)) (fun p => by rw [hQ p.1 0#32 p.2])
  rw [Nat.zero_add] at h
  exact h

end Cert.SbIdeal.Spec

end
-- ==== Proof.Sb.Body.lean ====
/- What one grid point of the stick-breaking attention kernel does: from its operands' blocks to its output block. -/
module

public import proofs.«01_k».proof.Proof.Sb.Loop

@[expose] public section

set_option maxRecDepth 16384

noncomputable section

namespace Cert.SbIdeal.Spec

open Cert.SbIdeal Cert.SbIdeal.Gen Cert.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer whose last store covers it, held at the values stored. -/
theorem pt_full (c : Dev nD) {sp : Space} {S : Shape} {e : EltTy} (M : Memref sig .tc sp S e) (f : M.view.ty.Contents (Elt F)) (X : S.Idx → Elt F e)
    {off : Fin S.rank → ℕ} (inb : ∀ a, off a + S.size a ≤ S.size a) (w : S.Idx → Elt F e) (L : List (View.Piece (Elt F) S e)) (h : w = X) :
    (M.view.loc (c : Thread nD τ) ↦[M.view.set]{fullShare} M.view.writes (Elt F) f (⟨Rect.unit (s := S) off S.size inb, w⟩ :: L) : sProp 𝕄) ⊢ pt c M X :=
  pointsTo_rep_of_read (c : Thread nD τ) M _ fullShare _ ((View.read_writes_full M.view f inb w L).trans h)

/-- A block whose two halves were stored last, held at the halves side by side. -/
theorem pt_halves (c : Dev nD) {sp : Space} {e : EltTy} (M : Memref sig .tc sp S1x512x512 e) (f : M.view.ty.Contents (Elt F)) (a b : Vec F S1x512x256 e)
    (i0 i1) (w0 w1 : Vec F S1x512x256 e) (L : List (View.Piece (Elt F) S1x512x512 e)) (h0 : w0 = a) (h1 : w1 = b) :
    (M.view.loc (c : Thread nD τ) ↦[M.view.set]{fullShare} M.view.writes (Elt F) f (⟨Rect.unit (s := S1x512x512) ![0, 0, 256] S1x512x256.size i1, w1⟩ :: ⟨Rect.unit (s := S1x512x512) ![0, 0, 0] S1x512x256.size i0, w0⟩ :: L) : sProp 𝕄)
      ⊢ pt c M (halves a b) := by
  subst h0 h1
  exact pointsTo_rep_of_read (c : Thread nD τ) M _ fullShare _ (read_halves (Val := Elt F) M.view f i0 i1 w0 w1 L)

/-- The loop makes at most the trips left to it. -/
theorem more_le (qi : ℕ) (X : Vec F S1x512x512 .bf16) (K : Vec F S1x16384x512 .bf16) (V : Vec F S32x512x512 .bf16) (r : ℕ) :
    ∀ (j : ℕ) (g : BitVec 1), more qi X K V r j g ≤ r := by
  induction r with
  | zero => intro j g; exact le_rfl
  | succ r ih =>
    intro j g
    show (if g = 1#1 then _ else _) ≤ r + 1
    split
    · exact Nat.succ_le_succ (ih _ _)
    · exact Nat.zero_le _

/-- One grid point computes its output block, from any contents of the output block and of the scratch. -/
theorem body (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S32x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2x512x512 .f32) (harg8 : arg8.IsWhole) (arg9 : Memref sig .tc .vmem S2x512x512 .bf16) (harg9 : arg9.IsWhole) (arg10 : Memref sig .tc .vmem S2x1x512 .f32) (harg10 : arg10.IsWhole) (arg11 : Memref sig .tc .vmem S2x256x512 .f32) (harg11 : arg11.IsWhole)
    (X : Vec F S1x512x512 .bf16) (K : Vec F S1x16384x512 .bf16) (V : Vec F S32x512x512 .bf16) (G : Vec F S1x512x512 .bf16)
    (f7 : arg7.view.ty.Contents (Elt F)) (f8 : arg8.view.ty.Contents (Elt F)) (f9 : arg9.view.ty.Contents (Elt F)) (f10 : arg10.view.ty.Contents (Elt F)) (f11 : arg11.view.ty.Contents (Elt F)) (R : Unit → sProp 𝕄) :
    iprop(pt c arg3 X ∗ pt c arg4 K ∗ pt c arg5 V ∗ pt c arg6 G
      ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (iprop(pt c arg3 X ∗ pt c arg4 K ∗ pt c arg5 V ∗ pt c arg6 G ∗ pt c arg7 (outBlk (i 2).val X K V G)
        ∗ (∃ f : arg8.view.ty.Contents (Elt F), arg8.view.loc (c : Thread nD τ) ↦[arg8.view.set]{fullShare} f) ∗ (∃ f : arg9.view.ty.Contents (Elt F), arg9.view.loc (c : Thread nD τ) ↦[arg9.view.set]{fullShare} f) ∗ (∃ f : arg10.view.ty.Contents (Elt F), arg10.view.loc (c : Thread nD τ) ↦[arg10.view.set]{fullShare} f) ∗ (∃ f : arg11.view.ty.Contents (Elt F), arg11.view.loc (c : Thread nD τ) ↦[arg11.view.set]{fullShare} f)) -∗ R ()))
    ⊢ wp frame (wpE (defs₀ (F := F)) Variants.nat (c : Thread nD τ) none) Set.univ
        (cc0_sb_prompt (F := F) i arg3 harg3 arg4 harg4 arg5 harg5 arg6 harg6 arg7 harg7 arg8 harg8 arg9 harg9 arg10 harg10 arg11 harg11) R := by
  have hq : (i 2).val < 32 := (i 2).isLt
  have rq0 : ∀ inb, arg3.view.readAt (Elt F) (Rect.unit (s := S1x512x512) ![0, 0, 0] S1x512x256.size inb).toLoadRect (arg3.view.rep X) = cols X 0 :=
    fun inb => readAt_cols arg3.view X 0 _ rfl inb
  have rq1 : ∀ inb, arg3.view.readAt (Elt F) (Rect.unit (s := S1x512x512) ![0, 0, 256] S1x512x256.size inb).toLoadRect (arg3.view.rep X) = cols X 1 :=
    fun inb => readAt_cols arg3.view X 1 _ rfl inb
  have rg0 : ∀ inb, arg6.view.readAt (Elt F) (Rect.unit (s := S1x512x512) ![0, 0, 0] S1x512x256.size inb).toLoadRect (arg6.view.rep G) = cols G 0 :=
    fun inb => readAt_cols arg6.view G 0 _ rfl inb
  have rg1 : ∀ inb, arg6.view.readAt (Elt F) (Rect.unit (s := S1x512x512) ![0, 0, 256] S1x512x256.size inb).toLoadRect (arg6.view.rep G) = cols G 1 :=
    fun inb => readAt_cols arg6.view G 1 _ rfl inb
  have rd0 : ∀ inb, arg4.view.readAt (Elt F) (Rect.unit (s := S1x16384x512) (k0_off1 i) S1x512x256.size inb).toLoadRect (arg4.view.rep K) = keys K 0 (i 2).val :=
    fun inb => readAt_keys arg4.view K 0 _ hq _ (k0_off1_eq i) inb
  have rd1 : ∀ inb, arg4.view.readAt (Elt F) (Rect.unit (s := S1x16384x512) (k0_off2 i) S1x512x256.size inb).toLoadRect (arg4.view.rep K) = keys K 1 (i 2).val :=
    fun inb => readAt_keys arg4.view K 1 _ hq _ (k0_off2_eq i) inb
  have rk0 : ∀ inb, arg4.view.readAt (Elt F) (Rect.unit (s := S1x16384x512) (k0_off3 i) S1x512x256.size inb).toLoadRect (arg4.view.rep K) = keys K 0 ((i 2).val - 1) :=
    fun inb => readAt_keys arg4.view K 0 _ (by omega) _ (off3_eq i) inb
  have rk1 : ∀ inb, arg4.view.readAt (Elt F) (Rect.unit (s := S1x16384x512) (k0_off4 i) S1x512x256.size inb).toLoadRect (arg4.view.rep K) = keys K 1 ((i 2).val - 1) :=
    fun inb => readAt_keys arg4.view K 1 _ (by omega) _ (off4_eq i) inb
  iintro ⟨H3, H4, H5, H6, H7, H8, H9, H10, H11, Hk⟩
  set_option sl_exec.stopBefore "k0_part2" in sl_exec
  obtain ⟨σ0, h0⟩ : ∃ σ0 : Fin 2 → Head F, ∀ n, σ0 n = Head.init (qh X n) (keys K n (i 2).val) := ⟨_, fun _ => rfl⟩
  ihave H10 := (pt_full c arg10 _ (stkR fun n => (σ0 n).c) _ _ _ ?_) $$ H10
  · simp only [h0]; rfl
  ihave H11 := (pt_full c arg11 _ (stkH fun n => (σ0 n).acc) _ _ _ ?_) $$ H11
  · simp only [h0]; rfl
  rewrite [k0_part2_eq_skeleton]
  unfold k0_part2_skel
  set_option sl_exec.maxSteps 2 in sl_exec
  ihave H8 := (pt_stkS c arg8 _ (fun n => (σ0 n).z) _ _ _ _ _ ?_ ?_) $$ H8
  · rw [h0]; rfl
  · rw [h0]; rfl
  have r8 : ∀ (n d : Fin 2) (off : Fin 3 → ℕ) (h : off = ![n.val, 256 * d.val, 0]) (inb), arg8.view.readAt (Elt F) (Rect.unit (s := S2x512x512) off S1x256x512.size inb).toLoadRect (arg8.view.rep (stkS fun n => (σ0 n).z)) = half (B := 512) (σ0 n).z d :=
    fun n d off h inb => readAt_half (Val := Elt F) (B := 512) arg8.view (fun n => (σ0 n).z) n d off h inb
  have r8_00 : ∀ inb, arg8.view.readAt (Elt F) (Rect.unit (s := S2x512x512) ![0, 0, 0] S1x256x512.size inb).toLoadRect (arg8.view.rep (stkS fun n => (σ0 n).z)) = half (B := 512) (σ0 0).z 0 := r8 0 0 _ rfl
  have r8_01 : ∀ inb, arg8.view.readAt (Elt F) (Rect.unit (s := S2x512x512) ![0, 256, 0] S1x256x512.size inb).toLoadRect (arg8.view.rep (stkS fun n => (σ0 n).z)) = half (B := 512) (σ0 0).z 1 := r8 0 1 _ rfl
  have r8_10 : ∀ inb, arg8.view.readAt (Elt F) (Rect.unit (s := S2x512x512) ![1, 0, 0] S1x256x512.size inb).toLoadRect (arg8.view.rep (stkS fun n => (σ0 n).z)) = half (B := 512) (σ0 1).z 0 := r8 1 0 _ rfl
  have r8_11 : ∀ inb, arg8.view.readAt (Elt F) (Rect.unit (s := S2x512x512) ![1, 256, 0] S1x256x512.size inb).toLoadRect (arg8.view.rep (stkS fun n => (σ0 n).z)) = half (B := 512) (σ0 1).z 1 := r8 1 1 _ rfl
  have r10_0 : ∀ inb, arg10.view.readAt (Elt F) (Rect.unit (s := S2x1x512) ![0, 0, 0] S1x1x512.size inb).toLoadRect (arg10.view.rep (stkR fun n => (σ0 n).c)) = (σ0 0).c :=
    fun inb => readAt_stk (Val := Elt F) (A := 1) (B := 512) arg10.view (fun n => (σ0 n).c) 0 inb
  have r10_1 : ∀ inb, arg10.view.readAt (Elt F) (Rect.unit (s := S2x1x512) ![1, 0, 0] S1x1x512.size inb).toLoadRect (arg10.view.rep (stkR fun n => (σ0 n).c)) = (σ0 1).c :=
    fun inb => readAt_stk (Val := Elt F) (A := 1) (B := 512) arg10.view (fun n => (σ0 n).c) 1 inb
  sl_exec
  ihave H8 := (pt_stkS c arg8 _ (fun n => (start (i 2).val X K n).z) _ _ _ _ _ ?_ ?_) $$ H8
  · rfl
  · rfl
  ihave H9 := (pt_stkJ c arg9 _ (fun n => diag0 (σ0 n)) (fun n => diag1 (σ0 n)) _ _ _ _ _ _ _ _ _ ?_ ?_ ?_ ?_) $$ H9
  · rfl
  · rfl
  · rfl
  · rfl
  ihave H10 := (pt_stkR c arg10 _ (fun n => diagC (σ0 n)) _ _ _ _ _ ?_ ?_) $$ H10
  · rfl
  · rfl
  have e0 : σ0 = fun n => Head.init (qh X n) (keys K n (i 2).val) := funext h0
  subst e0
  iapply (wp_call Variants.nat (c : Thread nD τ) _ Set.univ (i 2).val (fun u hu => by cases hu))
  unfold defs₀
  rw [Defs.onTc_tc]
  iapply (loop_all c i arg4 harg4 arg5 harg5 arg8 harg8 arg9 harg9 arg10 harg10 arg11 harg11 X K V _ (fun _ _ _ => rfl))
  isplitl [H4]; · iexact H4
  isplitl [H5]; · iexact H5
  isplitl [H8 H9 H10 H11]
  · isplitl [H8]; · iexact H8
    isplitl [H9]; · iexact H9
    isplitl [H10]; · iexact H10
    iexact H11
  iintro ⟨H4, H5, ⟨H8, H9, H10, H11⟩⟩
  dsimp only
  obtain ⟨t, ht⟩ : ∃ t, t = visited (i 2).val X K V := ⟨_, rfl⟩
  have htq : t ≤ (i 2).val := by rw [ht]; exact more_le _ _ _ _ _ _ _
  have hout : outBlk (i 2).val X K V G = halves (k0_pay52 (k0_pay53 (after (i 2).val X K V t 0).acc (vals V 0 ((i 2).val - t)) (after (i 2).val X K V t 0).a) (cols G 0)) (k0_pay52 (k0_pay53 (after (i 2).val X K V t 1).acc (vals V 1 ((i 2).val - t)) (after (i 2).val X K V t 1).a) (cols G 1)) := by
    rw [ht]; rfl
  rw [hout, ← ht]
  clear hout ht
  obtain ⟨σ, hσ⟩ : ∃ σ, σ = after (i 2).val X K V t := ⟨_, rfl⟩
  rw [← hσ]
  clear hσ
  have hc := chk2 i t htq
  have r9_0 : ∀ inb, arg9.view.readAt (Elt F) (Rect.unit (s := S2x512x512) ![0, 0, 0] S1x512x512.size inb).toLoadRect (arg9.view.rep (stkS fun n => (σ n).a)) = (σ 0).a :=
    fun inb => readAt_stk (Val := Elt F) (A := 512) (B := 512) arg9.view (fun n => (σ n).a) 0 inb
  have r9_1 : ∀ inb, arg9.view.readAt (Elt F) (Rect.unit (s := S2x512x512) ![1, 0, 0] S1x512x512.size inb).toLoadRect (arg9.view.rep (stkS fun n => (σ n).a)) = (σ 1).a :=
    fun inb => readAt_stk (Val := Elt F) (A := 512) (B := 512) arg9.view (fun n => (σ n).a) 1 inb
  have r11_0 : ∀ inb, arg11.view.readAt (Elt F) (Rect.unit (s := S2x256x512) ![0, 0, 0] S1x256x512.size inb).toLoadRect (arg11.view.rep (stkH fun n => (σ n).acc)) = (σ 0).acc :=
    fun inb => readAt_stk (Val := Elt F) (A := 256) (B := 512) arg11.view (fun n => (σ n).acc) 0 inb
  have r11_1 : ∀ inb, arg11.view.readAt (Elt F) (Rect.unit (s := S2x256x512) ![1, 0, 0] S1x256x512.size inb).toLoadRect (arg11.view.rep (stkH fun n => (σ n).acc)) = (σ 1).acc :=
    fun inb => readAt_stk (Val := Elt F) (A := 256) (B := 512) arg11.view (fun n => (σ n).acc) 1 inb
  have rv0 : ∀ inb, arg5.view.readAt (Elt F) (Rect.unit (s := S32x512x512) (k0_off9 i (BitVec.ofNat 32 t)) S1x256x512.size inb).toLoadRect (arg5.view.rep V) = vals V 0 ((i 2).val - t) :=
    fun inb => readAt_vals arg5.view V 0 _ (by omega) _ (off9_eq i t htq) inb
  have rv1 : ∀ inb, arg5.view.readAt (Elt F) (Rect.unit (s := S32x512x512) (k0_off10 i (BitVec.ofNat 32 t)) S1x256x512.size inb).toLoadRect (arg5.view.rep V) = vals V 1 ((i 2).val - t) :=
    fun inb => readAt_vals arg5.view V 1 _ (by omega) _ (off10_eq i t htq) inb
  sl_exec
  unfold body.sl.v254 body.sl.v255 body.sl.v251
  ihave H7 := (pt_halves c arg7 _ (k0_pay52 (k0_pay53 (σ 0).acc (vals V 0 ((i 2).val - t)) (σ 0).a) (cols G 0)) (k0_pay52 (k0_pay53 (σ 1).acc (vals V 1 ((i 2).val - t)) (σ 1).a) (cols G 1)) _ _ _ _ _ ?_ ?_) $$ H7
  · refine congrArg (fun x => k0_pay52 x (cols G 0)) ?_
    exact readCov_slab (Val := Elt F) (A := 256) (B := 512) arg11.view _ _ (fun n => k0_pay53 (σ n).acc (vals V n ((i 2).val - t)) (σ n).a) _ 0 _
  · refine congrArg (fun x => k0_pay52 x (cols G 1)) ?_
    exact readCov_slab (Val := Elt F) (A := 256) (B := 512) arg11.view _ _ (fun n => k0_pay53 (σ n).acc (vals V n ((i 2).val - t)) (σ n).a) _ 1 _
  sl_step
  iapply Hk
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iexists _; iexact H11

end Cert.SbIdeal.Spec

end
-- ==== Proof.Sb.Run.lean ====
/- The run of the stick-breaking attention program's launch, and its frame. -/
module

public import proofs.«01_k».proof.Proof.Sb.Body
public import proofs.«01_k».proof.Proof.Gen.SbIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.SbIdeal.Spec

open Cert.SbIdeal Cert.SbIdeal.Gen Cert.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region is entered: after the operations before it. -/
abbrev V (c : Dev nD) (b : Ref sig .tc) : Buf (Elt F) ((c : Thread nD τ).loc b) := StableHlo.after hostOps0 (fun b => m (c, b)) b

/-- The operations before the region allocate nothing. -/
theorem hostOps0_fresh : (hostOps0 : List (HloOp τ sig (Elt F))).Forall fun op => op.fresh = ∅ := by
  simp only [List.Forall]; repeat' constructor

set_option maxHeartbeats 800000 in
/-- The program up to its region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a grid point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Owning a buffer at the values `X` is holding it whole at them. -/
theorem owns_pt (c : Dev nD) {sp : Space} {S : Shape} {e : EltTy} (M : Memref sig .tc sp S e) (X : S.Idx → Elt F e) :
    (owns (c : Thread nD τ) M fullShare X : sProp 𝕄) ⊢ pt c M X := by
  unfold owns
  iintro ⟨%f, %hf, H⟩
  iapply (pointsTo_rep_of_read (c : Thread nD τ) M f fullShare X hf) $$ H

/-- Holding a buffer whole at the values `X` is owning it at them. -/
theorem pt_owns (c : Dev nD) {sp : Space} {S : Shape} {e : EltTy} (M : Memref sig .tc sp S e) (X : S.Idx → Elt F e) :
    (pt c M X : sProp 𝕄) ⊢ owns (c : Thread nD τ) M fullShare X := by
  unfold owns
  iintro H
  iexists (M.view.rep X); isplitr
  · ipureintro; exact M.view.read_rep X
  iexact H

/-- Holding a buffer at some contents is owning it at some values. -/
theorem some_owns (c : Dev nD) {sp : Space} {S : Shape} {e : EltTy} (M : Memref sig .tc sp S e) :
    (iprop(∃ f : M.view.ty.Contents (Elt F), M.view.loc (c : Thread nD τ) ↦[M.view.set]{fullShare} f) : sProp 𝕄) ⊢ iprop(∃ X, owns (c : Thread nD τ) M fullShare X) := by
  unfold owns
  iintro ⟨%f, H⟩
  iexists (M.view.read (Elt F) f); iexists f; isplitr
  · ipureintro; rfl
  iexact H

/-- The query block a grid point works on. -/
abbrev qiAt (t : Fin (cfg0 (F := F)).N) : ℕ := ((grid0.coords t) 2).val

/-- The output block of a grid point, from the blocks of its operands. -/
def outAt (c : Dev nD) (t : Fin (cfg0 (F := F)).N) : Vec F S1x512x512 .bf16 :=
  outBlk (qiAt t) (iblk m c 0 t) (iblk m c 1 t) (iblk m c 2 t) (iblk m c 3 t)

/-- What each window's buffer holds after a grid point: an operand's block, and the block computed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The arrays are what the region finds. -/
theorem A_eq (c : Dev nD) (w : Fin (cfg0 (F := F)).W) : (dats m 0 c).A w = V m c (Pipeline.arrRef spec0 w) := by
  dsimp only [dats]

/-- The scratch and the register, buffer by buffer. -/
theorem phi_eq (c : Dev nD) : (Pipeline.ΦA spec0 c : sProp 𝕄) = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ (∃ r, prngReg c r)) := by
  unfold Pipeline.ΦA; rw [scopedRest0_eq]; simp only [owns_whole]; try rfl

/-- Window 0 after a grid point. -/
theorem aft0 (c : Dev nD) (t : Fin (cfg0 (F := F)).N) : (dats m 0 c).after 0 t = iblk m c 0 t := rfl
/-- Window 1 after a grid point. -/
theorem aft1 (c : Dev nD) (t : Fin (cfg0 (F := F)).N) : (dats m 0 c).after 1 t = iblk m c 1 t := rfl
/-- Window 2 after a grid point. -/
theorem aft2 (c : Dev nD) (t : Fin (cfg0 (F := F)).N) : (dats m 0 c).after 2 t = iblk m c 2 t := rfl
/-- Window 3 after a grid point. -/
theorem aft3 (c : Dev nD) (t : Fin (cfg0 (F := F)).N) : (dats m 0 c).after 3 t = iblk m c 3 t := rfl
/-- Window 4 after a grid point. -/
theorem aft4 (c : Dev nD) (t : Fin (cfg0 (F := F)).N) : (dats m 0 c).after 4 t = outAt m c t := rfl
/-- Window 0 holds its block when the body begins. -/
theorem bef0 (c : Dev nD) (t : Fin (cfg0 (F := F)).N) (d) : (dats m 0 c).before 0 t d = iblk m c 0 t :=
  ((dats m 0 c).before_in_eq_fetched 0 rfl (fun _ => rfl) (fun _ _ _ => rfl) (fun t => by rw [aft0]; unfold Dat.blockOf iblk; rw [A_eq]; try rfl) t d).trans
    (by unfold Dat.fetched Dat.blockOf iblk; rw [A_eq]; try rfl)
/-- Window 1 holds its block when the body begins. -/
theorem bef1 (c : Dev nD) (t : Fin (cfg0 (F := F)).N) (d) : (dats m 0 c).before 1 t d = iblk m c 1 t :=
  ((dats m 0 c).before_in_eq_fetched 1 rfl (fun _ => rfl) (fun _ _ _ => rfl) (fun t => by rw [aft1]; unfold Dat.blockOf iblk; rw [A_eq]; try rfl) t d).trans
    (by unfold Dat.fetched Dat.blockOf iblk; rw [A_eq]; try rfl)
/-- Window 2 holds its block when the body begins. -/
theorem bef2 (c : Dev nD) (t : Fin (cfg0 (F := F)).N) (d) : (dats m 0 c).before 2 t d = iblk m c 2 t :=
  ((dats m 0 c).before_in_eq_fetched 2 rfl (fun _ => rfl) (fun _ _ _ => rfl) (fun t => by rw [aft2]; unfold Dat.blockOf iblk; rw [A_eq]; try rfl) t d).trans
    (by unfold Dat.fetched Dat.blockOf iblk; rw [A_eq]; try rfl)
/-- Window 3 holds its block when the body begins. -/
theorem bef3 (c : Dev nD) (t : Fin (cfg0 (F := F)).N) (d) : (dats m 0 c).before 3 t d = iblk m c 3 t :=
  ((dats m 0 c).before_in_eq_fetched 3 rfl (fun _ => rfl) (fun _ _ _ => rfl) (fun t => by rw [aft3]; unfold Dat.blockOf iblk; rw [A_eq]; try rfl) t d).trans
    (by unfold Dat.fetched Dat.blockOf iblk; rw [A_eq]; try rfl)
/-- Owning window 0's buffer is holding it whole. -/
theorem own_pt0 (c : Dev nD) (t : Fin (cfg0 (F := F)).N) (X : Vec F S1x512x512 .bf16) :
    (owns (c : Thread nD τ) (st0_0 t) fullShare X : sProp 𝕄) ⊢ pt (S := S1x512x512) (e := .bf16) c (st0_0 t) X :=
  owns_pt c _ _
/-- Holding window 0's buffer whole is owning it. -/
theorem pt_own0 (c : Dev nD) (t : Fin (cfg0 (F := F)).N) (X : Vec F S1x512x512 .bf16) :
    (pt (S := S1x512x512) (e := .bf16) c (st0_0 t) X : sProp 𝕄) ⊢ owns (c : Thread nD τ) (st0_0 t) fullShare X :=
  pt_owns c _ _
/-- Owning window 1's buffer is holding it whole. -/
theorem own_pt1 (c : Dev nD) (t : Fin (cfg0 (F := F)).N) (X : Vec F S1x16384x512 .bf16) :
    (owns (c : Thread nD τ) (st0_1 t) fullShare X : sProp 𝕄) ⊢ pt (S := S1x16384x512) (e := .bf16) c (st0_1 t) X :=
  owns_pt c _ _
/-- Holding window 1's buffer whole is owning it. -/
theorem pt_own1 (c : Dev nD) (t : Fin (cfg0 (F := F)).N) (X : Vec F S1x16384x512 .bf16) :
    (pt (S := S1x16384x512) (e := .bf16) c (st0_1 t) X : sProp 𝕄) ⊢ owns (c : Thread nD τ) (st0_1 t) fullShare X :=
  pt_owns c _ _
/-- Owning window 2's buffer is holding it whole. -/
theorem own_pt2 (c : Dev nD) (t : Fin (cfg0 (F := F)).N) (X : Vec F S32x512x512 .bf16) :
    (owns (c : Thread nD τ) (st0_2 t) fullShare X : sProp 𝕄) ⊢ pt (S := S32x512x512) (e := .bf16) c (st0_2 t) X :=
  owns_pt c _ _
/-- Holding window 2's buffer whole is owning it. -/
theorem pt_own2 (c : Dev nD) (t : Fin (cfg0 (F := F)).N) (X : Vec F S32x512x512 .bf16) :
    (pt (S := S32x512x512) (e := .bf16) c (st0_2 t) X : sProp 𝕄) ⊢ owns (c : Thread nD τ) (st0_2 t) fullShare X :=
  pt_owns c _ _
/-- Owning window 3's buffer is holding it whole. -/
theorem own_pt3 (c : Dev nD) (t : Fin (cfg0 (F := F)).N) (X : Vec F S1x512x512 .bf16) :
    (owns (c : Thread nD τ) (st0_3 t) fullShare X : sProp 𝕄) ⊢ pt (S := S1x512x512) (e := .bf16) c (st0_3 t) X :=
  owns_pt c _ _
/-- Holding window 3's buffer whole is owning it. -/
theorem pt_own3 (c : Dev nD) (t : Fin (cfg0 (F := F)).N) (X : Vec F S1x512x512 .bf16) :
    (pt (S := S1x512x512) (e := .bf16) c (st0_3 t) X : sProp 𝕄) ⊢ owns (c : Thread nD τ) (st0_3 t) fullShare X :=
  pt_owns c _ _
/-- Owning window 4's buffer is holding it whole. -/
theorem own_pt4 (c : Dev nD) (t : Fin (cfg0 (F := F)).N) (X : Vec F S1x512x512 .bf16) :
    (owns (c : Thread nD τ) (st0_4 t) fullShare X : sProp 𝕄) ⊢ pt (S := S1x512x512) (e := .bf16) c (st0_4 t) X :=
  owns_pt c _ _
/-- Holding window 4's buffer whole is owning it. -/
theorem pt_own4 (c : Dev nD) (t : Fin (cfg0 (F := F)).N) (X : Vec F S1x512x512 .bf16) :
    (pt (S := S1x512x512) (e := .bf16) c (st0_4 t) X : sProp 𝕄) ⊢ owns (c : Thread nD τ) (st0_4 t) fullShare X :=
  pt_owns c _ _

/-- What a grid point starts from. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it ends with. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at every grid point. -/
theorem sound (c : Dev nD) (t : Fin (cfg0 (F := F)).N) :
    bodyPre m c t ⊢ wp frame (wpE (defs₀ (F := F)) Variants.nat (c : Thread nD τ) none) Set.univ (bodyAt0 t) (fun _ => bodyPost m c t) := by
  unfold bodyPre bodyPost bodyAt0
  simp only [bef0, bef1, bef2, bef3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    aft0, aft1, aft2, aft3, aft4, phi_eq]
  iintro ⟨⟨⟨⟨%s0, S0⟩, ⟨%s1, S1⟩, ⟨%s2, S2⟩, ⟨%s3, S3⟩⟩, Hp⟩, Ho, ⟨%d0, W0⟩, ⟨%d1, W1⟩, ⟨%d2, W2⟩, ⟨%d3, W3⟩, ⟨%d4, W4⟩⟩
  unfold outAt
  ihave S0 := (owns_pt c _ _) $$ S0
  ihave S1 := (owns_pt c _ _) $$ S1
  ihave S2 := (owns_pt c _ _) $$ S2
  ihave S3 := (owns_pt c _ _) $$ S3
  ihave W0 := (own_pt0 c t (iblk m c 0 t)) $$ W0
  ihave W1 := (own_pt1 c t (iblk m c 1 t)) $$ W1
  ihave W2 := (own_pt2 c t (iblk m c 2 t)) $$ W2
  ihave W3 := (own_pt3 c t (iblk m c 3 t)) $$ W3
  ihave W4 := (own_pt4 c t ((dats m 0 c).before 4 t d4)) $$ W4
  iapply (body c (grid0.coords t) (st0_0 t) (hstage0_0 _) (st0_1 t) (hstage0_1 _) (st0_2 t) (hstage0_2 _) (st0_3 t) (hstage0_3 _) (st0_4 t) (hstage0_4 _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) _ _ _ _ _ (fun _ => _))
  isplitl [W0]; · iexact W0
  isplitl [W1]; · iexact W1
  isplitl [W2]; · iexact W2
  isplitl [W3]; · iexact W3
  isplitl [W4]; · iexact W4
  isplitl [S0]; · iexact S0
  isplitl [S1]; · iexact S1
  isplitl [S2]; · iexact S2
  isplitl [S3]; · iexact S3
  iintro ⟨W0, W1, W2, W3, W4, S0, S1, S2, S3⟩
  ihave S0 := (some_owns c _) $$ S0
  ihave S1 := (some_owns c _) $$ S1
  ihave S2 := (some_owns c _) $$ S2
  ihave S3 := (some_owns c _) $$ S3
  isplitl [S0 S1 S2 S3 Hp]
  · isplitl [S0 S1 S2 S3]
    · isplitl [S0]; · iexact S0
      isplitl [S1]; · iexact S1
      isplitl [S2]; · iexact S2
      iexact S3
    · iexact Hp
  isplitl [Ho]; · iexact Ho
  isplitl [W0]; · iapply (pt_own0 c t (iblk m c 0 t)); iexact W0
  isplitl [W1]; · iapply (pt_own1 c t (iblk m c 1 t)); iexact W1
  isplitl [W2]; · iapply (pt_own2 c t (iblk m c 2 t)); iexact W2
  isplitl [W3]; · iapply (pt_own3 c t (iblk m c 3 t)); iexact W3
  iapply (pt_own4 c t (outAt m c t)); iexact W4

/-- The body the launch calls at a point is the printed body at the point's buffers. -/
theorem defs_at (t : Fin (cfg0 (F := F)).N) : defs₀ (F := F) .tc (cfg0 (F := F)).body ((cfg0 (F := F)).bodyArgs t ((cfg0 (F := F)).slots t)) = bodyAt0 t := by
  unfold defs₀; rw [Defs.onTc_tc]

/-- Every grid point does what the launch asks of it. -/
theorem obligation (c : Dev nD) : BodyObligation (dats (F := F) m 0 c) (defs₀ (F := F)) Variants.nat () Set.univ := fun t => by
  rw [bigSep_W0, bigSep_W0, defs_at]
  exact triple_restated (sound m c t) rfl .rfl fun _ => .rfl

set_option backward.isDefEq.respectTransparency.types false in
/-- Every run ends, with every array at what the grid points leave and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (obligation m c).loose) (hshare := fun c => (dats m 0 c).share_full fun _ => rfl)
    (howed := fun _ _ => rfl) (V := V m) (hmain := hmain m Variants.nat) (hA := A_eq m) (hΦ := fun _ _ => rfl)

/-- Every run ends, with every array at what the grid points leave. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => ⟨((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c),
      ((h c).2 main_arg3 (Pipeline.mem_restRefs_of main_arg3 (by decide) (show ∀ w : Fin 5, (spec0 w).arr.view.ref ≠ main_arg3 by decide))).trans (V_main_arg3 m c)⟩) (run m ρ)) ((θ_run defs _ _).mono (fun _ h => h.2) (run_quiet m ρ))

end Cert.SbIdeal.Spec

end
-- ==== Proof.Sb.Entry.lean ====
/- What the stick-breaking kernel's grid points find: the operands' blocks at an index, from the arguments. -/
module

public import proofs.«01_k».proof.Proof.Sb.Run
public import Idealize.ShloMosaic.Lib.Pointwise
public import Idealize.ShloMosaic.Lib.Claim
public import Idealize.ShloMosaic.Lib.Pipeline.ValueKit

@[expose] public section

set_option maxRecDepth 16384

noncomputable section

namespace Cert.SbIdeal.Spec

open Cert.SbIdeal Cert.SbIdeal.Gen
open Idealize.ShloMosaic Idealize.ShloMosaic.TcCoe Idealize.SL.Sem Idealize.ShloMosaic.Pipeline

variable (m : (ℓ : Loc nD τ sig) → Buf (Elt Ideal) ℓ) (c : Dev nD)

/-- The queries, keys, values and gate, as launched. -/
abbrev argQ : FVec Ideal S2x16384x1024 .f32 := m (c, Proc.tc.devRef main_arg0)
abbrev argK : FVec Ideal S2x16384x1024 .f32 := m (c, Proc.tc.devRef main_arg1)
abbrev argV : FVec Ideal S2x16384x1024 .f32 := m (c, Proc.tc.devRef main_arg2)
abbrev argG : FVec Ideal S2x16384x1024 .f32 := m (c, Proc.tc.devRef main_arg3)

/-- The scale the queries are given before the launch. -/
def scale : EReal := Ideal.div 1
  (Ideal.sqrt (Ideal.ofBits .f32 0x43800000#32) * Ideal.log (Ideal.ofBits .f32 0x40000000#32))

/-- A gate's value: `x` times the logistic of `x`. -/
def silu (x : EReal) : EReal :=
  x * Ideal.div 1 (1 + Ideal.exp (-x))

/-- The scaled queries at an index. -/
theorem v6_at (b : Fin 2) (r : Fin 16384) (x : Fin 1024) :
    V m c main_v6 (ix3 b r x) = argQ m c (ix3 b r x) * scale := by
  entry_read
  pointwise
  rfl

/-- The keys at an index. -/
theorem v7_at (b : Fin 2) (r : Fin 16384) (x : Fin 1024) :
    V m c main_v7 (ix3 b r x) = argK m c (ix3 b r x) := by
  entry_read
  pointwise

/-- The blocked and transposed values at an index. -/
theorem v10_at (t : Fin 64) (x : Fin 1024) (a : Fin 512) :
    V m c main_v10 (ix3 t x a) = argV m c (ix3 (⟨t.val / 32, by omega⟩ : Fin 2) (⟨t.val % 32 * 512 + a.val, by omega⟩ : Fin 16384) x) := by
  entry_read
  pointwise

/-- The gate's values at an index. -/
theorem v18_at (b : Fin 2) (r : Fin 16384) (x : Fin 1024) :
    V m c main_v18 (ix3 b r x) = silu (argG m c (ix3 b r x)) := by
  entry_read
  pointwise
  rfl

theorem index_0 : ∀ t, win0_0.index t = ![t.val / 64, t.val % 32, t.val / 32 % 2] := by decide +kernel
theorem index_1 : ∀ t, win0_1.index t = ![t.val / 64, 0, t.val / 32 % 2] := by decide +kernel
theorem index_2 : ∀ t, win0_2.index t = ![t.val / 64, t.val / 32 % 2, 0] := by decide +kernel
theorem index_3 : ∀ t, win0_3.index t = ![t.val / 64, t.val % 32, t.val / 32 % 2] := by decide +kernel
theorem index_4 : ∀ t, win0_4.index t = ![t.val / 64, t.val % 32, t.val / 32 % 2] := by decide +kernel
theorem qiAt_eq : ∀ t : Fin (cfg0 (F := Ideal)).N, qiAt (F := Ideal) t = t.val % 32 := by decide +kernel
theorem point_lt : ∀ t : Fin (cfg0 (F := Ideal)).N, t.val < 128 := by decide +kernel

/-- A grid point's batch. -/
def bi (t : Fin (cfg0 (F := Ideal)).N) : Fin 2 := ⟨t.val / 64, by have := point_lt t; omega⟩
/-- A position, from its number. -/
def row (p : ℕ) : Fin 16384 := ⟨p % 16384, Nat.mod_lt _ (by decide)⟩
/-- A lane of a head of a grid point's two. -/
def vln (t : Fin (cfg0 (F := Ideal)).N) (h : Fin 2) (e : Fin 256) : Fin 1024 := ⟨512 * (t.val / 32 % 2) + 256 * h.val + e.val, by omega⟩

/-- The queries of a head at a grid point. -/
theorem q_at (t : Fin (cfg0 (F := Ideal)).N) (n : Fin 2) (b : Fin 512) (d : Fin 256) :
    qh (iblk m c 0 t) n (ix2 b d) = argQ m c (ix3 (bi t) (row (512 * (t.val % 32) + b.val)) (vln t n d)) * scale := by
  rw [← v6_at]
  have := point_lt t
  pointwise [qh, cols, k0_pay2]
  blk_ext [iblk, index_0 t, bi, row, vln]

/-- The keys of block `j` of a head at a grid point. -/
theorem k_at (t : Fin (cfg0 (F := Ideal)).N) (n : Fin 2) (j : ℕ) (a : Fin 512) (d : Fin 256) :
    keys (iblk m c 1 t) n j (ix3 0 a d) = argK m c (ix3 (bi t) (row (512 * j + a.val)) (vln t n d)) := by
  rw [← v7_at]
  have := point_lt t
  pointwise [keys]
  blk_ext [iblk, index_1 t, bi, row, vln]

/-- The values of block `j` of a head at a grid point. -/
theorem vt_at (t : Fin (cfg0 (F := Ideal)).N) (n : Fin 2) (j : ℕ) (a : Fin 512) (e : Fin 256) :
    vals (iblk m c 2 t) n j (ix3 0 e a) = argV m c (ix3 (bi t) (row (512 * j + a.val)) (vln t n e)) := by
  have := point_lt t
  have e1 : (ix3 (bi t) (row (512 * j + a.val)) (vln t n e) : S2x16384x1024.Idx)
      = ix3 (⟨(32 * (t.val / 64) + j % 32) / 32, by omega⟩ : Fin 2) (⟨(32 * (t.val / 64) + j % 32) % 32 * 512 + a.val, by omega⟩ : Fin 16384) (vln t n e) := by
    congr 1 <;> apply Fin.ext <;> simp only [bi, row] <;> omega
  rw [e1, ← v10_at m c (⟨32 * (t.val / 64) + j % 32, by omega⟩ : Fin 64)]
  pointwise [vals]
  blk_ext [iblk, index_2 t, vln]

/-- The gate's columns of a head at a grid point. -/
theorem g_at (t : Fin (cfg0 (F := Ideal)).N) (n : Fin 2) (b : Fin 512) (e : Fin 256) :
    cols (iblk m c 3 t) n (ix3 0 b e) = silu (argG m c (ix3 (bi t) (row (512 * (t.val % 32) + b.val)) (vln t n e))) := by
  rw [← v18_at]
  have := point_lt t
  pointwise [cols]
  blk_ext [iblk, index_3 t, bi, row, vln]

end Cert.SbIdeal.Spec

end
-- ==== Proof.Sb.Pays.lean ====
/- The stick-breaking kernel's vectors on extended reals, each read at an index. -/
module

public import proofs.«01_k».proof.Proof.Sb.Spec
public import Idealize.ShloMosaic.Lib.Pointwise
public import Idealize.ShloMosaic.Lib.WordCmp

@[expose] public section

set_option maxRecDepth 16384

noncomputable section

namespace Cert.SbIdeal.Spec

open Cert.SbIdeal Cert.SbIdeal.Gen Cert.Pieces
open Idealize.ShloMosaic Idealize.ShloMosaic.TcCoe

/-- The named constant is the reciprocal of the natural logarithm of two. -/
theorem log2e_eq : (Named.named (F := Ideal) κ "log2e" 0x3FB8AA3B#32 : Ideal .f32) = (((Real.log 2)⁻¹ : ℝ) : EReal) :=
  IdealRules.named_const.ideal_named_scalar _ _ _ _ rfl

/-- What a logit takes from the weights of the keys before it. -/
def soft (x : EReal) : EReal :=
  max x 0 + Ideal.log (1 + Ideal.exp2 (0 - FloatOps.absf (F := Ideal) (φ := .f32) x)) * (((Real.log 2)⁻¹ : ℝ) : EReal)

/-- A choice on a decided bit. -/
theorem sel_if {α : Type} (p : Prop) [Decidable p] (x y : α) : Scalar.select (if p then 1#1 else 0#1) x y = if p then x else y := by
  split <;> rfl

/-- The strictly upper triangle. -/
def up (j s : Fin 256) : EReal := if j.val < s.val then 1 else 0

theorem up_at (j s : Fin 256) : k0_pay4 (F := Ideal) (ix2 j s) = up j s := by
  pointwise [k0_pay4]
  have h : IntOp.cmpi CmpIPredicate.sgt (BitVec.ofNat 32 s.val) (BitVec.ofNat 32 j.val) = if j.val < s.val then 1#1 else 0#1 :=
    (WordCmp.cmpi_slt_ofNat (by omega) (by omega)).trans (by split <;> rename_i h <;> simp [h])
  rw [h]
  unfold up
  split
  · show ((((1#32 : BitVec 32).toInt : ℝ)) : EReal) = 1
    norm_num
  · show ((((0#32 : BitVec 32).toInt : ℝ)) : EReal) = 0
    norm_num

theorem logits_at (q : FVec Ideal S512x256 .bf16) (k : Vec Ideal S1x512x256 .bf16) (s b : Fin 512) :
    logits q k (ix3 0 s b) = ∑ d : Fin 256, k (ix3 0 s d) * q (ix2 b d) := by
  pointwise [logits, k0_pay46]

theorem acc_at (acc : Vec Ideal S1x256x512 .f32) (v : Vec Ideal S1x256x512 .bf16) (a : Vec Ideal S1x512x512 .bf16) (e : Fin 256) (b : Fin 512) :
    k0_pay53 acc v a (ix3 0 e b) = acc (ix3 0 e b) + ∑ s : Fin 512, v (ix3 0 e s) * a (ix3 0 s b) := by
  pointwise [k0_pay53]

theorem out_at (acc : Vec Ideal S1x256x512 .f32) (g : Vec Ideal S1x512x256 .bf16) (e : Fin 256) (b : Fin 512) :
    k0_pay52 acc g (ix3 0 b e) = acc (ix3 0 e b) * g (ix3 0 b e) := by
  pointwise [k0_pay52]

theorem sp57_at (z : Vec Ideal S1x256x512 .f32) (j : Fin 256) (b : Fin 512) :
    k0_pay57 z (ix2 j b) = soft (z (ix3 0 j b)) := by
  pointwise [k0_pay57, k0_pay56]
  simp only [log2e_eq]
  rfl

theorem sp12_at (z : Vec Ideal S1x256x512 .f32) (j : Fin 256) (b : Fin 512) :
    k0_pay12 z (ix2 j b) = soft (z (ix3 0 j b)) := by
  pointwise [k0_pay12, k0_pay11]
  simp only [log2e_eq]
  rfl

theorem sp20_at (z : Vec Ideal S1x256x512 .f32) (j : Fin 256) (b : Fin 512) :
    k0_pay20 z (ix2 j b) = soft (z (ix3 0 j b)) := by
  pointwise [k0_pay20, k0_pay19]
  simp only [log2e_eq]
  rfl

theorem sp65_at (z : Vec Ideal S1x256x512 .f32) (j : Fin 256) (b : Fin 512) :
    k0_pay65 (k0_pay63 z) (k0_pay64 z) (ix2 j b) = soft (z (ix3 0 j b)) := by
  pointwise [k0_pay65, k0_pay63, k0_pay64, k0_pay62]
  simp only [log2e_eq]
  rfl

/-- The later half of a block: the sum of what the keys after `j` take. -/
theorem w59_at (z : Vec Ideal S1x256x512 .f32) (j : Fin 256) (b : Fin 512) :
    k0_pay59 (k0_pay4 (F := Ideal)) z (ix2 j b) = ∑ s : Fin 256, up j s * soft (z (ix3 0 s b)) := by
  pointwise [k0_pay59, k0_pay58]
  simp only [up_at, sp57_at]

theorem w67_at (z : Vec Ideal S1x256x512 .f32) (j : Fin 256) (b : Fin 512) :
    k0_pay67 (k0_pay4 (F := Ideal)) (k0_pay63 z) (k0_pay64 z) (ix2 j b) = ∑ s : Fin 256, up j s * soft (z (ix3 0 s b)) := by
  pointwise [k0_pay67, k0_pay66]
  simp only [up_at, sp65_at]

theorem w1_at (z : Vec Ideal S1x256x512 .f32) (c : Vec Ideal S1x1x512 .f32) (j : Fin 256) (b : Fin 512) :
    k0_pay60 (k0_pay4 (F := Ideal)) c z (ix3 0 j b)
      = Ideal.exp2 (z (ix3 0 j b) - soft (z (ix3 0 j b)) - (∑ s : Fin 256, up j s * soft (z (ix3 0 s b))) - c (ix3 0 0 b)) := by
  pointwise [k0_pay60, k0_pay56, k0_pay55]
  simp only [w59_at, sp57_at]
  rfl

theorem c1_at (z : Vec Ideal S1x256x512 .f32) (c : Vec Ideal S1x1x512 .f32) (b : Fin 512) :
    k0_pay61 (k0_pay4 (F := Ideal)) c z (ix2 0 b)
      = c (ix3 0 0 b) + (∑ s : Fin 256, up 0 s * soft (z (ix3 0 s b))) + soft (z (ix3 0 0 b)) := by
  pointwise [k0_pay61, k0_pay58, k0_pay55]
  rw [← w59_at, ← sp57_at]

theorem w0_at (z : Vec Ideal S1x256x512 .f32) (c : FVec Ideal S1x512 .f32) (j : Fin 256) (b : Fin 512) :
    k0_pay68 (k0_pay4 (F := Ideal)) c (k0_pay62 z) (k0_pay63 z) (k0_pay64 z) (ix3 0 j b)
      = Ideal.exp2 (z (ix3 0 j b) - soft (z (ix3 0 j b)) - (∑ s : Fin 256, up j s * soft (z (ix3 0 s b))) - c (ix2 0 b)) := by
  pointwise [k0_pay68, k0_pay62]
  simp only [w67_at, sp65_at]
  rfl

theorem c0_at (z : Vec Ideal S1x256x512 .f32) (c : FVec Ideal S1x512 .f32) (b : Fin 512) :
    k0_pay69 (k0_pay4 (F := Ideal)) c (k0_pay63 z) (k0_pay64 z) (ix3 0 0 b)
      = c (ix2 0 b) + (∑ s : Fin 256, up 0 s * soft (z (ix3 0 s b))) + soft (z (ix3 0 0 b)) := by
  pointwise [k0_pay69, k0_pay66]
  rw [← w67_at, ← sp65_at]

/-- The diagonal block's later half: a key counts when it is before the query. -/
theorem m13_at (j : Fin 256) (b : Fin 512) : k0_pay13 (ix2 j b) = if 256 + j.val < b.val then 1#1 else 0#1 := by
  pointwise [k0_pay13]
  have h : IntOp.addi (BitVec.ofNat 32 j.val) 256#32 = BitVec.ofNat 32 (256 + j.val) :=
    (BitVec.ofNat_add (n := 32) j.val 256).symm.trans (congrArg _ (Nat.add_comm _ _))
  rw [h, WordCmp.cmpi_slt_ofNat (by omega) (by omega)]
  split <;> rename_i h <;> simp [h]

theorem m21_at (j : Fin 256) (b : Fin 512) : k0_pay21 (ix2 j b) = if j.val < b.val then 1#1 else 0#1 := by
  pointwise [k0_pay21]
  have h : IntOp.addi (BitVec.ofNat 32 j.val) 0#32 = BitVec.ofNat 32 j.val := (BitVec.ofNat_add (n := 32) j.val 0).symm
  rw [h, WordCmp.cmpi_slt_ofNat (by omega) (by omega)]
  split <;> rename_i h <;> simp [h]

theorem sp14_at (z : Vec Ideal S1x256x512 .f32) (j : Fin 256) (b : Fin 512) :
    k0_pay14 z (ix2 j b) = if 256 + j.val < b.val then soft (z (ix3 0 j b)) else 0 := by
  pointwise [k0_pay14]
  rw [m13_at, sp12_at, sel_if]

theorem sp22_at (z : Vec Ideal S1x256x512 .f32) (j : Fin 256) (b : Fin 512) :
    k0_pay22 z (ix2 j b) = if j.val < b.val then soft (z (ix3 0 j b)) else 0 := by
  pointwise [k0_pay22]
  rw [m21_at, sp20_at, sel_if]

theorem w15_at (z : Vec Ideal S1x256x512 .f32) (j : Fin 256) (b : Fin 512) :
    k0_pay15 (k0_pay4 (F := Ideal)) z (ix2 j b) = ∑ s : Fin 256, up j s * if 256 + s.val < b.val then soft (z (ix3 0 s b)) else 0 := by
  pointwise [k0_pay15]
  simp only [up_at, sp14_at]

theorem w23_at (z : Vec Ideal S1x256x512 .f32) (j : Fin 256) (b : Fin 512) :
    k0_pay23 (k0_pay4 (F := Ideal)) z (ix2 j b) = ∑ s : Fin 256, up j s * if s.val < b.val then soft (z (ix3 0 s b)) else 0 := by
  pointwise [k0_pay23]
  simp only [up_at, sp22_at]

theorem d1_at (z : Vec Ideal S1x256x512 .f32) (c : Vec Ideal S1x1x512 .f32) (j : Fin 256) (b : Fin 512) :
    k0_pay17 (k0_pay16 (k0_pay4 (F := Ideal)) c z) (ix3 0 j b)
      = if 256 + j.val < b.val then Ideal.exp2 (z (ix3 0 j b) - soft (z (ix3 0 j b)) - (∑ s : Fin 256, up j s * if 256 + s.val < b.val then soft (z (ix3 0 s b)) else 0) - c (ix3 0 0 b))
        else 0 := by
  pointwise [k0_pay17, k0_pay16, k0_pay11, k0_pay10]
  rw [m13_at, w15_at, sp12_at]
  rw [sel_if]
  rfl

theorem c18_at (z : Vec Ideal S1x256x512 .f32) (c : Vec Ideal S1x1x512 .f32) (b : Fin 512) :
    k0_pay18 (k0_pay10 c) (k0_pay14 z) (k0_pay15 (k0_pay4 (F := Ideal)) z) (ix2 0 b)
      = c (ix3 0 0 b) + (∑ s : Fin 256, up 0 s * if 256 + s.val < b.val then soft (z (ix3 0 s b)) else 0)
        + if 256 + (0 : Fin 256).val < b.val then soft (z (ix3 0 0 b)) else 0 := by
  pointwise [k0_pay18, k0_pay10]
  rw [w15_at, sp14_at]
  rfl

theorem d0_at (z z' : Vec Ideal S1x256x512 .f32) (c : Vec Ideal S1x1x512 .f32) (j : Fin 256) (b : Fin 512) :
    k0_pay24 (k0_pay4 (F := Ideal)) (k0_pay10 c) (k0_pay14 z') (k0_pay15 (k0_pay4 (F := Ideal)) z') z (ix3 0 j b)
      = if j.val < b.val then Ideal.exp2 (z (ix3 0 j b) - soft (z (ix3 0 j b)) - (∑ s : Fin 256, up j s * if s.val < b.val then soft (z (ix3 0 s b)) else 0)
          - k0_pay18 (k0_pay10 c) (k0_pay14 z') (k0_pay15 (k0_pay4 (F := Ideal)) z') (ix2 0 b))
        else 0 := by
  pointwise [k0_pay24, k0_pay19]
  rw [m21_at, w23_at, sp20_at]
  rw [sel_if]
  rfl

theorem dc_at (z z' : Vec Ideal S1x256x512 .f32) (c : Vec Ideal S1x1x512 .f32) (b : Fin 512) :
    k0_pay27 (k0_pay25 (k0_pay4 (F := Ideal)) (k0_pay10 c) (k0_pay14 z') (k0_pay15 (k0_pay4 (F := Ideal)) z') z) (k0_pay26 z) (ix3 0 0 b)
      = k0_pay18 (k0_pay10 c) (k0_pay14 z') (k0_pay15 (k0_pay4 (F := Ideal)) z') (ix2 0 b)
        + (∑ s : Fin 256, up 0 s * if s.val < b.val then soft (z (ix3 0 s b)) else 0)
        + if (0 : Fin 256).val < b.val then soft (z (ix3 0 0 b)) else 0 := by
  pointwise [k0_pay27, k0_pay25, k0_pay26]
  rw [w23_at, sp22_at]
  rfl

/-- The other constant is named plus infinity. -/
theorem zero_mass_eq : (Named.named (F := Ideal) κ "zero_mass" 0x43200000#32 : Ideal .f32) = ⊤ :=
  IdealRules.named_const.ideal_named_scalar _ _ _ _ rfl

instance : Subsingleton S1.Idx := ⟨fun a b => funext fun k => by
  fin_cases k
  exact Subsingleton.elim (α := Fin 1) _ _⟩

/-- The least carried sum is below plus infinity when one carried sum is. -/
theorem min_lt_top (v : Vec Ideal S2x1x512 .f32) (n : Fin 2) (b : Fin 512) (h : v (ix3 n 0 b) < (⊤ : EReal)) : k0_pay88 v < (⊤ : EReal) := by
  have hx : shapeCast S1x2x1x512 v shapeCasts_S2x1x512_S1x2x1x512 (ix4 0 n 0 b) = v (ix3 n 0 b) := by
    pointwise
  have hm : ∀ j : S1.Idx, multiReduction (F := Ideal) .minimumf [1, 2, 3] S1 (shapeCast S1x2x1x512 v shapeCasts_S2x1x512_S1x2x1x512)
      0x7F800000#32 reduces_S1x2x1x512_S1 (.inl rfl) rfl j < (⊤ : EReal) := fun j => by
    refine lt_of_eq_of_lt (multiReduction_minimumf_eq_fold _ _ _ _ _ _) ?_
    exact (Finset.fold_min_lt (c := (⊤ : EReal))).2 (Or.inr ⟨ix4 0 n 0 b, Finset.mem_filter.2 ⟨Finset.mem_univ _, Subsingleton.elim _ _⟩, by
      rw [hx]; exact h⟩)
  exact hm _

/-- The loop's flag stays set: the constant is plus infinity, the carried sums are reals. -/
theorem go_eq (σ : Fin 2 → Head Ideal) (C : ℝ) (h : (σ 0).c (ix3 0 0 0) = (C : EReal)) : go σ = 1#1 := by
  have hl : k0_pay88 (stk (A := 1) (B := 512) fun n => (σ n).c) < (⊤ : EReal) :=
    min_lt_top _ 0 0 (by
      have e : stk (A := 1) (B := 512) (fun n => (σ n).c) (ix3 0 0 0) = (σ 0).c (ix3 0 0 0) :=
        congrArg (σ 0).c (funext fun a => by fin_cases a <;> rfl)
      rw [e, h]; exact EReal.coe_lt_top C)
  unfold go
  rw [zero_mass_eq]
  show Ideal.cmp .olt (k0_pay88 (stk (A := 1) (B := 512) fun n => (σ n).c)) ⊤ = 1#1
  simp [Ideal.cmp, hl]

end Cert.SbIdeal.Spec

end
-- ==== Proof.Sb.Stick.lean ====
/- Stick-breaking weights on real numbers: what a logit takes, the sums over later keys, and the two ways of writing a
   key's weight. -/
module

public import Idealize.ShloMosaic.Lib.Pointwise
public import proofs.«01_k».proof.Proof.Mean

@[expose] public section

noncomputable section

namespace Cert.Stick

open Idealize.ShloMosaic

/-- The logarithm of one plus the exponential. -/
def sp (x : ℝ) : ℝ := Real.log (1 + Real.exp x)

theorem two_rpow (x : ℝ) : Real.rpow 2 x = Real.exp (x * Real.log 2) := by
  show (2 : ℝ) ^ x = _
  rw [Real.rpow_def_of_pos (by norm_num), mul_comm]

theorem log2_pos : 0 < Real.log 2 := Real.log_pos (by norm_num)

/-- The stable form in powers of two is the same logarithm, over that of two. -/
theorem soft_eq (x : ℝ) : max (x * (Real.log 2)⁻¹) 0 + Real.log (1 + Real.rpow 2 (0 - |x * (Real.log 2)⁻¹|)) * (Real.log 2)⁻¹
    = sp x * (Real.log 2)⁻¹ := by
  have h2 := log2_pos
  have hi : 0 < (Real.log 2)⁻¹ := inv_pos.2 h2
  have e : (0 - |x * (Real.log 2)⁻¹|) * Real.log 2 = - |x| := by
    rw [abs_mul, abs_of_pos hi]
    field_simp
    ring
  rw [two_rpow, e]
  unfold sp
  rcases le_total 0 x with h | h
  · rw [max_eq_left (mul_nonneg h hi.le), abs_of_nonneg h]
    have : Real.log (1 + Real.exp x) = x + Real.log (1 + Real.exp (-x)) := by
      rw [show 1 + Real.exp x = Real.exp x * (1 + Real.exp (-x)) by
        rw [mul_add, ← Real.exp_add, add_neg_cancel, Real.exp_zero]; ring]
      rw [Real.log_mul (Real.exp_pos _).ne' (by positivity), Real.log_exp]
    rw [this]
    ring
  · rw [max_eq_right (mul_nonpos_of_nonpos_of_nonneg h hi.le), abs_of_nonpos h, neg_neg, zero_add]

/-- What the keys from `s` on, before position `t`, take together. -/
def taken (x : ℕ → ℝ) (t s : ℕ) : ℝ := ∑ j ∈ Finset.Ico s t, sp (x j)

/-- A key's weight for the query at position `t`. -/
def wt (x : ℕ → ℝ) (t s : ℕ) : ℝ := if s < t then Real.exp (x s - taken x t s) else 0

/-- What one key takes, nothing unless it is before `t`. -/
def tk (x : ℕ → ℝ) (t s : ℕ) : ℝ := if s < t then sp (x s) else 0

theorem taken_succ (x : ℕ → ℝ) (t s : ℕ) : taken x t s = tk x t s + taken x t (s + 1) := by
  unfold taken tk
  split
  · rename_i h
    rw [Finset.sum_eq_sum_Ico_succ_bot h]
  · rename_i h
    rw [Finset.Ico_eq_empty (by omega), Finset.Ico_eq_empty (by omega)]
    simp

/-- Over a run of keys. -/
theorem taken_add (x : ℕ → ℝ) (t s n : ℕ) : taken x t s = ∑ i ∈ Finset.range n, tk x t (s + i) + taken x t (s + n) := by
  induction n with
  | zero => simp
  | succ n ih => rw [ih, Finset.sum_range_succ, taken_succ x t (s + n)]; ring_nf

/-- Over the 256 keys of half a block. -/
theorem taken_half (x : ℕ → ℝ) (t p : ℕ) : taken x t p = (∑ i : Fin 256, tk x t (p + i.val)) + taken x t (p + 256) := by
  rw [taken_add x t p 256, Fin.sum_univ_eq_sum_range (fun i => tk x t (p + i)) 256]

/-- Over the keys of half a block after key `j`. -/
theorem taken_after (x : ℕ → ℝ) (t p : ℕ) (j : Fin 256) :
    taken x t (p + j.val + 1) = (∑ i : Fin 256, if j.val < i.val then tk x t (p + i.val) else 0) + taken x t (p + 256) := by
  have hj := j.isLt
  rw [taken_add x t (p + j.val + 1) (255 - j.val), Fin.sum_univ_eq_sum_range (fun i => if j.val < i then tk x t (p + i) else 0) 256]
  have e : p + j.val + 1 + (255 - j.val) = p + 256 := by omega
  rw [e]
  congr 1
  rw [← Finset.sum_filter]
  refine Finset.sum_bij (fun i _ => j.val + 1 + i) ?_ ?_ ?_ ?_
  · intro i hi
    have := Finset.mem_range.1 hi
    exact Finset.mem_filter.2 ⟨Finset.mem_range.2 (by omega), by omega⟩
  · intro a _ b _ h
    omega
  · intro b hb
    obtain ⟨h1, h2⟩ := Finset.mem_filter.1 hb
    have := Finset.mem_range.1 h1
    exact ⟨b - (j.val + 1), Finset.mem_range.2 (by omega), by omega⟩
  · intro a _
    congr 1
    omega

/-- A power of two of scaled numbers is an exponential. -/
theorem rpow_scaled (x : ℝ) : Real.rpow 2 (x * (Real.log 2)⁻¹) = Real.exp x := by
  rw [two_rpow, inv_mul_cancel_right₀ log2_pos.ne']

/-- The sum over all keys of the logarithms kept from `s` on. -/
theorem sum_kept (x : ℕ → ℝ) (t s n : ℕ) (h : t ≤ n) :
    ∑ j ∈ Finset.range n, (if j < t then -sp (x j) else 0) * (if s ≤ j then 1 else 0) = -taken x t s := by
  have e : ∀ j, (if j < t then -sp (x j) else 0) * (if s ≤ j then (1 : ℝ) else 0) = if s ≤ j ∧ j < t then -sp (x j) else 0 := fun j => by
    by_cases h1 : j < t <;> by_cases h2 : s ≤ j <;> simp [h1, h2]
  have hs : (Finset.range n).filter (fun j => s ≤ j ∧ j < t) = Finset.Ico s t := by
    ext j
    simp only [Finset.mem_filter, Finset.mem_range, Finset.mem_Ico]
    omega
  simp only [e]
  rw [← Finset.sum_filter, hs, Finset.sum_neg_distrib]
  rfl

/-- Keys not before the query weigh nothing, so the sum may stop after the query. -/
theorem sum_stop (x : ℕ → ℝ) (f : ℕ → ℝ) (t k n : ℕ) (h : t ≤ k) (hk : k ≤ n) :
    ∑ s ∈ Finset.range k, wt x t s * f s = ∑ s ∈ Finset.range n, wt x t s * f s := by
  refine Finset.sum_subset (Finset.range_subset_range.2 hk) fun s _ hs => ?_
  have : ¬ s < k := fun h => hs (Finset.mem_range.2 h)
  unfold wt
  rw [if_neg (by omega), zero_mul]

end Cert.Stick

end
-- ==== Proof.Sb.Walk.lean ====
/- One query's column of one head on extended reals: block after block its weights, its carried sum and its output are the
   reals that stick breaking gives. -/
module

public import proofs.«01_k».proof.Proof.Sb.Pays
public import proofs.«01_k».proof.Proof.Sb.Stick
public import proofs.«01_k».proof.Proof.Mean

@[expose] public section

set_option maxRecDepth 16384

noncomputable section

namespace Cert.SbIdeal.Spec

open Cert.SbIdeal Cert.SbIdeal.Gen Cert.Pieces Cert.Stick
open Idealize.ShloMosaic Idealize.ShloMosaic.TcCoe
open Cert.Mean (sum_coe)

/-- The reciprocal of the natural logarithm of two. -/
abbrev l2 : ℝ := (Real.log 2)⁻¹

/-- What a real logit takes. -/
theorem soft_coe (y : ℝ) : soft ((y * l2 : ℝ) : EReal) = ((sp y * l2 : ℝ) : EReal) := by
  have hm : ∀ a b : ℝ, max (a : EReal) (b : EReal) = ((max a b : ℝ) : EReal) := fun a b => (EReal.coe_strictMono.monotone.map_max).symm
  have hp : ¬ (1 + Real.rpow 2 (0 - |y * l2|)) ≤ 0 := by
    rw [two_rpow]
    have := Real.exp_pos ((0 - |y * l2|) * Real.log 2)
    linarith
  rw [← soft_eq y]
  unfold soft
  rw [show FloatOps.absf (F := Ideal) (φ := .f32) ((y * l2 : ℝ) : EReal) = ((|y * l2| : ℝ) : EReal) from by
    show max ((y * l2 : ℝ) : EReal) (-((y * l2 : ℝ) : EReal)) = _
    rw [← EReal.coe_neg, hm]; rfl]
  rw [← EReal.coe_zero, ← EReal.coe_one, ← EReal.coe_sub, Ideal.exp2_coe, ← EReal.coe_add, Ideal.log_coe, if_neg hp, ← EReal.coe_mul, hm, ← EReal.coe_add]

section
variable (x : ℕ → ℝ) (t : ℕ)

/-- The triangle's sums over half a block, of reals. -/
theorem sum_up (p : ℕ) (j : Fin 256) (f : Fin 256 → EReal) (hf : ∀ s, f s = ((tk x t (p + s.val) * l2 : ℝ) : EReal)) :
    ∑ s : Fin 256, up j s * f s = (((∑ i : Fin 256, if j.val < i.val then tk x t (p + i.val) else 0) * l2 : ℝ) : EReal) := by
  rw [Finset.sum_mul, ← sum_coe]
  refine Finset.sum_congr rfl fun s _ => ?_
  rw [hf]
  unfold up
  split
  · rw [one_mul]
  · rw [zero_mul, zero_mul]; rfl

/-- A key's weight, from its logit, the triangle's sum and the carried sum. -/
theorem wt_half (p : ℕ) (j : Fin 256) (h : p + j.val < t) (f : Fin 256 → EReal) (hf : ∀ s, f s = ((tk x t (p + s.val) * l2 : ℝ) : EReal)) :
    Ideal.exp2 (((x (p + j.val) * l2 : ℝ) : EReal) - ((sp (x (p + j.val)) * l2 : ℝ) : EReal) - (∑ s : Fin 256, up j s * f s) - ((taken x t (p + 256) * l2 : ℝ) : EReal))
      = ((wt x t (p + j.val) : ℝ) : EReal) := by
  rw [sum_up x t p j f hf, ← EReal.coe_sub, ← EReal.coe_sub, ← EReal.coe_sub, Ideal.exp2_coe]
  refine EReal.coe_eq_coe_iff.2 ?_
  rw [← sub_mul, ← sub_mul, ← sub_mul, rpow_scaled]
  unfold wt
  rw [if_pos h, taken_succ x t (p + j.val), taken_after x t p j]
  unfold tk
  rw [if_pos h]
  congr 1
  ring

/-- The sum carried past half a block. -/
theorem carry_half (p : ℕ) (f : Fin 256 → EReal) (hf : ∀ s, f s = ((tk x t (p + s.val) * l2 : ℝ) : EReal)) :
    ((taken x t (p + 256) * l2 : ℝ) : EReal) + (∑ s : Fin 256, up 0 s * f s) + f 0 = ((taken x t p * l2 : ℝ) : EReal) := by
  rw [sum_up x t p 0 f hf, hf, ← EReal.coe_add, ← EReal.coe_add]
  refine EReal.coe_eq_coe_iff.2 ?_
  have h := taken_after x t p 0
  rw [taken_succ x t p]
  simp only [Fin.val_zero, add_zero] at h ⊢
  rw [h]
  ring

end

/-- The halves of a block of logits, at an index. -/
theorem half0_at (z : Vec Ideal S1x512x512 .f32) (j : Fin 256) (b : Fin 512) :
    half (B := 512) z 0 (ix3 0 j b) = z (ix3 0 (⟨j.val, by omega⟩ : Fin 512) b) :=
  congrArg z (funext fun a => by
    fin_cases a
    · rfl
    · exact Fin.ext (by show 256 * 0 + j.val = j.val; omega)
    · rfl)

theorem half1_at (z : Vec Ideal S1x512x512 .f32) (j : Fin 256) (b : Fin 512) :
    half (B := 512) z 1 (ix3 0 j b) = z (ix3 0 (⟨256 + j.val, by omega⟩ : Fin 512) b) :=
  congrArg z (funext fun a => by
    fin_cases a
    · rfl
    · exact Fin.ext (by show 256 * 1 + j.val = 256 + j.val; omega)
    · rfl)

/-- A block of weights read in its halves. -/
theorem join_at (w0 w1 : Vec Ideal S1x256x512 .bf16) (s b : Fin 512) (f : ℕ → EReal) (h0 : ∀ j : Fin 256, w0 (ix3 0 j b) = f j.val)
    (h1 : ∀ j : Fin 256, w1 (ix3 0 j b) = f (256 + j.val)) : join (B := 512) w0 w1 (ix3 0 s b) = f s.val := by
  by_cases h : s.val < 256
  · refine ((dif_pos h).trans (congrArg w0 (funext fun a => ?_))).trans (h0 ⟨s.val, h⟩)
    fin_cases a <;> rfl
  · have hs := s.isLt
    refine ((dif_neg h).trans (congrArg w1 (funext fun a => ?_))).trans ((h1 ⟨s.val - 256, by omega⟩).trans (congrArg f (by show 256 + (s.val - 256) = s.val; omega)))
    fin_cases a <;> rfl

/-- What a query's column of a head holds after `j` trips: the coming block's logits, the last block's weights, what
    the keys from the last block on take, and the output of the blocks after the last. -/
structure Col (b : Fin 512) (x : ℕ → ℝ) (v : Fin 256 → ℕ → ℝ) (qi j : ℕ) (σ : Head Ideal) : Prop where
  z : ∀ s : Fin 512, σ.z (ix3 0 s b) = ((x (512 * (qi - 1 - j) + s.val) * l2 : ℝ) : EReal)
  a : ∀ s : Fin 512, σ.a (ix3 0 s b) = ((wt x (512 * qi + b.val) (512 * (qi - j) + s.val) : ℝ) : EReal)
  c : σ.c (ix3 0 0 b) = ((taken x (512 * qi + b.val) (512 * (qi - j)) * l2 : ℝ) : EReal)
  acc : ∀ e : Fin 256, σ.acc (ix3 0 e b) = ((∑ s ∈ Finset.Ico (512 * (qi - j + 1)) (512 * (qi + 1)), wt x (512 * qi + b.val) s * v e s : ℝ) : EReal)

section
variable (b : Fin 512) (x : ℕ → ℝ) (v : Fin 256 → ℕ → ℝ) (q : FVec Ideal S512x256 .bf16) (kb : ℕ → Vec Ideal S1x512x256 .bf16)
  (vb : ℕ → Vec Ideal S1x256x512 .bf16)
  (hz : ∀ k (s : Fin 512), logits q (kb k) (ix3 0 s b) = ((x (512 * k + s.val) * l2 : ℝ) : EReal))
  (hv : ∀ k (e : Fin 256) (s : Fin 512), vb k (ix3 0 e s) = ((v e (512 * k + s.val) : ℝ) : EReal))

include hz in
/-- Before the loop: the diagonal block's weights. -/
theorem start_col (qi : ℕ) : Col b x v qi 0 ((Head.init q (kb qi)).diag q (kb (qi - 1))) := by
  have hb := b.isLt
  have hz1 : ∀ j : Fin 256, half (B := 512) (Head.init q (kb qi)).z 1 (ix3 0 j b) = ((x (512 * qi + 256 + j.val) * l2 : ℝ) : EReal) := fun j => by
    rw [half1_at]
    exact (hz qi _).trans (by rw [show 512 * qi + (⟨256 + j.val, by omega⟩ : Fin 512).val = 512 * qi + 256 + j.val from by show 512 * qi + (256 + j.val) = _; omega])
  have hz0 : ∀ j : Fin 256, half (B := 512) (Head.init q (kb qi)).z 0 (ix3 0 j b) = ((x (512 * qi + j.val) * l2 : ℝ) : EReal) := fun j => by
    rw [half0_at]
    exact hz qi _
  have ht : taken x (512 * qi + b.val) (512 * qi + 256 + 256) = 0 := by
    unfold taken
    rw [Finset.Ico_eq_empty (by omega)]
    rfl
  have hc : (Head.init q (kb qi)).c (ix3 0 0 b) = ((taken x (512 * qi + b.val) (512 * qi + 256 + 256) * l2 : ℝ) : EReal) := by
    rw [ht, zero_mul]
    exact Ideal.ofBits_zero .f32
  have hf1 : ∀ s : Fin 256, (if 256 + s.val < b.val then soft (half (B := 512) (Head.init q (kb qi)).z 1 (ix3 0 s b)) else 0)
      = ((tk x (512 * qi + b.val) (512 * qi + 256 + s.val) * l2 : ℝ) : EReal) := fun s => by
    unfold tk
    by_cases h : 256 + s.val < b.val
    · rw [if_pos h, if_pos (by omega), hz1, soft_coe]
    · rw [if_neg h, if_neg (by omega), zero_mul]; rfl
  have hf0 : ∀ s : Fin 256, (if s.val < b.val then soft (half (B := 512) (Head.init q (kb qi)).z 0 (ix3 0 s b)) else 0)
      = ((tk x (512 * qi + b.val) (512 * qi + s.val) * l2 : ℝ) : EReal) := fun s => by
    unfold tk
    by_cases h : s.val < b.val
    · rw [if_pos h, if_pos (by omega), hz0, soft_coe]
    · rw [if_neg h, if_neg (by omega), zero_mul]; rfl
  have hc1 : k0_pay18 (k0_pay10 (Head.init q (kb qi)).c) (k0_pay14 (half (B := 512) (Head.init q (kb qi)).z 1)) (k0_pay15 (k0_pay4 (F := Ideal)) (half (B := 512) (Head.init q (kb qi)).z 1)) (ix2 0 b)
      = ((taken x (512 * qi + b.val) (512 * qi + 256) * l2 : ℝ) : EReal) := by
    rw [c18_at, hc]
    exact carry_half x (512 * qi + b.val) (512 * qi + 256) _ hf1
  refine ⟨fun s => hz (qi - 1) s, fun s => ?_, ?_, fun e => ?_⟩
  · show join (B := 512) (diag0 (Head.init q (kb qi))) (diag1 (Head.init q (kb qi))) (ix3 0 s b) = _
    refine join_at _ _ s b (fun n => ((wt x (512 * qi + b.val) (512 * qi + n) : ℝ) : EReal)) (fun j => ?_) (fun j => ?_)
    · unfold diag0
      rw [d0_at, hc1]
      by_cases h : j.val < b.val
      · rw [if_pos h, hz0, soft_coe]
        exact wt_half x (512 * qi + b.val) (512 * qi) j (by omega) _ hf0
      · rw [if_neg h]
        unfold wt
        rw [if_neg (by omega)]; rfl
    · unfold diag1
      rw [d1_at, hc]
      by_cases h : 256 + j.val < b.val
      · rw [if_pos h, hz1, soft_coe]
        refine (wt_half x (512 * qi + b.val) (512 * qi + 256) j (by omega) _ hf1).trans ?_
        rw [Nat.add_assoc]
      · rw [if_neg h]
        unfold wt
        rw [if_neg (by omega)]; rfl
  · show diagC (Head.init q (kb qi)) (ix3 0 0 b) = _
    unfold diagC
    rw [dc_at, hc1]
    exact carry_half x (512 * qi + b.val) (512 * qi) _ hf0
  · show (Head.init q (kb qi)).acc (ix3 0 e b) = _
    rw [Finset.Ico_eq_empty (by omega)]
    exact Ideal.ofBits_zero .f32

include hv in
/-- Adding a block's output. -/
theorem acc_col (qi j : ℕ) (hj : j ≤ qi) (σ : Head Ideal) (h : Col b x v qi j σ) (e : Fin 256) :
    k0_pay53 σ.acc (vb (qi - j)) σ.a (ix3 0 e b)
      = ((∑ s ∈ Finset.Ico (512 * (qi - j)) (512 * (qi + 1)), wt x (512 * qi + b.val) s * v e s : ℝ) : EReal) := by
  rw [acc_at, h.acc]
  simp only [hv, h.a, ← EReal.coe_mul, sum_coe]
  rw [← EReal.coe_add]
  refine EReal.coe_eq_coe_iff.2 ?_
  rw [← Finset.sum_Ico_consecutive _ (show 512 * (qi - j) ≤ 512 * (qi - j + 1) by omega) (show 512 * (qi - j + 1) ≤ 512 * (qi + 1) by omega), add_comm]
  congr 1
  rw [Finset.sum_Ico_eq_sum_range, show 512 * (qi - j + 1) - 512 * (qi - j) = 512 by omega,
    ← Fin.sum_univ_eq_sum_range (fun i => wt x (512 * qi + b.val) (512 * (qi - j) + i) * v e (512 * (qi - j) + i)) 512]
  exact Finset.sum_congr rfl fun s _ => mul_comm _ _

include hz hv in
/-- One trip. -/
theorem step_col (qi j : ℕ) (hj : j + 1 ≤ qi) (σ : Head Ideal) (h : Col b x v qi j σ) :
    Col b x v qi (j + 1) (σ.step q (vb (qi - j)) (kb (qi - 2 - j))) := by
  have hb := b.isLt
  obtain ⟨p, hp⟩ : ∃ p, p = 512 * (qi - 1 - j) := ⟨_, rfl⟩
  have e1 : 512 * (qi - (j + 1)) = p := by omega
  have e2 : 512 * (qi - j) = p + 256 + 256 := by omega
  have hlt : p + 512 ≤ 512 * qi := by omega
  have hz1 : ∀ j' : Fin 256, half (B := 512) σ.z 1 (ix3 0 j' b) = ((x (p + 256 + j'.val) * l2 : ℝ) : EReal) := fun j' => by
    rw [half1_at, h.z, ← hp, Nat.add_assoc]
  have hz0 : ∀ j' : Fin 256, half (B := 512) σ.z 0 (ix3 0 j' b) = ((x (p + j'.val) * l2 : ℝ) : EReal) := fun j' => by
    rw [half0_at, h.z, ← hp]
  have hc : σ.c (ix3 0 0 b) = ((taken x (512 * qi + b.val) (p + 256 + 256) * l2 : ℝ) : EReal) := by
    rw [h.c, e2]
  have hf1 : ∀ s : Fin 256, soft (half (B := 512) σ.z 1 (ix3 0 s b)) = ((tk x (512 * qi + b.val) (p + 256 + s.val) * l2 : ℝ) : EReal) := fun s => by
    unfold tk
    rw [if_pos (by omega), hz1, soft_coe]
  have hf0 : ∀ s : Fin 256, soft (half (B := 512) σ.z 0 (ix3 0 s b)) = ((tk x (512 * qi + b.val) (p + s.val) * l2 : ℝ) : EReal) := fun s => by
    unfold tk
    rw [if_pos (by omega), hz0, soft_coe]
  have hc1 : c1 σ (ix2 0 b) = ((taken x (512 * qi + b.val) (p + 256) * l2 : ℝ) : EReal) := by
    unfold c1
    rw [c1_at, hc]
    exact carry_half x (512 * qi + b.val) (p + 256) _ hf1
  refine ⟨fun s => ?_, fun s => ?_, ?_, fun e => ?_⟩
  · rw [show qi - 1 - (j + 1) = qi - 2 - j by omega]
    exact hz (qi - 2 - j) s
  · rw [e1]
    show join (B := 512) (w0 σ) (w1 σ) (ix3 0 s b) = _
    refine join_at _ _ s b (fun n => ((wt x (512 * qi + b.val) (p + n) : ℝ) : EReal)) (fun j' => ?_) (fun j' => ?_)
    · unfold w0
      rw [w0_at, hc1]
      refine Eq.trans ?_ (wt_half x (512 * qi + b.val) p j' (by omega) _ hf0)
      rw [hz0, soft_coe]
    · unfold w1
      rw [w1_at, hc]
      refine Eq.trans ?_ ((wt_half x (512 * qi + b.val) (p + 256) j' (by omega) _ hf1).trans (by rw [Nat.add_assoc]))
      rw [hz1, soft_coe]
  · rw [e1]
    show c0 σ (ix3 0 0 b) = _
    unfold c0
    rw [c0_at, hc1]
    exact carry_half x (512 * qi + b.val) p _ hf0
  · show k0_pay53 σ.acc (vb (qi - j)) σ.a (ix3 0 e b) = _
    rw [acc_col b x v vb hv qi j (by omega) σ h, show qi - (j + 1) + 1 = qi - j by omega]

end

section
variable (qi : ℕ) (Q : Vec Ideal S1x512x512 .bf16) (K : Vec Ideal S1x16384x512 .bf16) (V : Vec Ideal S32x512x512 .bf16)
  (x : Fin 2 → Fin 512 → ℕ → ℝ) (v : Fin 2 → Fin 256 → ℕ → ℝ)
  (hz : ∀ n b k (s : Fin 512), logits (qh Q n) (keys K n k) (ix3 0 s b) = ((x n b (512 * k + s.val) * l2 : ℝ) : EReal))
  (hv : ∀ n k (e : Fin 256) (s : Fin 512), vals V n k (ix3 0 e s) = ((v n e (512 * k + s.val) : ℝ) : EReal))

include hz hv in
/-- Every column of both heads after `j` trips. -/
theorem after_col (n : Fin 2) (b : Fin 512) (j : ℕ) (hj : j ≤ qi) : Col b (x n b) (v n) qi j (after qi Q K V j n) := by
  induction j with
  | zero => exact start_col b (x n b) (v n) (qh Q n) (keys K n) (hz n b) qi
  | succ j ih => exact step_col b (x n b) (v n) (qh Q n) (keys K n) (vals V n) (hz n b) (hv n) qi j hj _ (ih (by omega))

include hz hv in
/-- The loop makes every trip. -/
theorem more_eq (r j : ℕ) (hr : j + r ≤ qi) : more qi Q K V r j 1#1 = r := by
  induction r generalizing j with
  | zero => rfl
  | succ r ih =>
    have h := (after_col qi Q K V x v hz hv 0 0 (j + 1) (by omega)).c
    show (if (1#1 : BitVec 1) = 1#1 then more qi Q K V r (j + 1) (go (after qi Q K V (j + 1))) + 1 else 0) = r + 1
    rw [if_pos rfl, go_eq _ _ h, ih (j + 1) (by omega)]

include hz hv in
/-- The accumulated output of a query: the weighted sum of the values up to its block. -/
theorem accLast_at (n : Fin 2) (b : Fin 512) (e : Fin 256) :
    accLast qi Q K V n (ix3 0 e b) = ((∑ s ∈ Finset.range (512 * (qi + 1)), wt (x n b) (512 * qi + b.val) s * v n e s : ℝ) : EReal) := by
  have hvis : visited qi Q K V = qi := more_eq qi Q K V x v hz hv qi 0 (by omega)
  unfold accLast
  rw [hvis, acc_col b (x n b) (v n) (vals V n) (hv n) qi qi le_rfl _ (after_col qi Q K V x v hz hv n b qi le_rfl) e, Nat.sub_self, Nat.mul_zero, Finset.range_eq_Ico]

end

end Cert.SbIdeal.Spec

end
-- ==== Proof.Sb.Ref.lean ====
/- The stick-breaking reference's value in stages, each read at an index. -/
module

public import proofs.«01_k».proof.Proof.Gen.SbReferenceIdeal.Run
public import proofs.«01_k».proof.Proof.Mean
public import proofs.«01_k».proof.Proof.Sb.Stick
public import Idealize.ShloMosaic.Lib.Pointwise
public import Idealize.ShloMosaic.Lib.WordCmp

@[expose] public section

set_option maxRecDepth 16384

noncomputable section

namespace Cert.SbReferenceIdeal.Stages

open Cert.SbReferenceIdeal Cert.SbReferenceIdeal.Gen
open Idealize.ShloMosaic Idealize.ShloMosaic.TcCoe
open Cert.Mean (sum_coe)
open Cert.Stick

/-- Which keys (last axis) are before a query (first axis). -/
def earlier : IVec S16384x16384 1 :=
  cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- One where the first axis' position is at or after the last axis', else zero. -/
def fromOn : FVec Ideal S16384x16384 .f32 :=
  uitofp .f32 (cmpi .sge (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0))))

/-- The scaled scores. -/
def scores (q k : FVec Ideal S2x16384x1024 .f32) : FVec Ideal S2x4x16384x16384 .f32 :=
  Host.divf (Host.dotGeneral dot_S2x16384x4x256_S2x16384x4x256_S2x4x16384x16384_3_3_1_1_02_02 none
      (shapeCast _ q shapeCasts_S2x16384x1024_S2x16384x4x256) (shapeCast _ k shapeCasts_S2x16384x1024_S2x16384x4x256))
    (broadcastInDim S2x4x16384x16384 ![] bcast_S_S2x4x16384x16384 (Host.sqrt (constant S_ .f32 0x43800000#32)))

/-- The logarithm of what each key leaves, nothing at the keys not before the query. -/
def logKeep (z : FVec Ideal S2x4x16384x16384 .f32) : FVec Ideal S2x4x16384x16384 .f32 :=
  select (broadcastInDim S2x4x16384x16384 ![2, 3] bcast_S16384x16384_S2x4x16384x16384_2_3 earlier)
    (Host.negf (Host.log (addf (broadcastInDim S2x4x16384x16384 ![] bcast_S_S2x4x16384x16384 (constant S_ .f32 0x3F800000#32)) (Host.exp z))))
    (broadcastInDim S2x4x16384x16384 ![] bcast_S_S2x4x16384x16384 (id (constant S_ .f32 0x00000000#32)))

/-- Its sums over the keys from each key on. -/
def kept (l : FVec Ideal S2x4x16384x16384 .f32) : FVec Ideal S2x4x16384x16384 .f32 :=
  Host.dotGeneral dot_S2x4x16384x16384_S16384x16384_S2x4x16384x16384_3_0_012_1_n_n none l fromOn

/-- The weights. -/
def wts (z l : FVec Ideal S2x4x16384x16384 .f32) : FVec Ideal S2x4x16384x16384 .f32 :=
  select (broadcastInDim S2x4x16384x16384 ![2, 3] bcast_S16384x16384_S2x4x16384x16384_2_3 earlier)
    (Host.exp (addf z l)) (broadcastInDim S2x4x16384x16384 ![] bcast_S_S2x4x16384x16384 (id (constant S_ .f32 0x00000000#32)))

/-- The weights applied to the values. -/
def outp (a : FVec Ideal S2x4x16384x16384 .f32) (v : FVec Ideal S2x16384x1024 .f32) : FVec Ideal S2x16384x4x256 .f32 :=
  transpose S2x16384x4x256 [0, 3, 1, 2]
    (Host.dotGeneral dot_S2x16384x4x256_S2x4x16384x16384_S2x4x256x16384_1_3_3_2_02_01 none (shapeCast _ v shapeCasts_S2x16384x1024_S2x16384x4x256) a)
    transposes_S2x4x256x16384_S2x16384x4x256_0_3_1_2

/-- The output gated. -/
def tail (o : FVec Ideal S2x16384x4x256 .f32) (g : FVec Ideal S2x16384x1024 .f32) : FVec Ideal S2x16384x1024 .bf16 :=
  truncf .bf16 (mulf (shapeCast _ o shapeCasts_S2x16384x4x256_S2x16384x1024)
    (mulf g (Host.divf (broadcastInDim S2x16384x1024 ![] bcast_S_S2x16384x1024 (constant S_ .f32 0x3F800000#32))
      (addf (broadcastInDim S2x16384x1024 ![] bcast_S_S2x16384x1024 (constant S_ .f32 0x3F800000#32)) (Host.exp (Host.negf g)))))) bitsLt_bf16_f32

/-- The whole reference. -/
def res (q k v g : FVec Ideal S2x16384x1024 .f32) : FVec Ideal S2x16384x1024 .bf16 :=
  tail (outp (wts (scores q k) (kept (logKeep (scores q k)))) v) g

/-- The reference ends with its stages composed, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = res (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold res tail outp wts kept logKeep scores fromOn earlier; rfl), (h c).2⟩)
    (Cert.SbReferenceIdeal.Value.run (F := Ideal) m ρ)

/-- A lane of the 1024, from its head and place. -/
def vlane (h : Fin 4) (e : Fin 256) : Fin 1024 := ⟨h.val * 256 + e.val, by omega⟩

/-- A choice on a decided bit. -/
theorem sel_if {α : Type} (p : Prop) [Decidable p] (x y : α) : Scalar.select (if p then 1#1 else 0#1) x y = if p then x else y := by
  split <;> rfl

theorem earlier_at (r j : Fin 16384) : earlier (ix2 r j) = if j.val < r.val then 1#1 else 0#1 := by
  pointwise [earlier]
  rw [WordCmp.cmpi_slt_ofNat (by omega) (by omega)]
  split <;> rename_i h <;> simp [h]

theorem fromOn_at (j s : Fin 16384) : fromOn (ix2 j s) = if s.val ≤ j.val then (1 : EReal) else 0 := by
  pointwise [fromOn]
  have h : IntOp.cmpi CmpIPredicate.sge (BitVec.ofNat 32 j.val) (BitVec.ofNat 32 s.val) = if s.val ≤ j.val then 1#1 else 0#1 :=
    (WordCmp.cmpi_sle_ofNat (by omega) (by omega)).trans (by split <;> rename_i h <;> simp [h])
  rw [h]
  split
  · show ((((1#1 : BitVec 1).toNat : ℝ)) : EReal) = 1
    norm_num
  · show ((((0#1 : BitVec 1).toNat : ℝ)) : EReal) = 0
    norm_num

theorem scores_at (q k : FVec Ideal S2x16384x1024 .f32) (b : Fin 2) (h : Fin 4) (r j : Fin 16384) :
    scores q k (ix4 b h r j) = Ideal.div (∑ d : Fin 256, q (ix3 b r (vlane h d)) * k (ix3 b j (vlane h d))) (Ideal.sqrt (Ideal.ofBits .f32 0x43800000#32)) := by
  pointwise [scores]
  rfl

theorem logKeep_at (z : FVec Ideal S2x4x16384x16384 .f32) (b : Fin 2) (h : Fin 4) (r j : Fin 16384) :
    logKeep z (ix4 b h r j) = if j.val < r.val then -Ideal.log (1 + Ideal.exp (z (ix4 b h r j))) else 0 := by
  pointwise [logKeep]
  rw [earlier_at, sel_if]
  exact if_congr Iff.rfl rfl (Ideal.ofBits_zero .f32)

theorem kept_at (l : FVec Ideal S2x4x16384x16384 .f32) (b : Fin 2) (h : Fin 4) (r s : Fin 16384) :
    kept l (ix4 b h r s) = ∑ j : Fin 16384, l (ix4 b h r j) * if s.val ≤ j.val then (1 : EReal) else 0 := by
  pointwise [kept]
  simp only [fromOn_at]

theorem wts_at (z l : FVec Ideal S2x4x16384x16384 .f32) (b : Fin 2) (h : Fin 4) (r j : Fin 16384) :
    wts z l (ix4 b h r j) = if j.val < r.val then Ideal.exp (z (ix4 b h r j) + l (ix4 b h r j)) else 0 := by
  pointwise [wts]
  rw [earlier_at, sel_if]
  exact if_congr Iff.rfl rfl (Ideal.ofBits_zero .f32)

theorem outp_at (a : FVec Ideal S2x4x16384x16384 .f32) (v : FVec Ideal S2x16384x1024 .f32) (b : Fin 2) (h : Fin 4) (r : Fin 16384) (e : Fin 256) :
    outp a v (ix4 b r h e) = ∑ j : Fin 16384, v (ix3 b j (vlane h e)) * a (ix4 b h r j) := by
  pointwise [outp]
  rfl

theorem tail_at (o : FVec Ideal S2x16384x4x256 .f32) (g : FVec Ideal S2x16384x1024 .f32) (b : Fin 2) (r : Fin 16384) (h : Fin 4) (e : Fin 256) :
    tail o g (ix3 b r (vlane h e)) = o (ix4 b r h e) * (g (ix3 b r (vlane h e)) * Ideal.div 1 (1 + Ideal.exp (-g (ix3 b r (vlane h e))))) := by
  pointwise [tail]
  have h1 : (⟨(vlane h e).val / 256, by omega⟩ : Fin 4) = h := Fin.ext (by show (h.val * 256 + e.val) / 256 = h.val; omega)
  have h2 : (⟨(vlane h e).val % 256, by omega⟩ : Fin 256) = e := Fin.ext (by show (h.val * 256 + e.val) % 256 = e.val; omega)
  rw [h1, h2]

theorem bits_256 : Ideal.ofBits .f32 0x43800000#32 = ((256 : ℝ) : EReal) := by
  simp [Ideal.ofBits, Ideal.ieee, -EReal.coe_mul]; norm_num

theorem sqrt_256 : Ideal.sqrt (Ideal.ofBits .f32 0x43800000#32) = (Real.sqrt 256 : EReal) := by
  rw [bits_256, Ideal.sqrt_coe, if_neg (by norm_num)]

theorem sqrt_256_pos : 0 < Real.sqrt 256 := Real.sqrt_pos.2 (by norm_num)

section
variable (q k v g : FVec Ideal S2x16384x1024 .f32) (Q K W : Fin 2 → Fin 16384 → Fin 1024 → ℝ)
  (hq : ∀ b r x, q (ix3 b r x) = (Q b r x : EReal)) (hk : ∀ b r x, k (ix3 b r x) = (K b r x : EReal))
  (hv : ∀ b r x, v (ix3 b r x) = (W b r x : EReal))

/-- The score of the key at position `p` for query `r`, in the lanes `l`. -/
def score (b : Fin 2) (l : Fin 256 → Fin 1024) (r : Fin 16384) (p : ℕ) : ℝ :=
  (∑ d, Q b r (l d) * K b (⟨p % 16384, Nat.mod_lt _ (by decide)⟩ : Fin 16384) (l d)) * (1 / Real.sqrt 256)

theorem fin_mod (j : Fin 16384) : (⟨j.val % 16384, Nat.mod_lt _ (by decide)⟩ : Fin 16384) = j := Fin.ext (Nat.mod_eq_of_lt j.isLt)

include hq hk in
theorem scores_real (b : Fin 2) (h : Fin 4) (r j : Fin 16384) :
    scores q k (ix4 b h r j) = (score Q K b (vlane h) r j.val : EReal) := by
  rw [scores_at, sqrt_256, Ideal.div_coe sqrt_256_pos.ne']
  simp only [hq, hk, ← EReal.coe_mul, sum_coe]
  unfold score
  rw [fin_mod]

include hq hk in
/-- The logarithms' sums of real arguments: what the keys from each key on take, negated. -/
theorem kept_real (b : Fin 2) (h : Fin 4) (r s : Fin 16384) :
    kept (logKeep (scores q k)) (ix4 b h r s) = ((-taken (score Q K b (vlane h) r) r.val s.val : ℝ) : EReal) := by
  have h1 : ∀ j : Fin 16384, logKeep (scores q k) (ix4 b h r j) * (if s.val ≤ j.val then (1 : EReal) else 0)
      = (((if j.val < r.val then -sp (score Q K b (vlane h) r j.val) else 0) * (if s.val ≤ j.val then 1 else 0) : ℝ) : EReal) := fun j => by
    have hp := Real.exp_pos (score Q K b (vlane h) r j.val)
    have hn : ¬ 1 + Real.exp (score Q K b (vlane h) r j.val) ≤ 0 := by linarith
    rw [logKeep_at, scores_real q k Q K hq hk, EReal.coe_mul]
    congr 1
    · split
      · rw [Ideal.exp_coe, ← EReal.coe_one, ← EReal.coe_add, Ideal.log_coe, if_neg hn, EReal.coe_neg]; rfl
      · rfl
    · split <;> rfl
  rw [kept_at]
  simp only [h1, sum_coe]
  rw [Fin.sum_univ_eq_sum_range (fun j => (if j < r.val then -sp (score Q K b (vlane h) r j) else 0) * (if s.val ≤ j then 1 else 0)) 16384,
    sum_kept _ _ _ _ r.isLt.le]

include hq hk in
/-- A weight of real arguments. -/
theorem wts_real (b : Fin 2) (h : Fin 4) (r s : Fin 16384) :
    wts (scores q k) (kept (logKeep (scores q k))) (ix4 b h r s) = ((wt (score Q K b (vlane h) r) r.val s.val : ℝ) : EReal) := by
  rw [wts_at, scores_real q k Q K hq hk, kept_real q k Q K hq hk]
  unfold wt
  split
  · rw [← EReal.coe_add, Ideal.exp_coe, ← sub_eq_add_neg]
  · rfl

include hq hk hv in
/-- The output of real arguments: the values weighted. -/
theorem outp_real (b : Fin 2) (h : Fin 4) (r : Fin 16384) (e : Fin 256) :
    outp (wts (scores q k) (kept (logKeep (scores q k)))) v (ix4 b r h e)
      = ((∑ s ∈ Finset.range 16384, wt (score Q K b (vlane h) r) r.val s * W b (⟨s % 16384, Nat.mod_lt _ (by decide)⟩ : Fin 16384) (vlane h e) : ℝ) : EReal) := by
  rw [outp_at]
  simp only [wts_real q k Q K hq hk, hv, ← EReal.coe_mul, sum_coe]
  refine EReal.coe_eq_coe_iff.2 ?_
  rw [← Fin.sum_univ_eq_sum_range (fun s => wt (score Q K b (vlane h) r) r.val s * W b (⟨s % 16384, Nat.mod_lt _ (by decide)⟩ : Fin 16384) (vlane h e)) 16384]
  refine Finset.sum_congr rfl fun j _ => ?_
  rw [fin_mod, mul_comm]

end

end Cert.SbReferenceIdeal.Stages

end
-- ==== Proof.Sb.Value.lean ====
/- The stick-breaking kernel's result is the reference's, on real queries, keys and values. -/
module

public import proofs.«01_k».proof.Proof.Sb.Entry
public import proofs.«01_k».proof.Proof.Sb.Walk
public import proofs.«01_k».proof.Proof.Sb.Ref

@[expose] public section

set_option maxRecDepth 16384

noncomputable section

namespace Cert.SbIdeal.Spec

open Cert.SbIdeal Cert.SbIdeal.Gen Cert.Pieces Cert.Stick
open Idealize.ShloMosaic Idealize.ShloMosaic.TcCoe Idealize.SL.Sem
open Cert.Mean (sum_coe bits_2)
open Cert.SbReferenceIdeal.Stages (res score vlane sqrt_256 sqrt_256_pos outp_real tail_at)

variable (m : (ℓ : Loc nD τ sig) → Buf (Elt Ideal) ℓ) (c : Dev nD)

/-- The reference's result, of the kernel's arguments. -/
def refOut : FVec Ideal S2x16384x1024 .bf16 := res (argQ m c) (argK m c) (argV m c) (argG m c)

/-- The scale of the queries, a real: over the square root of the lane count and the natural logarithm of two. -/
theorem scale_eq : scale = ((1 / (Real.sqrt 256 * Real.log 2) : ℝ) : EReal) := by
  have h : Real.sqrt 256 * Real.log 2 ≠ 0 := (mul_pos sqrt_256_pos log2_pos).ne'
  unfold scale
  rw [sqrt_256, bits_2, Ideal.log_coe, if_neg (by norm_num), ← EReal.coe_mul, Ideal.div_coe h, one_mul]

/-- A column of the block a grid point writes is a column of one of its two heads. -/
theorem outAt_at (t : Fin (cfg0 (F := Ideal)).N) (h : Fin 2) (b : Fin 512) (e : Fin 256) :
    outAt m c t (ix3 0 b (⟨256 * h.val + e.val, by omega⟩ : Fin 512))
      = accLast (t.val % 32) (iblk m c 0 t) (iblk m c 1 t) (iblk m c 2 t) h (ix3 0 e b) * cols (iblk m c 3 t) h (ix3 0 b e) := by
  rw [← out_at]
  unfold outAt outBlk
  rw [qiAt_eq]
  have he := e.isLt
  have hi : (fun | 0 => (0 : Fin 1) | 1 => b | 2 => (⟨(256 * h.val + e.val) % 256, Nat.mod_lt _ (by decide)⟩ : Fin 256) : S1x512x256.Idx) = ix3 0 b e := by
    funext a
    fin_cases a
    · rfl
    · rfl
    · exact Fin.ext (by show (256 * h.val + e.val) % 256 = e.val; omega)
  by_cases h0 : h.val < 1
  · obtain rfl : h = 0 := Fin.ext (by show h.val = 0; omega)
    exact (if_pos (show 256 * (0 : Fin 2).val + e.val < 256 by simp)).trans (congrArg _ hi)
  · obtain rfl : h = 1 := Fin.ext (by show h.val = 1; omega)
    exact (if_neg (show ¬ 256 * (1 : Fin 2).val + e.val < 256 by simp)).trans (congrArg _ hi)

/-- The kernel's result after the last grid point is the reference's. -/
theorem out_arr (h0 : ∀ i, ∃ r : ℝ, argQ m c i = ((r : EReal) : Ideal .f32)) (h1 : ∀ i, ∃ r : ℝ, argK m c i = ((r : EReal) : Ideal .f32))
    (h2 : ∀ i, ∃ r : ℝ, argV m c i = ((r : EReal) : Ideal .f32)) :
    (dats m 0 c).arrAt 4 (cfgs (F := Ideal) 0).N = refOut m c := by
  choose Q hQ using h0
  choose K hK using h1
  choose W hW using h2
  refine (dats m 0 c).arrAt_eq_of_covers 4 _ (by decide +kernel) fun t hf y => ?_
  blk_simp
  rw [aft4]
  obtain ⟨b, x, rfl⟩ : ∃ (b : Fin 512) (x : Fin 512), y = ix3 0 b x :=
    ⟨y 1, y 2, by funext a; fin_cases a; exacts [Subsingleton.elim (α := Fin 1) _ _, rfl, rfl]⟩
  obtain ⟨h, e, rfl⟩ : ∃ (h : Fin 2) (e : Fin 256), x = (⟨256 * h.val + e.val, by omega⟩ : Fin 512) :=
    ⟨⟨x.val / 256, by omega⟩, ⟨x.val % 256, by omega⟩, Fin.ext (by show x.val = 256 * (x.val / 256) + x.val % 256; omega)⟩
  have ht := point_lt t
  have hx := h.isLt
  have hb := b.isLt
  let H : Fin 2 → Fin 4 := fun h => ⟨2 * (t.val / 32 % 2) + h.val, by have := h.isLt; omega⟩
  have hvl : ∀ h e, vln t h e = vlane (H h) e := fun h e => Fin.ext (by show 512 * (t.val / 32 % 2) + 256 * h.val + e.val = (2 * (t.val / 32 % 2) + h.val) * 256 + e.val; omega)
  have hemb : (win0_4.blk t).view.emb (ix3 0 b (⟨256 * h.val + e.val, by omega⟩ : Fin 512)) = ix3 (bi t) (row (512 * (t.val % 32) + b.val)) (vlane (H h) e) := by
    rw [← hvl]
    blk_ext [index_4 t, bi, row, vln]
  have hrow : (row (512 * (t.val % 32) + b.val)).val = 512 * (t.val % 32) + b.val := Nat.mod_eq_of_lt (by omega)
  have hz : ∀ (n : Fin 2) (b : Fin 512) (k : ℕ) (s : Fin 512), logits (qh (iblk m c 0 t) n) (keys (iblk m c 1 t) n k) (ix3 0 s b)
      = ((score (fun b r x => Q (ix3 b r x)) (fun b r x => K (ix3 b r x)) (bi t) (vlane (H n)) (row (512 * (t.val % 32) + b.val)) (512 * k + s.val) * l2 : ℝ) : EReal) := fun n b k s => by
    rw [logits_at]
    simp only [k_at, q_at, hQ, hK, scale_eq, ← EReal.coe_mul, sum_coe, hvl]
    refine EReal.coe_eq_coe_iff.2 ?_
    unfold score
    rw [Finset.sum_mul, Finset.sum_mul]
    refine Finset.sum_congr rfl fun d _ => ?_
    rw [one_div, mul_inv, one_div]
    show K _ * (Q _ * _) = Q _ * K _ * _ * _
    unfold l2 row
    ring
  have hv : ∀ (n : Fin 2) (k : ℕ) (e : Fin 256) (s : Fin 512), vals (iblk m c 2 t) n k (ix3 0 e s)
      = ((W (ix3 (bi t) (⟨(512 * k + s.val) % 16384, Nat.mod_lt _ (by decide)⟩ : Fin 16384) (vlane (H n) e)) : ℝ) : EReal) := fun n k e s => by
    rw [vt_at, hW, hvl]
    rfl
  rw [hemb, outAt_at, accLast_at (t.val % 32) _ _ _
    (fun n b p => score (fun b r x => Q (ix3 b r x)) (fun b r x => K (ix3 b r x)) (bi t) (vlane (H n)) (row (512 * (t.val % 32) + b.val)) p)
    (fun n e p => W (ix3 (bi t) (⟨p % 16384, Nat.mod_lt _ (by decide)⟩ : Fin 16384) (vlane (H n) e))) hz hv h b e, g_at, hvl]
  refine Eq.symm ?_
  unfold refOut res
  rw [tail_at, outp_real (argQ m c) (argK m c) (argV m c) (fun b r x => Q (ix3 b r x)) (fun b r x => K (ix3 b r x)) (fun b r x => W (ix3 b r x))
    (fun _ _ _ => hQ _) (fun _ _ _ => hK _) (fun _ _ _ => hW _), hrow,
    ← sum_stop _ _ (512 * (t.val % 32) + b.val) (512 * (t.val % 32 + 1)) 16384 (by omega) (by omega)]
  rfl

end Cert.SbIdeal.Spec

end
-- ==== Proof.Sb.Finite.lean ====
/- The stick-breaking call's precondition read back: every query, key and value is a real. -/
module

public import proofs.«01_k».proof.Pre_finite_sb
public import Idealize.ShloMosaic.Lib.ReduceAll
public import Idealize.ShloMosaic.Lib.Pointwise

@[expose] public section

set_option maxRecDepth 16384

noncomputable section

namespace Cert.Pre_finite_sb

open Idealize.ShloMosaic

/-- The predicate's side conditions. -/
instance facts : Cert.Pre_finite_sb.Facts where
  bcast_S_S2x16384x1024 := by decide
  reducesTo_S2x16384x1024_S_d0_1_2 := by decide
  h_S_ := by decide

/-- An extended real whose magnitude is below +∞ is real. -/
theorem real_of (x : Ideal .f32) (h : FloatOps.cmpf (F := Ideal) .olt (FloatOps.hostAbsf x) (Ideal.ofBits .f32 0x7F800000#32) = 1#1) :
    ∃ r : ℝ, x = ((r : EReal) : Ideal .f32) := by
  have z : Ideal.ofBits .f32 0x7F800000#32 = ⊤ := by simp [Ideal.ofBits, Ideal.ieee]
  rw [z] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

instance : Subsingleton S_.Idx := ⟨fun a b => funext fun i => i.elim0⟩

variable (a0 a1 a2 a3 : FVec Ideal S2x16384x1024 .f32)

theorem real0 (h : (fn (F := Ideal) a0 a1 a2 a3).1 = fun _ => 1#1) (i : S2x16384x1024.Idx) : ∃ r : ℝ, a0 i = ((r : EReal) : Ideal .f32) := by
  dsimp only [fn] at h
  exact real_of _ (Host.reduce_andi_all _ _ _ _ ix0 (congrFun h ix0) i)

theorem real1 (h : (fn (F := Ideal) a0 a1 a2 a3).2.1 = fun _ => 1#1) (i : S2x16384x1024.Idx) : ∃ r : ℝ, a1 i = ((r : EReal) : Ideal .f32) := by
  dsimp only [fn] at h
  exact real_of _ (Host.reduce_andi_all _ _ _ _ ix0 (congrFun h ix0) i)

theorem real2 (h : (fn (F := Ideal) a0 a1 a2 a3).2.2 = fun _ => 1#1) (i : S2x16384x1024.Idx) : ∃ r : ℝ, a2 i = ((r : EReal) : Ideal .f32) := by
  dsimp only [fn] at h
  exact real_of _ (Host.reduce_andi_all _ _ _ _ ix0 (congrFun h ix0) i)

end Cert.Pre_finite_sb

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Sb
public import proofs.«01_k».proof.Proof.Gen.SbIdeal
public import proofs.«01_k».proof.Proof.Gen.SbReferenceIdeal
public import proofs.«01_k».proof.Proof.Gen.SbReferenceIdeal.Run
public import proofs.«01_k».proof.Proof.Run
public import proofs.«01_k».proof.Proof.Word.Run
public import proofs.«01_k».proof.Proof.Value
public import proofs.«01_k».proof.Proof.Finite
public import proofs.«01_k».proof.Proof.Sb.Run
public import proofs.«01_k».proof.Proof.Sb.Word.Run
public import proofs.«01_k».proof.Proof.Sb.Value
public import proofs.«01_k».proof.Proof.Sb.Finite
public import Idealize.ShloMosaic.Adequacy
public import Idealize.ShloMosaic.Init
public import Idealize.ShloMosaic.Lib.Claim

@[expose] public section

noncomputable section

namespace Cert.Proof

open Idealize.ShloMosaic Idealize.SL.Sem

/-- The kernel on float words ends quiescent, its arguments unchanged. -/
theorem frame_p : Cert.quiescent_Kernel := fun m ρ _ => Cert.Kernel.Spec.quiet m ρ

/-- The kernel on extended reals ends quiescent, its arguments unchanged. -/
theorem frame_pi : Cert.quiescent_KernelIdeal := fun m ρ _ => Cert.KernelIdeal.Spec.quiet m ρ

/-- The reference on extended reals ends quiescent, its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's literal is named minus infinity. -/
theorem preserves : Cert.preserves_Kernel_KernelIdeal :=
  IdealRules.named_const.statement Cert.KernelIdeal.κ "mask" .f32 0xF149F2CA#32 ⊥ rfl

/-- From equal arguments, every query, key, value and vector of lambda a real, the kernel and the reference end with
    equal results. -/
theorem algebraic : Cert.algebraic_KernelIdeal_ReferenceIdeal_pre_finite := by
  intro m ρ m' ρ' hpre hagree
  have hv : ∀ c, (Cert.KernelIdeal.Spec.dats m 0 c).arrAt 6 (Cert.KernelIdeal.cfgs 0).N = Cert.KernelIdeal.Spec.refOut m c := fun c =>
    Cert.KernelIdeal.Spec.out_arr m c (Cert.Pre_finite.real0 _ _ _ _ _ _ (hpre c).1) (Cert.Pre_finite.real1 _ _ _ _ _ _ (hpre c).2.1)
      (Cert.Pre_finite.real2 _ _ _ _ _ _ (hpre c).2.2.1) (Cert.Pre_finite.real4 _ _ _ _ _ _ (hpre c).2.2.2)
  refine ⟨fun c => Cert.KernelIdeal.Spec.refOut m c, ?_, ?_⟩
  · refine (θ_run Cert.KernelIdeal.defs _ _).mono (fun r h c => ⟨?_, h.2.1 c⟩)
      (θ_run_and (Cert.KernelIdeal.Spec.run m ρ) (Cert.KernelIdeal.Spec.quiet m ρ))
    exact ((h.1 c).1 6).trans (hv c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    refine (Cert.ReferenceIdeal.Stages.res_eq m' c).trans ?_
    rw [e0, e1, e2, e3, e4, e5]
    rfl

/-- The stick-breaking kernel on float words ends quiescent, its arguments unchanged. -/
theorem frame_p2 : Cert.quiescent_Sb := fun m ρ _ => Cert.Sb.Spec.quiet m ρ

/-- The stick-breaking kernel on extended reals ends quiescent, its arguments unchanged. -/
theorem frame_pi2 : Cert.quiescent_SbIdeal := fun m ρ _ => Cert.SbIdeal.Spec.quiet m ρ

/-- The stick-breaking reference on extended reals ends quiescent, its arguments unchanged. -/
theorem frame_ri2 : Cert.quiescent_SbReferenceIdeal := fun m ρ _ =>
  (θ_run Cert.SbReferenceIdeal.defs _ _).mono (fun r h => ⟨fun c => (h c).2,
      Idealize.ShloMosaic.sem_eq_zero_of_no_sems (by decide) r.2⟩)
    (Cert.SbReferenceIdeal.Stages.run m ρ)

/-- The stick-breaking kernel's two constants are named the reciprocal of the natural logarithm of two and plus infinity. -/
theorem preserves2 : Cert.preserves_Sb_SbIdeal :=
  ⟨IdealRules.named_const.statement Cert.SbIdeal.κ "log2e" .f32 0x3FB8AA3B#32 (((Real.log 2)⁻¹ : ℝ) : EReal) rfl,
    IdealRules.named_const.statement Cert.SbIdeal.κ "zero_mass" .f32 0x43200000#32 ⊤ rfl⟩

/-- From equal arguments, every query, key and value a real, the stick-breaking kernel and its reference end with equal
    results. -/
theorem algebraic2 : Cert.algebraic_SbIdeal_SbReferenceIdeal_pre_finite_sb := by
  intro m ρ m' ρ' hpre hagree
  have hv : ∀ c, (Cert.SbIdeal.Spec.dats m 0 c).arrAt 4 (Cert.SbIdeal.cfgs (F := Ideal) 0).N = Cert.SbIdeal.Spec.refOut m c := fun c =>
    Cert.SbIdeal.Spec.out_arr m c (Cert.Pre_finite_sb.real0 _ _ _ _ (hpre c).1) (Cert.Pre_finite_sb.real1 _ _ _ _ (hpre c).2.1)
      (Cert.Pre_finite_sb.real2 _ _ _ _ (hpre c).2.2)
  refine ⟨fun c => Cert.SbIdeal.Spec.refOut m c, ?_, ?_⟩
  · refine (θ_run Cert.SbIdeal.defs _ _).mono (fun r h c => ⟨?_, h.2.1 c⟩)
      (θ_run_and (Cert.SbIdeal.Spec.run m ρ) (Cert.SbIdeal.Spec.quiet m ρ))
    exact ((h.1 c).1 4).trans (hv c)
  · refine (θ_run Cert.SbReferenceIdeal.defs _ _).mono (fun r h c => ⟨(h c).1.trans ?_, (h c).2⟩)
      (Cert.SbReferenceIdeal.Stages.run m' ρ')
    obtain ⟨e0, e1, e2, e3⟩ := hagree c
    rw [e0, e1, e2, e3]
    rfl

theorem claim : Cert.Claim :=
  ⟨Cert.Kernel.Gen.facts, Cert.KernelIdeal.Gen.facts, Cert.ReferenceIdeal.Gen.facts, Cert.Sb.Gen.facts, Cert.SbIdeal.Gen.facts,
    Cert.SbReferenceIdeal.Gen.facts, Cert.Pre_finite.facts, Cert.Pre_finite_sb.facts, frame_p, frame_pi,
    fun m ρ _ => Cert.KernelIdeal.Spec.quiet m ρ, frame_ri, fun m ρ _ => frame_ri m ρ trivial, frame_p2, frame_pi2,
    fun m ρ _ => Cert.SbIdeal.Spec.quiet m ρ, frame_ri2, fun m ρ _ => frame_ri2 m ρ trivial, preserves, algebraic, preserves2, algebraic2⟩

end Cert.Proof

end
